-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_codes_and_scale [hKernelIdeal : Cert.KernelIdeal.Facts] [hReferenceIdeal : Cert.ReferenceIdeal.Facts] [hOn_codes_and_scale : Cert.On_codes_and_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![20, 16, 5632]⟩ : Shape).Idx, (Cert.On_codes_and_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v6_0) i = v0 c i)
          ∧ (∀ i : (⟨4, ![16, 20, 64, 5632]⟩ : Shape).Idx, (Cert.On_codes_and_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v6_1) i = v1 c i)
          ∧ (∀ i : (⟨3, ![20, 16, 5632]⟩ : Shape).Idx, (Cert.On_codes_and_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v6_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![20, 16, 5632]⟩ : Shape).Idx, (Cert.On_codes_and_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v53) i = v0 c i)
          ∧ (∀ i : (⟨4, ![16, 20, 64, 5632]⟩ : Shape).Idx, (Cert.On_codes_and_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v54) i = v1 c i)
          ∧ (∀ i : (⟨3, ![20, 16, 5632]⟩ : Shape).Idx, (Cert.On_codes_and_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v55) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts) (hOn_codes_and_scale : Cert.On_codes_and_scale.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_codes_and_scale (hKernelIdeal := hKernelIdeal) (hReferenceIdeal := hReferenceIdeal) (hOn_codes_and_scale := hOn_codes_and_scale)
    ∧ algebraic_KernelIdeal_ReferenceIdeal_pre_finite (hKernelIdeal := hKernelIdeal) (hReferenceIdeal := hReferenceIdeal) (hPre_finite := hPre_finite)
-- ==== On_codes_and_scale.lean ====
abbrev S1x256x2048 : Shape := ⟨3, ![1, 256, 2048]⟩
abbrev S2048x5632 : Shape := ⟨2, ![2048, 5632]⟩
abbrev S_ : Shape := ⟨0, ![]⟩
abbrev S20x16x5632 : Shape := ⟨3, ![20, 16, 5632]⟩
abbrev S16x20x64x5632 : Shape := ⟨4, ![16, 20, 64, 5632]⟩

class Facts : Prop where
  bcast_S_S20x16x5632 : S_.BroadcastsInDim S20x16x5632 (![] : Fin 0 → Fin S20x16x5632.rank)
  bcast_S_S16x20x64x5632 : S_.BroadcastsInDim S16x20x64x5632 (![] : Fin 0 → Fin S16x20x64x5632.rank)

variable [Facts]

def fn {F : FTy → Type} [FloatOps F] (main_arg0 : FVec F S1x256x2048 .bf16) (main_arg1 : FVec F S2048x5632 .bf16) : IVec S20x16x5632 1 × IVec S16x20x64x5632 1 × IVec S20x16x5632 1 :=
  let main_c : IVec S_ 1 := constantI S_ 1 0#1
  let main_v0 : IVec S20x16x5632 1 := broadcastInDim S20x16x5632 ![] bcast_S_S20x16x5632 main_c
  let main_c_0 : IVec S_ 1 := constantI S_ 1 1#1
  let main_v1 : IVec S16x20x64x5632 1 := broadcastInDim S16x20x64x5632 ![] bcast_S_S16x20x64x5632 main_c_0
  let main_c_1 : IVec S_ 1 := constantI S_ 1 1#1
  let main_v2 : IVec S20x16x5632 1 := broadcastInDim S20x16x5632 ![] bcast_S_S20x16x5632 main_c_1
  (main_v0, main_v1, main_v2)
-- ==== Pre_finite.lean ====
abbrev S1x256x2048 : Shape := ⟨3, ![1, 256, 2048]⟩
abbrev S2048x5632 : Shape := ⟨2, ![2048, 5632]⟩
abbrev S_ : Shape := ⟨0, ![]⟩

class Facts : Prop where
  bcast_S_S1x256x2048 : S_.BroadcastsInDim S1x256x2048 (![] : Fin 0 → Fin S1x256x2048.rank)
  bcast_S_S2048x5632 : S_.BroadcastsInDim S2048x5632 (![] : Fin 0 → Fin S2048x5632.rank)

variable [Facts]

def fn {F : FTy → Type} [FloatOps F] (main_arg0 : FVec F S1x256x2048 .bf16) (main_arg1 : FVec F S2048x5632 .bf16) : IVec S1x256x2048 1 × IVec S2048x5632 1 :=
  let main_v0 : FVec F S1x256x2048 .bf16 := Host.absf main_arg0
  let main_cst : FVec F S_ .bf16 := constant S_ .bf16 0x7F80#16
  let main_v1 : FVec F S1x256x2048 .bf16 := broadcastInDim S1x256x2048 ![] bcast_S_S1x256x2048 main_cst
  let main_v2 : IVec S1x256x2048 1 := cmpf .olt main_v0 main_v1
  let main_v3 : FVec F S2048x5632 .bf16 := Host.absf main_arg1
  let main_cst_0 : FVec F S_ .bf16 := constant S_ .bf16 0x7F80#16
  let main_v4 : FVec F S2048x5632 .bf16 := broadcastInDim S2048x5632 ![] bcast_S_S2048x5632 main_cst_0
  let main_v5 : IVec S2048x5632 1 := cmpf .olt main_v3 main_v4
  (main_v2, main_v5)
-- ==== Kernel.lean ====
abbrev S1x256x2048 : Shape := ⟨3, ![1, 256, 2048]⟩
abbrev S2048x5632 : Shape := ⟨2, ![2048, 5632]⟩
abbrev S32x256 : Shape := ⟨2, ![32, 256]⟩
abbrev S256x2048 : Shape := ⟨2, ![256, 2048]⟩
abbrev S20 : Shape := ⟨1, ![20]⟩
abbrev S_ : Shape := ⟨0, ![]⟩
abbrev S20x16x5632 : Shape := ⟨3, ![20, 16, 5632]⟩
abbrev S16x20x64x5632 : Shape := ⟨4, ![16, 20, 64, 5632]⟩
abbrev S256x128 : Shape := ⟨2, ![256, 128]⟩
abbrev S128x512 : Shape := ⟨2, ![128, 512]⟩
abbrev S20x16x512 : Shape := ⟨3, ![20, 16, 512]⟩
abbrev S1x20x64x512 : Shape := ⟨4, ![1, 20, 64, 512]⟩
abbrev S16x20x160x256 : Shape := ⟨4, ![16, 20, 160, 256]⟩
abbrev S16x10x16x256 : Shape := ⟨4, ![16, 10, 16, 256]⟩
abbrev S16x128x384 : Shape := ⟨3, ![16, 128, 384]⟩
abbrev S16x512 : Shape := ⟨2, ![16, 512]⟩
abbrev S20x128x512 : Shape := ⟨3, ![20, 128, 512]⟩
abbrev S128x256 : Shape := ⟨2, ![128, 256]⟩
abbrev S128x128 : Shape := ⟨2, ![128, 128]⟩
abbrev S1x128x128 : Shape := ⟨3, ![1, 128, 128]⟩
abbrev S8x128 : Shape := ⟨2, ![8, 128]⟩
abbrev S1 : Shape := ⟨1, ![1]⟩
abbrev S1x1x128x128 : Shape := ⟨4, ![1, 1, 128, 128]⟩
abbrev S1x1x32x256 : Shape := ⟨4, ![1, 1, 32, 256]⟩
abbrev S128 : Shape := ⟨1, ![128]⟩
abbrev S1x128 : Shape := ⟨2, ![1, 128]⟩
abbrev S8x256 : Shape := ⟨2, ![8, 256]⟩
abbrev S16x256 : Shape := ⟨2, ![16, 256]⟩
abbrev S1x1x16x256 : Shape := ⟨4, ![1, 1, 16, 256]⟩
abbrev S256 : Shape := ⟨1, ![256]⟩
abbrev S1x256 : Shape := ⟨2, ![1, 256]⟩
abbrev S1x128x256 : Shape := ⟨3, ![1, 128, 256]⟩
abbrev S256x256 : Shape := ⟨2, ![256, 256]⟩
abbrev S1x1x160x256 : Shape := ⟨4, ![1, 1, 160, 256]⟩
abbrev S160x256 : Shape := ⟨2, ![160, 256]⟩
abbrev S64x256 : Shape := ⟨2, ![64, 256]⟩
abbrev S1x1x64x256 : Shape := ⟨4, ![1, 1, 64, 256]⟩
abbrev S16x8x256 : Shape := ⟨3, ![16, 8, 256]⟩
abbrev S1x8x256 : Shape := ⟨3, ![1, 8, 256]⟩
abbrev S1x16x512 : Shape := ⟨3, ![1, 16, 512]⟩
abbrev S1x128x512 : Shape := ⟨3, ![1, 128, 512]⟩
abbrev S16x8x512 : Shape := ⟨3, ![16, 8, 512]⟩

abbrev nBuf : Space → Nat
  | .hbm => 14
  | .vmem => 19
  | .smem => 1
  | _ => 0

abbrev bufTy : (tb : Table) → Fin (tcTables nBuf tb) → BufTy
  | .hbm, ⟨0, _⟩ => ⟨S1x256x2048, .bf16⟩
  | .hbm, ⟨1, _⟩ => ⟨S2048x5632, .bf16⟩
  | .hbm, ⟨2, _⟩ => ⟨S32x256, .bf16⟩
  | .hbm, ⟨3, _⟩ => ⟨S256x2048, .bf16⟩
  | .hbm, ⟨4, _⟩ => ⟨S20, .f32⟩
  | .hbm, ⟨5, _⟩ => ⟨S_, .f32⟩
  | .hbm, ⟨6, _⟩ => ⟨S20, .f32⟩
  | .hbm, ⟨7, _⟩ => ⟨S20, .f32⟩
  | .hbm, ⟨8, _⟩ => ⟨S_, .f32⟩
  | .hbm, ⟨9, _⟩ => ⟨S20, .f32⟩
  | .hbm, ⟨10, _⟩ => ⟨S20, .f32⟩
  | .hbm, ⟨11, _⟩ => ⟨S20x16x5632, .f32⟩
  | .hbm, ⟨12, _⟩ => ⟨S16x20x64x5632, .i8⟩
  | .hbm, ⟨13, _⟩ => ⟨S20x16x5632, .f32⟩
  | .local _ .vmem, ⟨0, _⟩ => ⟨S256x128, .bf16⟩
  | .local _ .vmem, ⟨1, _⟩ => ⟨S256x128, .bf16⟩
  | .local _ .vmem, ⟨2, _⟩ => ⟨S32x256, .bf16⟩
  | .local _ .vmem, ⟨3, _⟩ => ⟨S128x512, .bf16⟩
  | .local _ .vmem, ⟨4, _⟩ => ⟨S128x512, .bf16⟩
  | .local _ .vmem, ⟨5, _⟩ => ⟨S20x16x512, .f32⟩
  | .local _ .vmem, ⟨6, _⟩ => ⟨S20x16x512, .f32⟩
  | .local _ .vmem, ⟨7, _⟩ => ⟨S1x20x64x512, .i8⟩
  | .local _ .vmem, ⟨8, _⟩ => ⟨S1x20x64x512, .i8⟩
  | .local _ .vmem, ⟨9, _⟩ => ⟨S20x16x512, .f32⟩
  | .local _ .vmem, ⟨10, _⟩ => ⟨S20x16x512, .f32⟩
  | .local _ .vmem, ⟨11, _⟩ => ⟨S16x20x160x256, .bf16⟩
  | .local _ .vmem, ⟨12, _⟩ => ⟨S16x10x16x256, .bf16⟩
  | .local _ .vmem, ⟨13, _⟩ => ⟨S16x128x384, .bf16⟩
  | .local _ .vmem, ⟨14, _⟩ => ⟨S16x512, .f32⟩
  | .local _ .vmem, ⟨15, _⟩ => ⟨S16x512, .f32⟩
  | .local _ .vmem, ⟨16, _⟩ => ⟨S20x128x512, .f32⟩
  | .local _ .vmem, ⟨17, _⟩ => ⟨S128x256, .f32⟩
  | .local _ .vmem, ⟨18, _⟩ => ⟨S128x256, .f32⟩
  | .local _ .smem, ⟨0, _⟩ => ⟨S20, .f32⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![11, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v23 : Index := Scalar.indexCast arg1
  let c0_6 : Index := 0#32
  let c0_7 : Index := 0#32
  ![v23.toNat, 0, 0]
def k0_off2 (i : grid0.Coords) : Fin 3 → Nat :=
  let arg1 : BitVec 32 := BitVec.ofNat 32 (i 1).val
  let v28 : Index := Scalar.indexCast arg1
  let c0_8 : Index := 0#32
  let c128 : Index := 128#32
  ![v28.toNat, 0, 128]
def k0_off3 (i : grid0.Coords) : Fin 3 → Nat :=
  let arg1 : BitVec 32 := BitVec.ofNat 32 (i 1).val
  let v33 : Index := Scalar.indexCast arg1
  let c0_9 : Index := 0#32
  let c256 : Index := 256#32
  ![v33.toNat, 0, 256]
@[reducible] def k0_t1_loop : Scf.Loop 32 :=
  let c0_i32_12 : BitVec 32 := 0#32
  let c10_i32 : BitVec 32 := 10#32
  let v41 : BitVec 32 := Scalar.addi c0_i32_12 c10_i32
  let c1_i32_13 : BitVec 32 := 1#32
  ⟨c0_i32_12, v41, c1_i32_13⟩
def k0_off4 (k0_t1 : Fin k0_t1_loop.trips) : Fin 1 → Nat :=
  let c2_i32_15 : BitVec 32 := 2#32
  let c0_i32_12 : BitVec 32 := 0#32
  let c1_i32_13 : BitVec 32 := 1#32
  let arg17 : BitVec 32 := Scf.iv c0_i32_12 c1_i32_13 k0_t1
  let v42 : BitVec 32 := Scalar.muli c2_i32_15 arg17
  let v43 : Index := Scalar.indexCast v42
  ![v43.toNat]
def k0_off5 (i : grid0.Coords) (k0_t1 : Fin k0_t1_loop.trips) : Fin 4 → Nat :=
  let arg1 : BitVec 32 := BitVec.ofNat 32 (i 1).val
  let v71 : Index := Scalar.indexCast arg1
  let c2_i32_15 : BitVec 32 := 2#32
  let c0_i32_12 : BitVec 32 := 0#32
  let c1_i32_13 : BitVec 32 := 1#32
  let arg17 : BitVec 32 := Scf.iv c0_i32_12 c1_i32_13 k0_t1
  let v42 : BitVec 32 := Scalar.muli c2_i32_15 arg17
  let v72 : Index := Scalar.indexCast v42
  let c0_20 : Index := 0#32
  let c0_21 : Index := 0#32
  ![v71.toNat, v72.toNat, 0, 0]
def k0_off6 (i : grid0.Coords) (k0_t1 : Fin k0_t1_loop.trips) : Fin 4 → Nat :=
  let arg1 : BitVec 32 := BitVec.ofNat 32 (i 1).val
  let v77 : Index := Scalar.indexCast arg1
  let c2_i32_15 : BitVec 32 := 2#32
  let c0_i32_12 : BitVec 32 := 0#32
  let c1_i32_13 : BitVec 32 := 1#32
  let arg17 : BitVec 32 := Scf.iv c0_i32_12 c1_i32_13 k0_t1
  let v42 : BitVec 32 := Scalar.muli c2_i32_15 arg17
  let v78 : Index := Scalar.indexCast v42
  let c0_22 : Index := 0#32
  let c128_23 : Index := 128#32
  ![v77.toNat, v78.toNat, 0, 128]
def k0_off7 (i : grid0.Coords) (k0_t1 : Fin k0_t1_loop.trips) : Fin 4 → Nat :=
  let arg1 : BitVec 32 := BitVec.ofNat 32 (i 1).val
  let v83 : Index := Scalar.indexCast arg1
  let c2_i32_15 : BitVec 32 := 2#32
  let c0_i32_12 : BitVec 32 := 0#32
  let c1_i32_13 : BitVec 32 := 1#32
  let arg17 : BitVec 32 := Scf.iv c0_i32_12 c1_i32_13 k0_t1
  let v42 : BitVec 32 := Scalar.muli c2_i32_15 arg17
  let v84 : Index := Scalar.indexCast v42
  let c128_26 : Index := 128#32
  let c0_27 : Index := 0#32
  ![v83.toNat, v84.toNat, 128, 0]
def k0_off8 (k0_t1 : Fin k0_t1_loop.trips) : Fin 1 → Nat :=
  let c2_i32_31 : BitVec 32 := 2#32
  let c0_i32_12 : BitVec 32 := 0#32
  let c1_i32_13 : BitVec 32 := 1#32
  let arg17 : BitVec 32 := Scf.iv c0_i32_12 c1_i32_13 k0_t1
  let v97 : BitVec 32 := Scalar.muli c2_i32_31 arg17
  let c1_i32_32 : BitVec 32 := 1#32
  let v98 : BitVec 32 := Scalar.addi v97 c1_i32_32
  let v99 : Index := Scalar.indexCast v98
  ![v99.toNat]
def k0_off9 (i : grid0.Coords) (k0_t1 : Fin k0_t1_loop.trips) : Fin 4 → Nat :=
  let arg1 : BitVec 32 := BitVec.ofNat 32 (i 1).val
  let v127 : Index := Scalar.indexCast arg1
  let c2_i32_31 : BitVec 32 := 2#32
  let c0_i32_12 : BitVec 32 := 0#32
  let c1_i32_13 : BitVec 32 := 1#32
  let arg17 : BitVec 32 := Scf.iv c0_i32_12 c1_i32_13 k0_t1
  let v97 : BitVec 32 := Scalar.muli c2_i32_31 arg17
  let c1_i32_32 : BitVec 32 := 1#32
  let v98 : BitVec 32 := Scalar.addi v97 c1_i32_32
  let v128 : Index := Scalar.indexCast v98
  let c0_37 : Index := 0#32
  let c0_38 : Index := 0#32
  ![v127.toNat, v128.toNat, 0, 0]
def k0_off10 (i : grid0.Coords) (k0_t1 : Fin k0_t1_loop.trips) : Fin 4 → Nat :=
  let arg1 : BitVec 32 := BitVec.ofNat 32 (i 1).val
  let v133 : Index := Scalar.indexCast arg1
  let c2_i32_31 : BitVec 32 := 2#32
  let c0_i32_12 : BitVec 32 := 0#32
  let c1_i32_13 : BitVec 32 := 1#32
  let arg17 : BitVec 32 := Scf.iv c0_i32_12 c1_i32_13 k0_t1
  let v97 : BitVec 32 := Scalar.muli c2_i32_31 arg17
  let c1_i32_32 : BitVec 32 := 1#32
  let v98 : BitVec 32 := Scalar.addi v97 c1_i32_32
  let v134 : Index := Scalar.indexCast v98
  let c0_39 : Index := 0#32
  let c128_40 : Index := 128#32
  ![v133.toNat, v134.toNat, 0, 128]
def k0_off11 (i : grid0.Coords) (k0_t1 : Fin k0_t1_loop.trips) : Fin 4 → Nat :=
  let arg1 : BitVec 32 := BitVec.ofNat 32 (i 1).val
  let v139 : Index := Scalar.indexCast arg1
  let c2_i32_31 : BitVec 32 := 2#32
  let c0_i32_12 : BitVec 32 := 0#32
  let c1_i32_13 : BitVec 32 := 1#32
  let arg17 : BitVec 32 := Scf.iv c0_i32_12 c1_i32_13 k0_t1
  let v97 : BitVec 32 := Scalar.muli c2_i32_31 arg17
  let c1_i32_32 : BitVec 32 := 1#32
  let v98 : BitVec 32 := Scalar.addi v97 c1_i32_32
  let v140 : Index := Scalar.indexCast v98
  let c128_43 : Index := 128#32
  let c0_44 : Index := 0#32
  ![v139.toNat, v140.toNat, 128, 0]
def k0_off12 (i : grid0.Coords) (k0_t1 : Fin k0_t1_loop.trips) : Fin 4 → Nat :=
  let arg1 : BitVec 32 := BitVec.ofNat 32 (i 1).val
  let v157 : Index := Scalar.indexCast arg1
  let c0_i32_12 : BitVec 32 := 0#32
  let c1_i32_13 : BitVec 32 := 1#32
  let arg17 : BitVec 32 := Scf.iv c0_i32_12 c1_i32_13 k0_t1
  let v158 : Index := Scalar.indexCast arg17
  let c0_48 : Index := 0#32
  let c0_49 : Index := 0#32
  ![v157.toNat, v158.toNat, 0, 0]
@[reducible] def k0_t2_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t2 : Fin k0_t2_loop.trips) : BitVec 32 :=
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  v7
def k0_off13 (k0_t2 : Fin k0_t2_loop.trips) : Fin 2 → Nat :=
  let c0 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v9 : Index := Scalar.indexCast v8
  ![0, v9.toNat]
def k0_off14 (i : grid0.Coords) (k0_t2 : Fin k0_t2_loop.trips) : Fin 2 → Nat :=
  let arg1 : BitVec 32 := BitVec.ofNat 32 (i 1).val
  let v18 : Index := Scalar.indexCast arg1
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v19 : Index := Scalar.indexCast v8
  ![v18.toNat, v19.toNat]
def k0_off15 (i : grid0.Coords) : Fin 3 → Nat :=
  let arg1 : BitVec 32 := BitVec.ofNat 32 (i 1).val
  let v29 : Index := Scalar.indexCast arg1
  let c0_9 : Index := 0#32
  let c0_10 : Index := 0#32
  ![v29.toNat, 0, 0]
def k0_off16 (i : grid0.Coords) : Fin 3 → Nat :=
  let arg1 : BitVec 32 := BitVec.ofNat 32 (i 1).val
  let v34 : Index := Scalar.indexCast arg1
  let c0_12 : Index := 0#32
  let c256 : Index := 256#32
  ![v34.toNat, 0, 256]
def k0_off17 (i : grid0.Coords) : Fin 4 → Nat :=
  let arg1 : BitVec 32 := BitVec.ofNat 32 (i 1).val
  let v92 : Index := Scalar.indexCast arg1
  let c0_33 : Index := 0#32
  let c0_34 : Index := 0#32
  let c0_35 : Index := 0#32
  ![v92.toNat, 0, 0, 0]
def k0_mult2 (i : grid0.Coords) : BitVec 32 :=
  let arg1 : BitVec 32 := BitVec.ofNat 32 (i 1).val
  let c8_i32 : BitVec 32 := 8#32
  let v99 : BitVec 32 := Scalar.muli arg1 c8_i32
  v99
def k0_off18 (i : grid0.Coords) : Fin 4 → Nat :=
  let arg1 : BitVec 32 := BitVec.ofNat 32 (i 1).val
  let v101 : Index := Scalar.indexCast arg1
  let c0_37 : Index := 0#32
  let c0_38 : Index := 0#32
  let c0_39 : Index := 0#32
  ![v101.toNat, 0, 0, 0]
def k0_off19 (k0_t2 : Fin k0_t2_loop.trips) : Fin 4 → Nat :=
  let c0_42 : Index := 0#32
  let c0_43 : Index := 0#32
  let c0_44 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v116 : Index := Scalar.indexCast v8
  ![0, 0, 0, v116.toNat]
def k0_off20 (i : grid0.Coords) (k0_t2 : Fin k0_t2_loop.trips) : Fin 3 → Nat :=
  let c0_48 : Index := 0#32
  let arg1 : BitVec 32 := BitVec.ofNat 32 (i 1).val
  let c8_i32 : BitVec 32 := 8#32
  let v99 : BitVec 32 := Scalar.muli arg1 c8_i32
  let v100 : BitVec 32 := v99
  let v128 : Index := Scalar.indexCast v100
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v129 : Index := Scalar.indexCast v8
  ![0, v128.toNat, v129.toNat]
def k0_off21 (i : grid0.Coords) : Fin 4 → Nat :=
  let arg1 : BitVec 32 := BitVec.ofNat 32 (i 1).val
  let v133 : Index := Scalar.indexCast arg1
  let c1_49 : Index := 1#32
  let c0_50 : Index := 0#32
  let c0_51 : Index := 0#32
  ![v133.toNat, 1, 0, 0]
def k0_off22 (k0_t2 : Fin k0_t2_loop.trips) : Fin 4 → Nat :=
  let c0_55 : Index := 0#32
  let c1_56 : Index := 1#32
  let c0_57 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v148 : Index := Scalar.indexCast v8
  ![0, 1, 0, v148.toNat]
def k0_off23 (i : grid0.Coords) (k0_t2 : Fin k0_t2_loop.trips) : Fin 3 → Nat :=
  let c1_61 : Index := 1#32
  let arg1 : BitVec 32 := BitVec.ofNat 32 (i 1).val
  let c8_i32 : BitVec 32 := 8#32
  let v99 : BitVec 32 := Scalar.muli arg1 c8_i32
  let v100 : BitVec 32 := v99
  let v160 : Index := Scalar.indexCast v100
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v161 : Index := Scalar.indexCast v8
  ![1, v160.toNat, v161.toNat]
def k0_off24 (i : grid0.Coords) : Fin 4 → Nat :=
  let arg1 : BitVec 32 := BitVec.ofNat 32 (i 1).val
  let v201 : Index := Scalar.indexCast arg1
  let c1_76 : Index := 1#32
  let c0_77 : Index := 0#32
  let c0_78 : Index := 0#32
  ![v201.toNat, 1, 0, 0]
def k0_mult3 (i : grid0.Coords) : BitVec 32 :=
  let arg1 : BitVec 32 := BitVec.ofNat 32 (i 1).val
  let c8_i32_80 : BitVec 32 := 8#32
  let v208 : BitVec 32 := Scalar.muli arg1 c8_i32_80
  v208
def k0_off25 (i : grid0.Coords) : Fin 4 → Nat :=
  let arg1 : BitVec 32 := BitVec.ofNat 32 (i 1).val
  let v210 : Index := Scalar.indexCast arg1
  let c2_81 : Index := 2#32
  let c0_82 : Index := 0#32
  let c0_83 : Index := 0#32
  ![v210.toNat, 2, 0, 0]
def k0_off26 (k0_t2 : Fin k0_t2_loop.trips) : Fin 4 → Nat :=
  let c0_87 : Index := 0#32
  let c2_88 : Index := 2#32
  let c0_89 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v225 : Index := Scalar.indexCast v8
  ![0, 2, 0, v225.toNat]
def k0_off27 (i : grid0.Coords) (k0_t2 : Fin k0_t2_loop.trips) : Fin 3 → Nat :=
  let c2_93 : Index := 2#32
  let arg1 : BitVec 32 := BitVec.ofNat 32 (i 1).val
  let c8_i32_80 : BitVec 32 := 8#32
  let v208 : BitVec 32 := Scalar.muli arg1 c8_i32_80
  let v209 : BitVec 32 := v208
  let v237 : Index := Scalar.indexCast v209
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v238 : Index := Scalar.indexCast v8
  ![2, v237.toNat, v238.toNat]
def k0_off28 (i : grid0.Coords) : Fin 4 → Nat :=
  let arg1 : BitVec 32 := BitVec.ofNat 32 (i 1).val
  let v242 : Index := Scalar.indexCast arg1
  let c3_94 : Index := 3#32
  let c0_95 : Index := 0#32
  let c0_96 : Index := 0#32
  ![v242.toNat, 3, 0, 0]
def k0_off29 (k0_t2 : Fin k0_t2_loop.trips) : Fin 4 → Nat :=
  let c0_100 : Index := 0#32
  let c3_101 : Index := 3#32
  let c0_102 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v257 : Index := Scalar.indexCast v8
  ![0, 3, 0, v257.toNat]
def k0_off30 (i : grid0.Coords) (k0_t2 : Fin k0_t2_loop.trips) : Fin 3 → Nat :=
  let c3_106 : Index := 3#32
  let arg1 : BitVec 32 := BitVec.ofNat 32 (i 1).val
  let c8_i32_80 : BitVec 32 := 8#32
  let v208 : BitVec 32 := Scalar.muli arg1 c8_i32_80
  let v209 : BitVec 32 := v208
  let v269 : Index := Scalar.indexCast v209
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v270 : Index := Scalar.indexCast v8
  ![3, v269.toNat, v270.toNat]
def k0_off31 (i : grid0.Coords) : Fin 4 → Nat :=
  let arg1 : BitVec 32 := BitVec.ofNat 32 (i 1).val
  let v310 : Index := Scalar.indexCast arg1
  let c2_121 : Index := 2#32
  let c0_122 : Index := 0#32
  let c0_123 : Index := 0#32
  ![v310.toNat, 2, 0, 0]
def k0_mult4 (i : grid0.Coords) : BitVec 32 :=
  let arg1 : BitVec 32 := BitVec.ofNat 32 (i 1).val
  let c8_i32_125 : BitVec 32 := 8#32
  let v317 : BitVec 32 := Scalar.muli arg1 c8_i32_125
  v317
def k0_off32 (i : grid0.Coords) : Fin 4 → Nat :=
  let arg1 : BitVec 32 := BitVec.ofNat 32 (i 1).val
  let v319 : Index := Scalar.indexCast arg1
  let c4_126 : Index := 4#32
  let c0_127 : Index := 0#32
  let c0_128 : Index := 0#32
  ![v319.toNat, 4, 0, 0]
def k0_off33 (k0_t2 : Fin k0_t2_loop.trips) : Fin 4 → Nat :=
  let c0_132 : Index := 0#32
  let c4_133 : Index := 4#32
  let c0_134 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v334 : Index := Scalar.indexCast v8
  ![0, 4, 0, v334.toNat]
def k0_off34 (i : grid0.Coords) (k0_t2 : Fin k0_t2_loop.trips) : Fin 3 → Nat :=
  let c4_138 : Index := 4#32
  let arg1 : BitVec 32 := BitVec.ofNat 32 (i 1).val
  let c8_i32_125 : BitVec 32 := 8#32
  let v317 : BitVec 32 := Scalar.muli arg1 c8_i32_125
  let v318 : BitVec 32 := v317
  let v346 : Index := Scalar.indexCast v318
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v347 : Index := Scalar.indexCast v8
  ![4, v346.toNat, v347.toNat]
def k0_off35 (i : grid0.Coords) : Fin 4 → Nat :=
  let arg1 : BitVec 32 := BitVec.ofNat 32 (i 1).val
  let v351 : Index := Scalar.indexCast arg1
  let c5_139 : Index := 5#32
  let c0_140 : Index := 0#32
  let c0_141 : Index := 0#32
  ![v351.toNat, 5, 0, 0]
def k0_off36 (k0_t2 : Fin k0_t2_loop.trips) : Fin 4 → Nat :=
  let c0_145 : Index := 0#32
  let c5_146 : Index := 5#32
  let c0_147 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v366 : Index := Scalar.indexCast v8
  ![0, 5, 0, v366.toNat]
def k0_off37 (i : grid0.Coords) (k0_t2 : Fin k0_t2_loop.trips) : Fin 3 → Nat :=
  let c5_151 : Index := 5#32
  let arg1 : BitVec 32 := BitVec.ofNat 32 (i 1).val
  let c8_i32_125 : BitVec 32 := 8#32
  let v317 : BitVec 32 := Scalar.muli arg1 c8_i32_125
  let v318 : BitVec 32 := v317
  let v378 : Index := Scalar.indexCast v318
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v379 : Index := Scalar.indexCast v8
  ![5, v378.toNat, v379.toNat]
def k0_off38 (i : grid0.Coords) : Fin 4 → Nat :=
  let arg1 : BitVec 32 := BitVec.ofNat 32 (i 1).val
  let v419 : Index := Scalar.indexCast arg1
  let c3_166 : Index := 3#32
  let c0_167 : Index := 0#32
  let c0_168 : Index := 0#32
  ![v419.toNat, 3, 0, 0]
def k0_mult5 (i : grid0.Coords) : BitVec 32 :=
  let arg1 : BitVec 32 := BitVec.ofNat 32 (i 1).val
  let c8_i32_170 : BitVec 32 := 8#32
  let v426 : BitVec 32 := Scalar.muli arg1 c8_i32_170
  v426
def k0_off39 (i : grid0.Coords) : Fin 4 → Nat :=
  let arg1 : BitVec 32 := BitVec.ofNat 32 (i 1).val
  let v428 : Index := Scalar.indexCast arg1
  let c6_171 : Index := 6#32
  let c0_172 : Index := 0#32
  let c0_173 : Index := 0#32
  ![v428.toNat, 6, 0, 0]
def k0_off40 (k0_t2 : Fin k0_t2_loop.trips) : Fin 4 → Nat :=
  let c0_177 : Index := 0#32
  let c6_178 : Index := 6#32
  let c0_179 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v443 : Index := Scalar.indexCast v8
  ![0, 6, 0, v443.toNat]
def k0_off41 (i : grid0.Coords) (k0_t2 : Fin k0_t2_loop.trips) : Fin 3 → Nat :=
  let c6_183 : Index := 6#32
  let arg1 : BitVec 32 := BitVec.ofNat 32 (i 1).val
  let c8_i32_170 : BitVec 32 := 8#32
  let v426 : BitVec 32 := Scalar.muli arg1 c8_i32_170
  let v427 : BitVec 32 := v426
  let v455 : Index := Scalar.indexCast v427
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v456 : Index := Scalar.indexCast v8
  ![6, v455.toNat, v456.toNat]
def k0_off42 (i : grid0.Coords) : Fin 4 → Nat :=
  let arg1 : BitVec 32 := BitVec.ofNat 32 (i 1).val
  let v460 : Index := Scalar.indexCast arg1
  let c7_184 : Index := 7#32
  let c0_185 : Index := 0#32
  let c0_186 : Index := 0#32
  ![v460.toNat, 7, 0, 0]
def k0_off43 (k0_t2 : Fin k0_t2_loop.trips) : Fin 4 → Nat :=
  let c0_190 : Index := 0#32
  let c7_191 : Index := 7#32
  let c0_192 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v475 : Index := Scalar.indexCast v8
  ![0, 7, 0, v475.toNat]
def k0_off44 (i : grid0.Coords) (k0_t2 : Fin k0_t2_loop.trips) : Fin 3 → Nat :=
  let c7_196 : Index := 7#32
  let arg1 : BitVec 32 := BitVec.ofNat 32 (i 1).val
  let c8_i32_170 : BitVec 32 := 8#32
  let v426 : BitVec 32 := Scalar.muli arg1 c8_i32_170
  let v427 : BitVec 32 := v426
  let v487 : Index := Scalar.indexCast v427
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v488 : Index := Scalar.indexCast v8
  ![7, v487.toNat, v488.toNat]
def k0_off45 (i : grid0.Coords) : Fin 4 → Nat :=
  let arg1 : BitVec 32 := BitVec.ofNat 32 (i 1).val
  let v528 : Index := Scalar.indexCast arg1
  let c4_211 : Index := 4#32
  let c0_212 : Index := 0#32
  let c0_213 : Index := 0#32
  ![v528.toNat, 4, 0, 0]
def k0_mult6 (i : grid0.Coords) : BitVec 32 :=
  let arg1 : BitVec 32 := BitVec.ofNat 32 (i 1).val
  let c8_i32_215 : BitVec 32 := 8#32
  let v535 : BitVec 32 := Scalar.muli arg1 c8_i32_215
  v535
def k0_off46 (i : grid0.Coords) : Fin 4 → Nat :=
  let arg1 : BitVec 32 := BitVec.ofNat 32 (i 1).val
  let v537 : Index := Scalar.indexCast arg1
  let c8_216 : Index := 8#32
  let c0_217 : Index := 0#32
  let c0_218 : Index := 0#32
  ![v537.toNat, 8, 0, 0]
def k0_off47 (k0_t2 : Fin k0_t2_loop.trips) : Fin 4 → Nat :=
  let c0_222 : Index := 0#32
  let c8_223 : Index := 8#32
  let c0_224 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v552 : Index := Scalar.indexCast v8
  ![0, 8, 0, v552.toNat]
def k0_off48 (i : grid0.Coords) (k0_t2 : Fin k0_t2_loop.trips) : Fin 3 → Nat :=
  let c8_228 : Index := 8#32
  let arg1 : BitVec 32 := BitVec.ofNat 32 (i 1).val
  let c8_i32_215 : BitVec 32 := 8#32
  let v535 : BitVec 32 := Scalar.muli arg1 c8_i32_215
  let v536 : BitVec 32 := v535
  let v564 : Index := Scalar.indexCast v536
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v565 : Index := Scalar.indexCast v8
  ![8, v564.toNat, v565.toNat]
def k0_off49 (i : grid0.Coords) : Fin 4 → Nat :=
  let arg1 : BitVec 32 := BitVec.ofNat 32 (i 1).val
  let v569 : Index := Scalar.indexCast arg1
  let c9_229 : Index := 9#32
  let c0_230 : Index := 0#32
  let c0_231 : Index := 0#32
  ![v569.toNat, 9, 0, 0]
def k0_off50 (k0_t2 : Fin k0_t2_loop.trips) : Fin 4 → Nat :=
  let c0_235 : Index := 0#32
  let c9_236 : Index := 9#32
  let c0_237 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v584 : Index := Scalar.indexCast v8
  ![0, 9, 0, v584.toNat]
def k0_off51 (i : grid0.Coords) (k0_t2 : Fin k0_t2_loop.trips) : Fin 3 → Nat :=
  let c9_241 : Index := 9#32
  let arg1 : BitVec 32 := BitVec.ofNat 32 (i 1).val
  let c8_i32_215 : BitVec 32 := 8#32
  let v535 : BitVec 32 := Scalar.muli arg1 c8_i32_215
  let v536 : BitVec 32 := v535
  let v596 : Index := Scalar.indexCast v536
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v597 : Index := Scalar.indexCast v8
  ![9, v596.toNat, v597.toNat]
def k0_off52 (i : grid0.Coords) : Fin 4 → Nat :=
  let arg1 : BitVec 32 := BitVec.ofNat 32 (i 1).val
  let v637 : Index := Scalar.indexCast arg1
  let c5_256 : Index := 5#32
  let c0_257 : Index := 0#32
  let c0_258 : Index := 0#32
  ![v637.toNat, 5, 0, 0]
def k0_mult7 (i : grid0.Coords) : BitVec 32 :=
  let arg1 : BitVec 32 := BitVec.ofNat 32 (i 1).val
  let c8_i32_260 : BitVec 32 := 8#32
  let v644 : BitVec 32 := Scalar.muli arg1 c8_i32_260
  v644
def k0_off53 (i : grid0.Coords) : Fin 4 → Nat :=
  let arg1 : BitVec 32 := BitVec.ofNat 32 (i 1).val
  let v646 : Index := Scalar.indexCast arg1
  let c10_261 : Index := 10#32
  let c0_262 : Index := 0#32
  let c0_263 : Index := 0#32
  ![v646.toNat, 10, 0, 0]
def k0_off54 (k0_t2 : Fin k0_t2_loop.trips) : Fin 4 → Nat :=
  let c0_267 : Index := 0#32
  let c10_268 : Index := 10#32
  let c0_269 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v661 : Index := Scalar.indexCast v8
  ![0, 10, 0, v661.toNat]
def k0_off55 (i : grid0.Coords) (k0_t2 : Fin k0_t2_loop.trips) : Fin 3 → Nat :=
  let c10_273 : Index := 10#32
  let arg1 : BitVec 32 := BitVec.ofNat 32 (i 1).val
  let c8_i32_260 : BitVec 32 := 8#32
  let v644 : BitVec 32 := Scalar.muli arg1 c8_i32_260
  let v645 : BitVec 32 := v644
  let v673 : Index := Scalar.indexCast v645
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v674 : Index := Scalar.indexCast v8
  ![10, v673.toNat, v674.toNat]
def k0_off56 (i : grid0.Coords) : Fin 4 → Nat :=
  let arg1 : BitVec 32 := BitVec.ofNat 32 (i 1).val
  let v678 : Index := Scalar.indexCast arg1
  let c11_274 : Index := 11#32
  let c0_275 : Index := 0#32
  let c0_276 : Index := 0#32
  ![v678.toNat, 11, 0, 0]
def k0_off57 (k0_t2 : Fin k0_t2_loop.trips) : Fin 4 → Nat :=
  let c0_280 : Index := 0#32
  let c11_281 : Index := 11#32
  let c0_282 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v693 : Index := Scalar.indexCast v8
  ![0, 11, 0, v693.toNat]
def k0_off58 (i : grid0.Coords) (k0_t2 : Fin k0_t2_loop.trips) : Fin 3 → Nat :=
  let c11_286 : Index := 11#32
  let arg1 : BitVec 32 := BitVec.ofNat 32 (i 1).val
  let c8_i32_260 : BitVec 32 := 8#32
  let v644 : BitVec 32 := Scalar.muli arg1 c8_i32_260
  let v645 : BitVec 32 := v644
  let v705 : Index := Scalar.indexCast v645
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v706 : Index := Scalar.indexCast v8
  ![11, v705.toNat, v706.toNat]
def k0_off59 (i : grid0.Coords) : Fin 4 → Nat :=
  let arg1 : BitVec 32 := BitVec.ofNat 32 (i 1).val
  let v746 : Index := Scalar.indexCast arg1
  let c6_301 : Index := 6#32
  let c0_302 : Index := 0#32
  let c0_303 : Index := 0#32
  ![v746.toNat, 6, 0, 0]
def k0_mult8 (i : grid0.Coords) : BitVec 32 :=
  let arg1 : BitVec 32 := BitVec.ofNat 32 (i 1).val
  let c8_i32_305 : BitVec 32 := 8#32
  let v753 : BitVec 32 := Scalar.muli arg1 c8_i32_305
  v753
def k0_off60 (i : grid0.Coords) : Fin 4 → Nat :=
  let arg1 : BitVec 32 := BitVec.ofNat 32 (i 1).val
  let v755 : Index := Scalar.indexCast arg1
  let c12_306 : Index := 12#32
  let c0_307 : Index := 0#32
  let c0_308 : Index := 0#32
  ![v755.toNat, 12, 0, 0]
def k0_off61 (k0_t2 : Fin k0_t2_loop.trips) : Fin 4 → Nat :=
  let c0_312 : Index := 0#32
  let c12_313 : Index := 12#32
  let c0_314 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v770 : Index := Scalar.indexCast v8
  ![0, 12, 0, v770.toNat]
def k0_off62 (i : grid0.Coords) (k0_t2 : Fin k0_t2_loop.trips) : Fin 3 → Nat :=
  let c12_318 : Index := 12#32
  let arg1 : BitVec 32 := BitVec.ofNat 32 (i 1).val
  let c8_i32_305 : BitVec 32 := 8#32
  let v753 : BitVec 32 := Scalar.muli arg1 c8_i32_305
  let v754 : BitVec 32 := v753
  let v782 : Index := Scalar.indexCast v754
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v783 : Index := Scalar.indexCast v8
  ![12, v782.toNat, v783.toNat]
def k0_off63 (i : grid0.Coords) : Fin 4 → Nat :=
  let arg1 : BitVec 32 := BitVec.ofNat 32 (i 1).val
  let v787 : Index := Scalar.indexCast arg1
  let c13_319 : Index := 13#32
  let c0_320 : Index := 0#32
  let c0_321 : Index := 0#32
  ![v787.toNat, 13, 0, 0]
def k0_off64 (k0_t2 : Fin k0_t2_loop.trips) : Fin 4 → Nat :=
  let c0_325 : Index := 0#32
  let c13_326 : Index := 13#32
  let c0_327 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v802 : Index := Scalar.indexCast v8
  ![0, 13, 0, v802.toNat]
def k0_off65 (i : grid0.Coords) (k0_t2 : Fin k0_t2_loop.trips) : Fin 3 → Nat :=
  let c13_331 : Index := 13#32
  let arg1 : BitVec 32 := BitVec.ofNat 32 (i 1).val
  let c8_i32_305 : BitVec 32 := 8#32
  let v753 : BitVec 32 := Scalar.muli arg1 c8_i32_305
  let v754 : BitVec 32 := v753
  let v814 : Index := Scalar.indexCast v754
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v815 : Index := Scalar.indexCast v8
  ![13, v814.toNat, v815.toNat]
def k0_off66 (i : grid0.Coords) : Fin 4 → Nat :=
  let arg1 : BitVec 32 := BitVec.ofNat 32 (i 1).val
  let v855 : Index := Scalar.indexCast arg1
  let c7_346 : Index := 7#32
  let c0_347 : Index := 0#32
  let c0_348 : Index := 0#32
  ![v855.toNat, 7, 0, 0]
def k0_mult9 (i : grid0.Coords) : BitVec 32 :=
  let arg1 : BitVec 32 := BitVec.ofNat 32 (i 1).val
  let c8_i32_350 : BitVec 32 := 8#32
  let v862 : BitVec 32 := Scalar.muli arg1 c8_i32_350
  v862
def k0_off67 (i : grid0.Coords) : Fin 4 → Nat :=
  let arg1 : BitVec 32 := BitVec.ofNat 32 (i 1).val
  let v864 : Index := Scalar.indexCast arg1
  let c14_351 : Index := 14#32
  let c0_352 : Index := 0#32
  let c0_353 : Index := 0#32
  ![v864.toNat, 14, 0, 0]
def k0_off68 (k0_t2 : Fin k0_t2_loop.trips) : Fin 4 → Nat :=
  let c0_357 : Index := 0#32
  let c14_358 : Index := 14#32
  let c0_359 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v879 : Index := Scalar.indexCast v8
  ![0, 14, 0, v879.toNat]
def k0_off69 (i : grid0.Coords) (k0_t2 : Fin k0_t2_loop.trips) : Fin 3 → Nat :=
  let c14_363 : Index := 14#32
  let arg1 : BitVec 32 := BitVec.ofNat 32 (i 1).val
  let c8_i32_350 : BitVec 32 := 8#32
  let v862 : BitVec 32 := Scalar.muli arg1 c8_i32_350
  let v863 : BitVec 32 := v862
  let v891 : Index := Scalar.indexCast v863
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v892 : Index := Scalar.indexCast v8
  ![14, v891.toNat, v892.toNat]
def k0_off70 (i : grid0.Coords) : Fin 4 → Nat :=
  let arg1 : BitVec 32 := BitVec.ofNat 32 (i 1).val
  let v896 : Index := Scalar.indexCast arg1
  let c15_364 : Index := 15#32
  let c0_365 : Index := 0#32
  let c0_366 : Index := 0#32
  ![v896.toNat, 15, 0, 0]
def k0_off71 (k0_t2 : Fin k0_t2_loop.trips) : Fin 4 → Nat :=
  let c0_370 : Index := 0#32
  let c15_371 : Index := 15#32
  let c0_372 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v911 : Index := Scalar.indexCast v8
  ![0, 15, 0, v911.toNat]
def k0_off72 (i : grid0.Coords) (k0_t2 : Fin k0_t2_loop.trips) : Fin 3 → Nat :=
  let c15_376 : Index := 15#32
  let arg1 : BitVec 32 := BitVec.ofNat 32 (i 1).val
  let c8_i32_350 : BitVec 32 := 8#32
  let v862 : BitVec 32 := Scalar.muli arg1 c8_i32_350
  let v863 : BitVec 32 := v862
  let v923 : Index := Scalar.indexCast v863
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v924 : Index := Scalar.indexCast v8
  ![15, v923.toNat, v924.toNat]
def k0_off73 (i : grid0.Coords) : Fin 4 → Nat :=
  let arg1 : BitVec 32 := BitVec.ofNat 32 (i 1).val
  let v964 : Index := Scalar.indexCast arg1
  let c8_391 : Index := 8#32
  let c0_392 : Index := 0#32
  let c0_393 : Index := 0#32
  ![v964.toNat, 8, 0, 0]
def k0_mult10 (i : grid0.Coords) : BitVec 32 :=
  let arg1 : BitVec 32 := BitVec.ofNat 32 (i 1).val
  let c8_i32_395 : BitVec 32 := 8#32
  let v971 : BitVec 32 := Scalar.muli arg1 c8_i32_395
  v971
def k0_off74 (i : grid0.Coords) : Fin 4 → Nat :=
  let arg1 : BitVec 32 := BitVec.ofNat 32 (i 1).val
  let v973 : Index := Scalar.indexCast arg1
  let c16_396 : Index := 16#32
  let c0_397 : Index := 0#32
  let c0_398 : Index := 0#32
  ![v973.toNat, 16, 0, 0]
def k0_off75 (k0_t2 : Fin k0_t2_loop.trips) : Fin 4 → Nat :=
  let c0_402 : Index := 0#32
  let c16_403 : Index := 16#32
  let c0_404 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v988 : Index := Scalar.indexCast v8
  ![0, 16, 0, v988.toNat]
def k0_off76 (i : grid0.Coords) (k0_t2 : Fin k0_t2_loop.trips) : Fin 3 → Nat :=
  let c16_408 : Index := 16#32
  let arg1 : BitVec 32 := BitVec.ofNat 32 (i 1).val
  let c8_i32_395 : BitVec 32 := 8#32
  let v971 : BitVec 32 := Scalar.muli arg1 c8_i32_395
  let v972 : BitVec 32 := v971
  let v1000 : Index := Scalar.indexCast v972
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v1001 : Index := Scalar.indexCast v8
  ![16, v1000.toNat, v1001.toNat]
def k0_off77 (i : grid0.Coords) : Fin 4 → Nat :=
  let arg1 : BitVec 32 := BitVec.ofNat 32 (i 1).val
  let v1005 : Index := Scalar.indexCast arg1
  let c17_409 : Index := 17#32
  let c0_410 : Index := 0#32
  let c0_411 : Index := 0#32
  ![v1005.toNat, 17, 0, 0]
def k0_off78 (k0_t2 : Fin k0_t2_loop.trips) : Fin 4 → Nat :=
  let c0_415 : Index := 0#32
  let c17_416 : Index := 17#32
  let c0_417 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v1020 : Index := Scalar.indexCast v8
  ![0, 17, 0, v1020.toNat]
def k0_off79 (i : grid0.Coords) (k0_t2 : Fin k0_t2_loop.trips) : Fin 3 → Nat :=
  let c17_421 : Index := 17#32
  let arg1 : BitVec 32 := BitVec.ofNat 32 (i 1).val
  let c8_i32_395 : BitVec 32 := 8#32
  let v971 : BitVec 32 := Scalar.muli arg1 c8_i32_395
  let v972 : BitVec 32 := v971
  let v1032 : Index := Scalar.indexCast v972
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v1033 : Index := Scalar.indexCast v8
  ![17, v1032.toNat, v1033.toNat]
def k0_off80 (i : grid0.Coords) : Fin 4 → Nat :=
  let arg1 : BitVec 32 := BitVec.ofNat 32 (i 1).val
  let v1073 : Index := Scalar.indexCast arg1
  let c9_436 : Index := 9#32
  let c0_437 : Index := 0#32
  let c0_438 : Index := 0#32
  ![v1073.toNat, 9, 0, 0]
def k0_mult11 (i : grid0.Coords) : BitVec 32 :=
  let arg1 : BitVec 32 := BitVec.ofNat 32 (i 1).val
  let c8_i32_440 : BitVec 32 := 8#32
  let v1080 : BitVec 32 := Scalar.muli arg1 c8_i32_440
  v1080
def k0_off81 (i : grid0.Coords) : Fin 4 → Nat :=
  let arg1 : BitVec 32 := BitVec.ofNat 32 (i 1).val
  let v1082 : Index := Scalar.indexCast arg1
  let c18_441 : Index := 18#32
  let c0_442 : Index := 0#32
  let c0_443 : Index := 0#32
  ![v1082.toNat, 18, 0, 0]
def k0_off82 (k0_t2 : Fin k0_t2_loop.trips) : Fin 4 → Nat :=
  let c0_447 : Index := 0#32
  let c18_448 : Index := 18#32
  let c0_449 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v1097 : Index := Scalar.indexCast v8
  ![0, 18, 0, v1097.toNat]
def k0_off83 (i : grid0.Coords) (k0_t2 : Fin k0_t2_loop.trips) : Fin 3 → Nat :=
  let c18_453 : Index := 18#32
  let arg1 : BitVec 32 := BitVec.ofNat 32 (i 1).val
  let c8_i32_440 : BitVec 32 := 8#32
  let v1080 : BitVec 32 := Scalar.muli arg1 c8_i32_440
  let v1081 : BitVec 32 := v1080
  let v1109 : Index := Scalar.indexCast v1081
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v1110 : Index := Scalar.indexCast v8
  ![18, v1109.toNat, v1110.toNat]
def k0_off84 (i : grid0.Coords) : Fin 4 → Nat :=
  let arg1 : BitVec 32 := BitVec.ofNat 32 (i 1).val
  let v1114 : Index := Scalar.indexCast arg1
  let c19_454 : Index := 19#32
  let c0_455 : Index := 0#32
  let c0_456 : Index := 0#32
  ![v1114.toNat, 19, 0, 0]
def k0_off85 (k0_t2 : Fin k0_t2_loop.trips) : Fin 4 → Nat :=
  let c0_460 : Index := 0#32
  let c19_461 : Index := 19#32
  let c0_462 : Index := 0#32
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v1129 : Index := Scalar.indexCast v8
  ![0, 19, 0, v1129.toNat]
def k0_off86 (i : grid0.Coords) (k0_t2 : Fin k0_t2_loop.trips) : Fin 3 → Nat :=
  let c19_466 : Index := 19#32
  let arg1 : BitVec 32 := BitVec.ofNat 32 (i 1).val
  let c8_i32_440 : BitVec 32 := 8#32
  let v1080 : BitVec 32 := Scalar.muli arg1 c8_i32_440
  let v1081 : BitVec 32 := v1080
  let v1141 : Index := Scalar.indexCast v1081
  let c0_i32_1 : BitVec 32 := 0#32
  let c1_i32 : BitVec 32 := 1#32
  let arg17 : BitVec 32 := Scf.iv c0_i32_1 c1_i32 k0_t2
  let c256_i32 : BitVec 32 := 256#32
  let v7 : BitVec 32 := Scalar.muli arg17 c256_i32
  let v8 : BitVec 32 := v7
  let v1142 : Index := Scalar.indexCast v8
  ![19, v1141.toNat, v1142.toNat]
def k0_cond2 (i : grid0.Coords) : BitVec 1 :=
  let arg1 : BitVec 32 := BitVec.ofNat 32 (i 1).val
  let c15_i32 : BitVec 32 := 15#32
  let v4 : BitVec 1 := Scalar.cmpi .eq arg1 c15_i32
  let v5 : BitVec 32 := Scalar.extui v4
  let c0_i32_3 : BitVec 32 := 0#32
  let v6 : BitVec 1 := Scalar.cmpi .ne v5 c0_i32_3
  v6

@[reducible] def k0_t3_loop : Scf.Loop 32 :=
  let c0_i32_5 : BitVec 32 := 0#32
  let c20_i32 : BitVec 32 := 20#32
  let v10 : BitVec 32 := Scalar.addi c0_i32_5 c20_i32
  let c1_i32_6 : BitVec 32 := 1#32
  ⟨c0_i32_5, v10, c1_i32_6⟩
def k0_off87 (k0_t3 : Fin k0_t3_loop.trips) : Fin 1 → Nat :=
  let c0_i32_5 : BitVec 32 := 0#32
  let c1_i32_6 : BitVec 32 := 1#32
  let arg17 : BitVec 32 := Scf.iv c0_i32_5 c1_i32_6 k0_t3
  let v13 : Index := Scalar.indexCast arg17
  ![v13.toNat]
def k0_off88 (k0_t3 : Fin k0_t3_loop.trips) : Fin 3 → Nat :=
  let c0_i32_5 : BitVec 32 := 0#32
  let c1_i32_6 : BitVec 32 := 1#32
  let arg17 : BitVec 32 := Scf.iv c0_i32_5 c1_i32_6 k0_t3
  let v21 : Index := Scalar.indexCast arg17
  let c0_11 : Index := 0#32
  let c0_12 : Index := 0#32
  ![v21.toNat, 0, 0]
def k0_off89 (k0_t3 : Fin k0_t3_loop.trips) : Fin 3 → Nat :=
  let c0_i32_5 : BitVec 32 := 0#32
  let c1_i32_6 : BitVec 32 := 1#32
  let arg17 : BitVec 32 := Scf.iv c0_i32_5 c1_i32_6 k0_t3
  let v25 : Index := Scalar.indexCast arg17
  let c0_13 : Index := 0#32
  let c0_14 : Index := 0#32
  ![v25.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S20x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x20x64x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S20x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S1x256x2048 : Shape := ⟨3, ![1, 256, 2048]⟩
abbrev S2048x5632 : Shape := ⟨2, ![2048, 5632]⟩
abbrev S256x2048 : Shape := ⟨2, ![256, 2048]⟩
abbrev S20 : Shape := ⟨1, ![20]⟩
abbrev S_ : Shape := ⟨0, ![]⟩
abbrev S16x128x5632 : Shape := ⟨3, ![16, 128, 5632]⟩
abbrev S16x5632x128 : Shape := ⟨3, ![16, 5632, 128]⟩
abbrev S16x5632 : Shape := ⟨2, ![16, 5632]⟩
abbrev S16x5632x1 : Shape := ⟨3, ![16, 5632, 1]⟩
abbrev S1x1x20 : Shape := ⟨3, ![1, 1, 20]⟩
abbrev S16x5632x20 : Shape := ⟨3, ![16, 5632, 20]⟩
abbrev S16x5632x1x128 : Shape := ⟨4, ![16, 5632, 1, 128]⟩
abbrev S16x5632x20x1 : Shape := ⟨4, ![16, 5632, 20, 1]⟩
abbrev S16x5632x20x128 : Shape := ⟨4, ![16, 5632, 20, 128]⟩
abbrev S256x16x128 : Shape := ⟨3, ![256, 16, 128]⟩
abbrev S16x128x128 : Shape := ⟨3, ![16, 128, 128]⟩
abbrev S16x128x5632x20 : Shape := ⟨4, ![16, 128, 5632, 20]⟩
abbrev S16x5632x20x64x2 : Shape := ⟨5, ![16, 5632, 20, 64, 2]⟩
abbrev S16x5632x20x64x1 : Shape := ⟨5, ![16, 5632, 20, 64, 1]⟩
abbrev S16x5632x20x64 : Shape := ⟨4, ![16, 5632, 20, 64]⟩
abbrev S20x16x5632 : Shape := ⟨3, ![20, 16, 5632]⟩
abbrev S16x20x64x5632 : Shape := ⟨4, ![16, 20, 64, 5632]⟩

abbrev nBuf : Space → Nat
  | .hbm => 75
  | .vmem => 0
  | .smem => 0
  | _ => 0

abbrev bufTy : (tb : Table) → Fin (tcTables nBuf tb) → BufTy
  | .hbm, ⟨0, _⟩ => ⟨S1x256x2048, .bf16⟩
  | .hbm, ⟨1, _⟩ => ⟨S2048x5632, .bf16⟩
  | .hbm, ⟨2, _⟩ => ⟨S256x2048, .bf16⟩
  | .hbm, ⟨3, _⟩ => ⟨S20, .f32⟩
  | .hbm, ⟨4, _⟩ => ⟨S_, .f32⟩
  | .hbm, ⟨5, _⟩ => ⟨S20, .f32⟩
  | .hbm, ⟨6, _⟩ => ⟨S20, .f32⟩
  | .hbm, ⟨7, _⟩ => ⟨S_, .f32⟩
  | .hbm, ⟨8, _⟩ => ⟨S20, .f32⟩
  | .hbm, ⟨9, _⟩ => ⟨S20, .f32⟩
  | .hbm, ⟨10, _⟩ => ⟨S16x128x5632, .bf16⟩
  | .hbm, ⟨11, _⟩ => ⟨S16x5632x128, .bf16⟩
  | .hbm, ⟨12, _⟩ => ⟨S16x5632x128, .f32⟩
  | .hbm, ⟨13, _⟩ => ⟨S16x5632x128, .f32⟩
  | .hbm, ⟨14, _⟩ => ⟨S_, .f32⟩
  | .hbm, ⟨15, _⟩ => ⟨S16x5632, .f32⟩
  | .hbm, ⟨16, _⟩ => ⟨S16x5632x1, .f32⟩
  | .hbm, ⟨17, _⟩ => ⟨S_, .f32⟩
  | .hbm, ⟨18, _⟩ => ⟨S16x5632x1, .f32⟩
  | .hbm, ⟨19, _⟩ => ⟨S16x5632x1, .i1⟩
  | .hbm, ⟨20, _⟩ => ⟨S1x1x20, .f32⟩
  | .hbm, ⟨21, _⟩ => ⟨S16x5632x1, .f32⟩
  | .hbm, ⟨22, _⟩ => ⟨S16x5632x20, .f32⟩
  | .hbm, ⟨23, _⟩ => ⟨S16x5632x20, .f32⟩
  | .hbm, ⟨24, _⟩ => ⟨S16x5632x20, .f32⟩
  | .hbm, ⟨25, _⟩ => ⟨S_, .f32⟩
  | .hbm, ⟨26, _⟩ => ⟨S16x5632x20, .f32⟩
  | .hbm, ⟨27, _⟩ => ⟨S16x5632x20, .f32⟩
  | .hbm, ⟨28, _⟩ => ⟨S_, .f32⟩
  | .hbm, ⟨29, _⟩ => ⟨S16x5632x20, .i1⟩
  | .hbm, ⟨30, _⟩ => ⟨S16x5632x20, .f32⟩
  | .hbm, ⟨31, _⟩ => ⟨S16x5632x20, .f32⟩
  | .hbm, ⟨32, _⟩ => ⟨S16x5632x1x128, .f32⟩
  | .hbm, ⟨33, _⟩ => ⟨S16x5632x20x1, .f32⟩
  | .hbm, ⟨34, _⟩ => ⟨S16x5632x20x128, .f32⟩
  | .hbm, ⟨35, _⟩ => ⟨S16x5632x20x128, .f32⟩
  | .hbm, ⟨36, _⟩ => ⟨S16x5632x20x128, .f32⟩
  | .hbm, ⟨37, _⟩ => ⟨S16x5632x20x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x5632x20x128, .f32⟩
  | .hbm, ⟨42, _⟩ => ⟨S16x5632x20x128, .f32⟩
  | .hbm, ⟨43, _⟩ => ⟨S_, .f32⟩
  | .hbm, ⟨44, _⟩ => ⟨S16x5632x20x128, .f32⟩
  | .hbm, ⟨45, _⟩ => ⟨S16x5632x20x128, .f32⟩
  | .hbm, ⟨46, _⟩ => ⟨S16x5632x20x128, .i32⟩
  | .hbm, ⟨47, _⟩ => ⟨S16x5632x1x128, .f32⟩
  | .hbm, ⟨48, _⟩ => ⟨S16x5632x20x128, .f32⟩
  | .hbm, ⟨49, _⟩ => ⟨S16x5632x20x1, .f32⟩
  | .hbm, ⟨50, _⟩ => ⟨S16x5632x20x128, .f32⟩
  | .hbm, ⟨51, _⟩ => ⟨S16x5632x20x128, .f32⟩
  | .hbm, ⟨52, _⟩ => ⟨S16x5632x20x128, .f32⟩
  | .hbm, ⟨53, _⟩ => ⟨S16x5632x20x128, .f32⟩
  | .hbm, ⟨54, _⟩ => ⟨S256x16x128, .bf16⟩
  | .hbm, ⟨55, _⟩ => ⟨S256x16x128, .f32⟩
  | .hbm, ⟨56, _⟩ => ⟨S16x128x128, .f32⟩
  | .hbm, ⟨57, _⟩ => ⟨S16x128x5632x20, .f32⟩
  | .hbm, ⟨58, _⟩ => ⟨S16x5632x20, .f32⟩
  | .hbm, ⟨59, _⟩ => ⟨S_, .i32⟩
  | .hbm, ⟨60, _⟩ => ⟨S16x5632x20x128, .i32⟩
  | .hbm, ⟨61, _⟩ => ⟨S16x5632x20x128, .i32⟩
  | .hbm, ⟨62, _⟩ => ⟨S16x5632x20x64x2, .i32⟩
  | .hbm, ⟨63, _⟩ => ⟨S16x5632x20x64x1, .i32⟩
  | .hbm, ⟨64, _⟩ => ⟨S16x5632x20x64, .i32⟩
  | .hbm, ⟨65, _⟩ => ⟨S16x5632x20x64x1, .i32⟩
  | .hbm, ⟨66, _⟩ => ⟨S16x5632x20x64, .i32⟩
  | .hbm, ⟨67, _⟩ => ⟨S_, .i32⟩
  | .hbm, ⟨68, _⟩ => ⟨S16x5632x20x64, .i32⟩
  | .hbm, ⟨69, _⟩ => ⟨S16x5632x20x64, .i32⟩
  | .hbm, ⟨70, _⟩ => ⟨S16x5632x20x64, .i32⟩
  | .hbm, ⟨71, _⟩ => ⟨S16x5632x20x64, .i8⟩
  | .hbm, ⟨72, _⟩ => ⟨S20x16x5632, .f32⟩
  | .hbm, ⟨73, _⟩ => ⟨S16x20x64x5632, .i8⟩
  | .hbm, ⟨74, _⟩ => ⟨S20x16x5632, .f32⟩
  | _, _ => ⟨S1x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_cst_6 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Proof.P.Loop2.lean ====
/- The lane-block loop of the kernel (`k0_t2_loop`) as an invariant `sl_exec` goes through: one trip is run once at
   a symbolic trip number, and the pieces it stores are named as the run finds them. -/
module

public import proofs.«01_k».proof.Proof.Gen.Kernel.Loops

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### `k0_t2_loop`: its invariant -/

/-- One trip's resources: what the region reads (arg2, arg5, arg9, arg10, arg11) at its contents,
   what it writes (arg7, arg12, arg13, arg14, arg15, arg16) at any. -/
abbrev Trip_k0_t2 (c : Dev nD) (arg2 : Memref sig .tc .smem S20 .f32) (arg5 : Memref sig .tc .vmem S128x512 .bf16) (arg9 : Memref sig .tc .vmem S16x20x160x256 .bf16) (arg10 : Memref sig .tc .vmem S16x10x16x256 .bf16) (arg11 : Memref sig .tc .vmem S16x128x384 .bf16) (arg7 : Memref sig .tc .vmem S1x20x64x512 .i8) (arg12 : Memref sig .tc .vmem S16x512 .f32) (arg13 : Memref sig .tc .vmem S16x512 .f32) (arg14 : Memref sig .tc .vmem S20x128x512 .f32) (arg15 : Memref sig .tc .vmem S128x256 .f32) (arg16 : Memref sig .tc .vmem S128x256 .f32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (f_arg7 : BufTy.Contents (Elt F) arg7.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : sProp 𝕄G :=
  iprop((arg2.view.loc (c : Thread nD τ) ↦[arg2.view.set]{fullShare} X_arg2) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg7.view.loc (c : Thread nD τ) ↦[arg7.view.set]{fullShare} f_arg7) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16))

/-- ONE TRIP of `k0_t2_loop` at a symbolic `k`, run by `sl_exec` (its rectangles where the program's
   in-range evidence puts them, their places unread): the pieces it writes into arg7, arg12, arg13,
   arg14, arg15, arg16 are the run's own finds — the witnesses `sl_close` assigns handing the
   buffers to the continuation, as functions of the contents the trip finds in the memrefs it writes
   (the region loads some of them back). `@[irreducible]`: cited, never unfolded. -/
@[irreducible] def trip_k0_t2 (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (k : Fin k0_t2_loop.trips) :
    Σ' (L_arg7 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x20x64x512 .i8))) (L_arg12 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S16x512 .f32))) (L_arg13 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S16x512 .f32))) (L_arg14 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S20x128x512 .f32))) (L_arg15 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x256 .f32))) , { L_arg16 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x256 .f32)) // ∀ (E : Set ℕ) (f_arg7 : BufTy.Contents (Elt F) arg7.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty),
      Trip_k0_t2 (F := F) c arg2 arg5 arg9 arg10 arg11 arg7 arg12 arg13 arg14 arg15 arg16 X_arg2 X_arg5 X_arg9 X_arg10 X_arg11 f_arg7 f_arg12 f_arg13 f_arg14 f_arg15 f_arg16
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k PUnit.unit)
          (fun _ => Trip_k0_t2 (F := F) c arg2 arg5 arg9 arg10 arg11 arg7 arg12 arg13 arg14 arg15 arg16 X_arg2 X_arg5 X_arg9 X_arg10 X_arg11 (arg7.view.writes (Elt F) f_arg7 (L_arg7 f_arg7 f_arg12 f_arg13 f_arg14 f_arg15 f_arg16)) (arg12.view.writes (Elt F) f_arg12 (L_arg12 f_arg7 f_arg12 f_arg13 f_arg14 f_arg15 f_arg16)) (arg13.view.writes (Elt F) f_arg13 (L_arg13 f_arg7 f_arg12 f_arg13 f_arg14 f_arg15 f_arg16)) (arg14.view.writes (Elt F) f_arg14 (L_arg14 f_arg7 f_arg12 f_arg13 f_arg14 f_arg15 f_arg16)) (arg15.view.writes (Elt F) f_arg15 (L_arg15 f_arg7 f_arg12 f_arg13 f_arg14 f_arg15 f_arg16)) (arg16.view.writes (Elt F) f_arg16 (L_arg16 f_arg7 f_arg12 f_arg13 f_arg14 f_arg15 f_arg16))) } := by
  have hk : k.val < 2 := Nat.lt_of_lt_of_le k.isLt k0_t2_abs.2.1
  refine ⟨?_, ?_, ?_, ?_, ?_, ?_, fun E f_arg7 f_arg12 f_arg13 f_arg14 f_arg15 f_arg16 => ?run⟩
  case run =>
    unfold k0_t2_body
    iintro ⟨HR_arg2, HR_arg5, HR_arg9, HR_arg10, HR_arg11, HW_arg7, HW_arg12, HW_arg13, HW_arg14, HW_arg15, HW_arg16⟩
    sl_exec
    sl_step
    sl_close

/-- The trip's piece lists (plain projections of `trip_…`, for the recursion below to cite without
   its proof), at the contents the trip finds in the written memrefs. -/
abbrev tripL_k0_t2 (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (k : Fin k0_t2_loop.trips) (f_arg7 : BufTy.Contents (Elt F) arg7.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : List (View.Piece (Elt F) S1x20x64x512 .i8) × List (View.Piece (Elt F) S16x512 .f32) × List (View.Piece (Elt F) S16x512 .f32) × List (View.Piece (Elt F) S20x128x512 .f32) × List (View.Piece (Elt F) S128x256 .f32) × List (View.Piece (Elt F) S128x256 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.2.1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.2.2.1 f_arg7 f_arg12 f_arg13 f_arg14 f_arg15 f_arg16)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (prev : List (View.Piece (Elt F) S1x20x64x512 .i8) × List (View.Piece (Elt F) S16x512 .f32) × List (View.Piece (Elt F) S16x512 .f32) × List (View.Piece (Elt F) S20x128x512 .f32) × List (View.Piece (Elt F) S128x256 .f32) × List (View.Piece (Elt F) S128x256 .f32)) : List (View.Piece (Elt F) S1x20x64x512 .i8) × List (View.Piece (Elt F) S16x512 .f32) × List (View.Piece (Elt F) S16x512 .f32) × List (View.Piece (Elt F) S20x128x512 .f32) × List (View.Piece (Elt F) S128x256 .f32) × List (View.Piece (Elt F) S128x256 .f32) :=
  if h : k < k0_t2_loop.trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.2.1 ++ prev.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.2.2.1 ++ prev.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.2.2.2.1 ++ prev.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.2.2.2.2 ++ prev.2.2.2.2.2)
  else prev

/-- The pieces of the trips before `k` (last first), per written memref, starting from the contents
   `G_·` at loop entry; each trip's pieces taken at the contents the earlier trips left. -/
def pb_k0_t2 (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) : ℕ → List (View.Piece (Elt F) S1x20x64x512 .i8) × List (View.Piece (Elt F) S16x512 .f32) × List (View.Piece (Elt F) S16x512 .f32) × List (View.Piece (Elt F) S20x128x512 .f32) × List (View.Piece (Elt F) S128x256 .f32) × List (View.Piece (Elt F) S128x256 .f32)
  | 0 => ([], [], [], [], [], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k)

theorem pb_k0_t2_succ (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.2.2.2.2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2) := by
  rw [pb_k0_t2.eq_2]; unfold pb_k0_t2Step; exact dif_pos k.isLt

/-- THE INVARIANT before trip `k`: arg2, arg5, arg9, arg10, arg11 read at `X_·`; arg7, arg12, arg13,
   arg14, arg15, arg16 holding the pieces of the trips before `k` written over the contents at loop
   entry `G_·` (stated `∃ f, … ∗ ⌜f = …⌝`, so that a hypothesis of any contents matches and the
   equation is what is proved). -/
abbrev inv_k0_t2 (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (_u : PUnit) : sProp 𝕄G :=
  iprop((arg2.view.loc (c : Thread nD τ) ↦[arg2.view.set]{fullShare} X_arg2) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (∃ f, (arg7.view.loc (c : Thread nD τ) ↦[arg7.view.set]{fullShare} f) ∗ ⌜f = arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).1⌝) ∗ (∃ f, (arg12.view.loc (c : Thread nD τ) ↦[arg12.view.set]{fullShare} f) ∗ ⌜f = arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.1⌝) ∗ (∃ f, (arg13.view.loc (c : Thread nD τ) ↦[arg13.view.set]{fullShare} f) ∗ ⌜f = arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.2.1⌝) ∗ (∃ f, (arg14.view.loc (c : Thread nD τ) ↦[arg14.view.set]{fullShare} f) ∗ ⌜f = arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.2.2.1⌝) ∗ (∃ f, (arg15.view.loc (c : Thread nD τ) ↦[arg15.view.set]{fullShare} f) ∗ ⌜f = arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.2.2.2.1⌝) ∗ (∃ f, (arg16.view.loc (c : Thread nD τ) ↦[arg16.view.set]{fullShare} f) ∗ ⌜f = arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.2.2.2.2⌝))

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16
  step k acc := by
    iintro ⟨HR_arg2, HR_arg5, HR_arg9, HR_arg10, HR_arg11, ⟨%f_arg7, HW_arg7, %h_arg7⟩, ⟨%f_arg12, HW_arg12, %h_arg12⟩, ⟨%f_arg13, HW_arg13, %h_arg13⟩, ⟨%f_arg14, HW_arg14, %h_arg14⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg2 HR_arg5 HR_arg9 HR_arg10 HR_arg11 HW_arg7 HW_arg12 HW_arg13 HW_arg14 HW_arg15 HW_arg16]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.2.2.2 E f_arg7 f_arg12 f_arg13 f_arg14 f_arg15 f_arg16)
      isplitl [HR_arg2]; · iexact HR_arg2
      isplitl [HR_arg5]; · iexact HR_arg5
      isplitl [HR_arg9]; · iexact HR_arg9
      isplitl [HR_arg10]; · iexact HR_arg10
      isplitl [HR_arg11]; · iexact HR_arg11
      isplitl [HW_arg7]; · iexact HW_arg7
      isplitl [HW_arg12]; · iexact HW_arg12
      isplitl [HW_arg13]; · iexact HW_arg13
      isplitl [HW_arg14]; · iexact HW_arg14
      isplitl [HW_arg15]; · iexact HW_arg15
      iexact HW_arg16
    · iintro %_ ⟨HR_arg2, HR_arg5, HR_arg9, HR_arg10, HR_arg11, HW_arg7, HW_arg12, HW_arg13, HW_arg14, HW_arg15, HW_arg16⟩
      isplitl [HR_arg2]; · iexact HR_arg2
      isplitl [HR_arg5]; · iexact HR_arg5
      isplitl [HR_arg9]; · iexact HR_arg9
      isplitl [HR_arg10]; · iexact HR_arg10
      isplitl [HR_arg11]; · iexact HR_arg11
      rw [pb_k0_t2_succ]
      isplitl [HW_arg7]
      · iexists _; isplitl [HW_arg7]; · iexact HW_arg7
        ipureintro; rw [h_arg7, h_arg12, h_arg13, h_arg14, h_arg15, h_arg16, ← View.writes_append]
      isplitl [HW_arg12]
      · iexists _; isplitl [HW_arg12]; · iexact HW_arg12
        ipureintro; rw [h_arg7, h_arg12, h_arg13, h_arg14, h_arg15, h_arg16, ← View.writes_append]
      isplitl [HW_arg13]
      · iexists _; isplitl [HW_arg13]; · iexact HW_arg13
        ipureintro; rw [h_arg7, h_arg12, h_arg13, h_arg14, h_arg15, h_arg16, ← View.writes_append]
      isplitl [HW_arg14]
      · iexists _; isplitl [HW_arg14]; · iexact HW_arg14
        ipureintro; rw [h_arg7, h_arg12, h_arg13, h_arg14, h_arg15, h_arg16, ← View.writes_append]
      isplitl [HW_arg15]
      · iexists _; isplitl [HW_arg15]; · iexact HW_arg15
        ipureintro; rw [h_arg7, h_arg12, h_arg13, h_arg14, h_arg15, h_arg16, ← View.writes_append]
      iexists _; isplitl [HW_arg16]; · iexact HW_arg16
      ipureintro; rw [h_arg7, h_arg12, h_arg13, h_arg14, h_arg15, h_arg16, ← View.writes_append]

end Cert.Kernel.Gen

end
-- ==== Proof.P.Run.lean ====
/- The kernel's body run once per case of its two conditionals: the pieces every buffer ends with are the run's own
   finds, as functions of the contents the body finds. -/
module

public import proofs.«01_k».proof.Proof.P.Loop2
public import proofs.«01_k».proof.Proof.Gen.Kernel.Frame

@[expose] public section

set_option maxRecDepth 16384
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body's run: the first lane step of a group, and the last group. -/
@[irreducible] def bodyRunTT (c : Dev nD) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (hc1 : k0_cond1 i = 1#1) (hc2 : k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L6 : List (View.Piece (Elt F) S20x16x512 .f32)) (L7 : List (View.Piece (Elt F) S1x20x64x512 .i8)) (L8 : List (View.Piece (Elt F) S20x16x512 .f32)) (L9 : List (View.Piece (Elt F) S16x20x160x256 .bf16)) (L10 : List (View.Piece (Elt F) S16x10x16x256 .bf16)) (L11 : List (View.Piece (Elt F) S16x128x384 .bf16)) (L12 : List (View.Piece (Elt F) S16x512 .f32)) (L13 : List (View.Piece (Elt F) S16x512 .f32)) (L14 : List (View.Piece (Elt F) S20x128x512 .f32)) (L15 : List (View.Piece (Elt F) S128x256 .f32)), { L16 : List (View.Piece (Elt F) S128x256 .f32) //
      ∀ (E : Set ℕ) (K : PUnit → sProp 𝕄G),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt F) X6 L6)) ∗ (arg7.view.loc (c : Thread nD τ) ↦[arg7.view.set]{fullShare} (arg7.view.writes (Elt F) X7 L7)) ∗ (arg8.view.loc (c : Thread nD τ) ↦[arg8.view.set]{fullShare} (arg8.view.writes (Elt F) X8 L8)) ∗ (arg9.view.loc (c : Thread nD τ) ↦[arg9.view.set]{fullShare} (arg9.view.writes (Elt F) X9 L9)) ∗ (arg10.view.loc (c : Thread nD τ) ↦[arg10.view.set]{fullShare} (arg10.view.writes (Elt F) X10 L10)) ∗ (arg11.view.loc (c : Thread nD τ) ↦[arg11.view.set]{fullShare} (arg11.view.writes (Elt F) X11 L11)) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16))) -∗ K ⟨⟩))
          ⊢ wp frame (wpE (defs₀ (F := F)) Variants.none c none) E (cc0_awq_clip_search i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, fun E K => ?run⟩
  case run =>
    simp only [cc0_awq_clip_search_eq_skeleton]; unfold cc0_awq_clip_search_skel
    iintro ⟨H2, H3, H4, H5, H6, H7, H8, H9, H10, H11, H12, H13, H14, H15, H16, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body's run: the first lane step of a group that is not the last. -/
@[irreducible] def bodyRunTF (c : Dev nD) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (hc1 : k0_cond1 i = 1#1) (hc2 : ¬ k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L7 : List (View.Piece (Elt F) S1x20x64x512 .i8)) (L9 : List (View.Piece (Elt F) S16x20x160x256 .bf16)) (L10 : List (View.Piece (Elt F) S16x10x16x256 .bf16)) (L11 : List (View.Piece (Elt F) S16x128x384 .bf16)) (L12 : List (View.Piece (Elt F) S16x512 .f32)) (L13 : List (View.Piece (Elt F) S16x512 .f32)) (L14 : List (View.Piece (Elt F) S20x128x512 .f32)) (L15 : List (View.Piece (Elt F) S128x256 .f32)), { L16 : List (View.Piece (Elt F) S128x256 .f32) //
      ∀ (E : Set ℕ) (K : PUnit → sProp 𝕄G),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) X7 L7)) ∗ (arg8.view.loc (c : Thread nD τ) ↦[arg8.view.set]{fullShare} X8) ∗ (arg9.view.loc (c : Thread nD τ) ↦[arg9.view.set]{fullShare} (arg9.view.writes (Elt F) X9 L9)) ∗ (arg10.view.loc (c : Thread nD τ) ↦[arg10.view.set]{fullShare} (arg10.view.writes (Elt F) X10 L10)) ∗ (arg11.view.loc (c : Thread nD τ) ↦[arg11.view.set]{fullShare} (arg11.view.writes (Elt F) X11 L11)) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16))) -∗ K ⟨⟩))
          ⊢ wp frame (wpE (defs₀ (F := F)) Variants.none c none) E (cc0_awq_clip_search i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0_awq_clip_search_eq_skeleton]; unfold cc0_awq_clip_search_skel
    iintro ⟨H2, H3, H4, H5, H6, H7, H8, H9, H10, H11, H12, H13, H14, H15, H16, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body's run: a later lane step at the last group. -/
@[irreducible] def bodyRunFT (c : Dev nD) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (hc1 : ¬ k0_cond1 i = 1#1) (hc2 : k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L6 : List (View.Piece (Elt F) S20x16x512 .f32)) (L7 : List (View.Piece (Elt F) S1x20x64x512 .i8)) (L8 : List (View.Piece (Elt F) S20x16x512 .f32)) (L12 : List (View.Piece (Elt F) S16x512 .f32)) (L13 : List (View.Piece (Elt F) S16x512 .f32)) (L14 : List (View.Piece (Elt F) S20x128x512 .f32)) (L15 : List (View.Piece (Elt F) S128x256 .f32)), { L16 : List (View.Piece (Elt F) S128x256 .f32) //
      ∀ (E : Set ℕ) (K : PUnit → sProp 𝕄G),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt F) X6 L6)) ∗ (arg7.view.loc (c : Thread nD τ) ↦[arg7.view.set]{fullShare} (arg7.view.writes (Elt F) X7 L7)) ∗ (arg8.view.loc (c : Thread nD τ) ↦[arg8.view.set]{fullShare} (arg8.view.writes (Elt F) X8 L8)) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16))) -∗ K ⟨⟩))
          ⊢ wp frame (wpE (defs₀ (F := F)) Variants.none c none) E (cc0_awq_clip_search i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_awq_clip_search_eq_skeleton]; unfold cc0_awq_clip_search_skel
    iintro ⟨H2, H3, H4, H5, H6, H7, H8, H9, H10, H11, H12, H13, H14, H15, H16, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body's run: a later lane step at a group that is not the last. -/
@[irreducible] def bodyRunFF (c : Dev nD) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (hc1 : ¬ k0_cond1 i = 1#1) (hc2 : ¬ k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L7 : List (View.Piece (Elt F) S1x20x64x512 .i8)) (L12 : List (View.Piece (Elt F) S16x512 .f32)) (L13 : List (View.Piece (Elt F) S16x512 .f32)) (L14 : List (View.Piece (Elt F) S20x128x512 .f32)) (L15 : List (View.Piece (Elt F) S128x256 .f32)), { L16 : List (View.Piece (Elt F) S128x256 .f32) //
      ∀ (E : Set ℕ) (K : PUnit → sProp 𝕄G),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) X7 L7)) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16))) -∗ K ⟨⟩))
          ⊢ wp frame (wpE (defs₀ (F := F)) Variants.none c none) E (cc0_awq_clip_search i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_awq_clip_search_eq_skeleton]; unfold cc0_awq_clip_search_skel
    iintro ⟨H2, H3, H4, H5, H6, H7, H8, H9, H10, H11, H12, H13, H14, H15, H16, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Gen

end
-- ==== Proof.P.Body.lean ====
/- The kernel's body at one grid point as a step on the buffers it carries, the pipeline's body obligation for any
   invariant the step keeps, and the launch. -/
module

public import proofs.«01_k».proof.Proof.P.Run
public import Idealize.ShloMosaic.Lib.Pipeline.DatRel
public import Idealize.ShloMosaic.Lib.Pipeline.ArrRel
public import Idealize.ShloMosaic.Lib.Claim

@[expose] public section

set_option maxRecDepth 16384
set_option maxHeartbeats 1000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body carries -/

theorem hw0_0 (t : Fin cfg0.N) : (st0_0 t).IsWhole := hstage0_0 ((cfg0.slots t 0).cast nbuf0_0)
theorem hw0_1 (t : Fin cfg0.N) : (st0_1 t).IsWhole := hstage0_1 ((cfg0.slots t 1).cast nbuf0_1)
theorem hw0_2 (t : Fin cfg0.N) : (st0_2 t).IsWhole := hstage0_2 ((cfg0.slots t 2).cast nbuf0_2)
theorem hw0_3 (t : Fin cfg0.N) : (st0_3 t).IsWhole := hstage0_3 ((cfg0.slots t 3).cast nbuf0_3)
theorem hw0_4 (t : Fin cfg0.N) : (st0_4 t).IsWhole := hstage0_4 ((cfg0.slots t 4).cast nbuf0_4)
theorem hw0_5 (t : Fin cfg0.N) : (st0_5 t).IsWhole := hstage0_5 ((cfg0.slots t 5).cast nbuf0_5)
theorem hw0_6 (t : Fin cfg0.N) : (st0_6 t).IsWhole := hstage0_6 ((cfg0.slots t 6).cast nbuf0_6)

/-- The contents of the eight scratch buffers: the three tables, the two rows, the accumulator and the two blocks. -/
structure Scr (F : FTy → Type) [FloatOps F] where
  s9 : BufTy.Contents (Elt F) (Memref.whole cc0_scratch0).view.ty
  s10 : BufTy.Contents (Elt F) (Memref.whole cc0_scratch1).view.ty
  s11 : BufTy.Contents (Elt F) (Memref.whole cc0_scratch2).view.ty
  s12 : BufTy.Contents (Elt F) (Memref.whole cc0_scratch3).view.ty
  s13 : BufTy.Contents (Elt F) (Memref.whole cc0_scratch4).view.ty
  s14 : BufTy.Contents (Elt F) (Memref.whole cc0_scratch5).view.ty
  s15 : BufTy.Contents (Elt F) (Memref.whole cc0_scratch6).view.ty
  s16 : BufTy.Contents (Elt F) (Memref.whole cc0_scratch7).view.ty

/-- The contents of the three result windows' staging buffers at point `t`. -/
structure OutB (F : FTy → Type) [FloatOps F] (t : Fin cfg0.N) where
  o6 : BufTy.Contents (Elt F) (st0_4 t).view.ty
  o7 : BufTy.Contents (Elt F) (st0_5 t).view.ty
  o8 : BufTy.Contents (Elt F) (st0_6 t).view.ty

/-- The step in case TT. -/
def bodyOutTT (c : Dev nD) (t : Fin cfg0.N) (h1 : k0_cond1 (grid0.coords t) = 1#1) (h2 : k0_cond2 (grid0.coords t) = 1#1) (s : Scr F) (o : OutB F t) : Scr F × OutB F t :=
  let R := bodyRunTT (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16
  (⟨(Memref.whole cc0_scratch0).view.writes (Elt F) s.s9 (R.2.2.2.1), (Memref.whole cc0_scratch1).view.writes (Elt F) s.s10 (R.2.2.2.2.1), (Memref.whole cc0_scratch2).view.writes (Elt F) s.s11 (R.2.2.2.2.2.1), (Memref.whole cc0_scratch3).view.writes (Elt F) s.s12 (R.2.2.2.2.2.2.1), (Memref.whole cc0_scratch4).view.writes (Elt F) s.s13 (R.2.2.2.2.2.2.2.1), (Memref.whole cc0_scratch5).view.writes (Elt F) s.s14 (R.2.2.2.2.2.2.2.2.1), (Memref.whole cc0_scratch6).view.writes (Elt F) s.s15 (R.2.2.2.2.2.2.2.2.2.1), (Memref.whole cc0_scratch7).view.writes (Elt F) s.s16 (R.2.2.2.2.2.2.2.2.2.2.1)⟩,
   ⟨(st0_4 t).view.writes (Elt F) o.o6 (R.1), (st0_5 t).view.writes (Elt F) o.o7 (R.2.1), (st0_6 t).view.writes (Elt F) o.o8 (R.2.2.1)⟩)

/-- The step in case TF. -/
def bodyOutTF (c : Dev nD) (t : Fin cfg0.N) (h1 : k0_cond1 (grid0.coords t) = 1#1) (h2 : ¬ k0_cond2 (grid0.coords t) = 1#1) (s : Scr F) (o : OutB F t) : Scr F × OutB F t :=
  let R := bodyRunTF (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16
  (⟨(Memref.whole cc0_scratch0).view.writes (Elt F) s.s9 (R.2.1), (Memref.whole cc0_scratch1).view.writes (Elt F) s.s10 (R.2.2.1), (Memref.whole cc0_scratch2).view.writes (Elt F) s.s11 (R.2.2.2.1), (Memref.whole cc0_scratch3).view.writes (Elt F) s.s12 (R.2.2.2.2.1), (Memref.whole cc0_scratch4).view.writes (Elt F) s.s13 (R.2.2.2.2.2.1), (Memref.whole cc0_scratch5).view.writes (Elt F) s.s14 (R.2.2.2.2.2.2.1), (Memref.whole cc0_scratch6).view.writes (Elt F) s.s15 (R.2.2.2.2.2.2.2.1), (Memref.whole cc0_scratch7).view.writes (Elt F) s.s16 (R.2.2.2.2.2.2.2.2.1)⟩,
   ⟨o.o6, (st0_5 t).view.writes (Elt F) o.o7 (R.1), o.o8⟩)

/-- The step in case FT. -/
def bodyOutFT (c : Dev nD) (t : Fin cfg0.N) (h1 : ¬ k0_cond1 (grid0.coords t) = 1#1) (h2 : k0_cond2 (grid0.coords t) = 1#1) (s : Scr F) (o : OutB F t) : Scr F × OutB F t :=
  let R := bodyRunFT (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16
  (⟨s.s9, s.s10, s.s11, (Memref.whole cc0_scratch3).view.writes (Elt F) s.s12 (R.2.2.2.1), (Memref.whole cc0_scratch4).view.writes (Elt F) s.s13 (R.2.2.2.2.1), (Memref.whole cc0_scratch5).view.writes (Elt F) s.s14 (R.2.2.2.2.2.1), (Memref.whole cc0_scratch6).view.writes (Elt F) s.s15 (R.2.2.2.2.2.2.1), (Memref.whole cc0_scratch7).view.writes (Elt F) s.s16 (R.2.2.2.2.2.2.2.1)⟩,
   ⟨(st0_4 t).view.writes (Elt F) o.o6 (R.1), (st0_5 t).view.writes (Elt F) o.o7 (R.2.1), (st0_6 t).view.writes (Elt F) o.o8 (R.2.2.1)⟩)

/-- The step in case FF. -/
def bodyOutFF (c : Dev nD) (t : Fin cfg0.N) (h1 : ¬ k0_cond1 (grid0.coords t) = 1#1) (h2 : ¬ k0_cond2 (grid0.coords t) = 1#1) (s : Scr F) (o : OutB F t) : Scr F × OutB F t :=
  let R := bodyRunFF (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16
  (⟨s.s9, s.s10, s.s11, (Memref.whole cc0_scratch3).view.writes (Elt F) s.s12 (R.2.1), (Memref.whole cc0_scratch4).view.writes (Elt F) s.s13 (R.2.2.1), (Memref.whole cc0_scratch5).view.writes (Elt F) s.s14 (R.2.2.2.1), (Memref.whole cc0_scratch6).view.writes (Elt F) s.s15 (R.2.2.2.2.1), (Memref.whole cc0_scratch7).view.writes (Elt F) s.s16 (R.2.2.2.2.2.1)⟩,
   ⟨o.o6, (st0_5 t).view.writes (Elt F) o.o7 (R.1), o.o8⟩)

/-- The step the body makes at point `t` on the buffers it carries. -/
def bodyOut (c : Dev nD) (t : Fin cfg0.N) (s : Scr F) (o : OutB F t) : Scr F × OutB F t :=
  if h1 : k0_cond1 (grid0.coords t) = 1#1 then
    if h2 : k0_cond2 (grid0.coords t) = 1#1 then bodyOutTT m c t h1 h2 s o else bodyOutTF m c t h1 h2 s o
  else
    if h2 : k0_cond2 (grid0.coords t) = 1#1 then bodyOutFT m c t h1 h2 s o else bodyOutFF m c t h1 h2 s o

/-- The staging buffers of the four operands at their blocks. -/
abbrev inRes (c : Dev nD) (t : Fin cfg0.N) : sProp 𝕄 :=
  iprop(((st0_0 t).view.loc (c : Thread nD τ) ↦[(st0_0 t).view.set]{fullShare} ((hw0_0 t).unread (iblk m c 0 t))) ∗ ((st0_1 t).view.loc (c : Thread nD τ) ↦[(st0_1 t).view.set]{fullShare} ((hw0_1 t).unread (iblk m c 1 t))) ∗ ((st0_2 t).view.loc (c : Thread nD τ) ↦[(st0_2 t).view.set]{fullShare} ((hw0_2 t).unread (iblk m c 2 t))) ∗ ((st0_3 t).view.loc (c : Thread nD τ) ↦[(st0_3 t).view.set]{fullShare} ((hw0_3 t).unread (iblk m c 3 t))))

/-- The three result windows' staging buffers. -/
abbrev outRes (c : Dev nD) (t : Fin cfg0.N) (o : OutB F t) : sProp 𝕄 :=
  iprop(((st0_4 t).view.loc (c : Thread nD τ) ↦[(st0_4 t).view.set]{fullShare} o.o6) ∗ ((st0_5 t).view.loc (c : Thread nD τ) ↦[(st0_5 t).view.set]{fullShare} o.o7) ∗ ((st0_6 t).view.loc (c : Thread nD τ) ↦[(st0_6 t).view.set]{fullShare} o.o8))

/-- The eight scratch buffers. -/
abbrev scrRes (c : Dev nD) (s : Scr F) : sProp 𝕄 :=
  iprop(((Memref.whole cc0_scratch0).view.loc (c : Thread nD τ) ↦[(Memref.whole cc0_scratch0).view.set]{fullShare} s.s9) ∗ ((Memref.whole cc0_scratch1).view.loc (c : Thread nD τ) ↦[(Memref.whole cc0_scratch1).view.set]{fullShare} s.s10) ∗ ((Memref.whole cc0_scratch2).view.loc (c : Thread nD τ) ↦[(Memref.whole cc0_scratch2).view.set]{fullShare} s.s11) ∗ ((Memref.whole cc0_scratch3).view.loc (c : Thread nD τ) ↦[(Memref.whole cc0_scratch3).view.set]{fullShare} s.s12) ∗ ((Memref.whole cc0_scratch4).view.loc (c : Thread nD τ) ↦[(Memref.whole cc0_scratch4).view.set]{fullShare} s.s13) ∗ ((Memref.whole cc0_scratch5).view.loc (c : Thread nD τ) ↦[(Memref.whole cc0_scratch5).view.set]{fullShare} s.s14) ∗ ((Memref.whole cc0_scratch6).view.loc (c : Thread nD τ) ↦[(Memref.whole cc0_scratch6).view.set]{fullShare} s.s15) ∗ ((Memref.whole cc0_scratch7).view.loc (c : Thread nD τ) ↦[(Memref.whole cc0_scratch7).view.set]{fullShare} s.s16))

/-- The body's triple at point `t`, case TT. -/
theorem body_tripleTT (c : Dev nD) (t : Fin cfg0.N) (h1 : k0_cond1 (grid0.coords t) = 1#1) (h2 : k0_cond2 (grid0.coords t) = 1#1) (s : Scr F) (o : OutB F t) (K : PUnit → sProp 𝕄) :
    iprop(inRes m c t ∗ outRes c t o ∗ scrRes c s
        ∗ (iprop(inRes m c t ∗ outRes c t (bodyOutTT m c t h1 h2 s o).2 ∗ scrRes c (bodyOutTT m c t h1 h2 s o).1) -∗ K ⟨⟩))
      ⊢ wp frame (wpE (defs₀ (F := F)) Variants.none c none) Set.univ (bodyAt0 t) K := by
  unfold bodyOutTT bodyAt0
  dsimp only
  iintro ⟨⟨H2, H3, H4, H5⟩, ⟨H6, H7, H8⟩, ⟨H9, H10, H11, H12, H13, H14, H15, H16⟩, Hk⟩
  iapply ((bodyRunTT (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16).2.2.2.2.2.2.2.2.2.2.2 Set.univ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's triple at point `t`, case TF. -/
theorem body_tripleTF (c : Dev nD) (t : Fin cfg0.N) (h1 : k0_cond1 (grid0.coords t) = 1#1) (h2 : ¬ k0_cond2 (grid0.coords t) = 1#1) (s : Scr F) (o : OutB F t) (K : PUnit → sProp 𝕄) :
    iprop(inRes m c t ∗ outRes c t o ∗ scrRes c s
        ∗ (iprop(inRes m c t ∗ outRes c t (bodyOutTF m c t h1 h2 s o).2 ∗ scrRes c (bodyOutTF m c t h1 h2 s o).1) -∗ K ⟨⟩))
      ⊢ wp frame (wpE (defs₀ (F := F)) Variants.none c none) Set.univ (bodyAt0 t) K := by
  unfold bodyOutTF bodyAt0
  dsimp only
  iintro ⟨⟨H2, H3, H4, H5⟩, ⟨H6, H7, H8⟩, ⟨H9, H10, H11, H12, H13, H14, H15, H16⟩, Hk⟩
  iapply ((bodyRunTF (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16).2.2.2.2.2.2.2.2.2 Set.univ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's triple at point `t`, case FT. -/
theorem body_tripleFT (c : Dev nD) (t : Fin cfg0.N) (h1 : ¬ k0_cond1 (grid0.coords t) = 1#1) (h2 : k0_cond2 (grid0.coords t) = 1#1) (s : Scr F) (o : OutB F t) (K : PUnit → sProp 𝕄) :
    iprop(inRes m c t ∗ outRes c t o ∗ scrRes c s
        ∗ (iprop(inRes m c t ∗ outRes c t (bodyOutFT m c t h1 h2 s o).2 ∗ scrRes c (bodyOutFT m c t h1 h2 s o).1) -∗ K ⟨⟩))
      ⊢ wp frame (wpE (defs₀ (F := F)) Variants.none c none) Set.univ (bodyAt0 t) K := by
  unfold bodyOutFT bodyAt0
  dsimp only
  iintro ⟨⟨H2, H3, H4, H5⟩, ⟨H6, H7, H8⟩, ⟨H9, H10, H11, H12, H13, H14, H15, H16⟩, Hk⟩
  iapply ((bodyRunFT (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16).2.2.2.2.2.2.2.2 Set.univ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's triple at point `t`, case FF. -/
theorem body_tripleFF (c : Dev nD) (t : Fin cfg0.N) (h1 : ¬ k0_cond1 (grid0.coords t) = 1#1) (h2 : ¬ k0_cond2 (grid0.coords t) = 1#1) (s : Scr F) (o : OutB F t) (K : PUnit → sProp 𝕄) :
    iprop(inRes m c t ∗ outRes c t o ∗ scrRes c s
        ∗ (iprop(inRes m c t ∗ outRes c t (bodyOutFF m c t h1 h2 s o).2 ∗ scrRes c (bodyOutFF m c t h1 h2 s o).1) -∗ K ⟨⟩))
      ⊢ wp frame (wpE (defs₀ (F := F)) Variants.none c none) Set.univ (bodyAt0 t) K := by
  unfold bodyOutFF bodyAt0
  dsimp only
  iintro ⟨⟨H2, H3, H4, H5⟩, ⟨H6, H7, H8⟩, ⟨H9, H10, H11, H12, H13, H14, H15, H16⟩, Hk⟩
  iapply ((bodyRunFF (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16).2.2.2.2.2.2 Set.univ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's triple at point `t`. -/
theorem body_triple (c : Dev nD) (t : Fin cfg0.N) (s : Scr F) (o : OutB F t) (K : PUnit → sProp 𝕄) :
    iprop(inRes m c t ∗ outRes c t o ∗ scrRes c s
        ∗ (iprop(inRes m c t ∗ outRes c t (bodyOut m c t s o).2 ∗ scrRes c (bodyOut m c t s o).1) -∗ K ⟨⟩))
      ⊢ wp frame (wpE (defs₀ (F := F)) Variants.none c none) Set.univ (bodyAt0 t) K := by
  by_cases h1 : k0_cond1 (grid0.coords t) = 1#1
  · by_cases h2 : k0_cond2 (grid0.coords t) = 1#1
    · have e : bodyOut m c t s o = bodyOutTT m c t h1 h2 s o := by unfold bodyOut; rw [dif_pos h1, dif_pos h2]
      rw [e]; exact body_tripleTT m c t h1 h2 s o K
    · have e : bodyOut m c t s o = bodyOutTF m c t h1 h2 s o := by unfold bodyOut; rw [dif_pos h1, dif_neg h2]
      rw [e]; exact body_tripleTF m c t h1 h2 s o K
  · by_cases h2 : k0_cond2 (grid0.coords t) = 1#1
    · have e : bodyOut m c t s o = bodyOutFT m c t h1 h2 s o := by unfold bodyOut; rw [dif_neg h1, dif_pos h2]
      rw [e]; exact body_tripleFT m c t h1 h2 s o K
    · have e : bodyOut m c t s o = bodyOutFF m c t h1 h2 s o := by unfold bodyOut; rw [dif_neg h1, dif_neg h2]
      rw [e]; exact body_tripleFF m c t h1 h2 s o K

/-! ## The proof data for an invariant the step keeps -/

variable (Inv : Dev nD → ℕ → Scr F → Prop)
variable (Rl : Dev nD → (w : Fin cfg0.W) → Fin cfg0.N → ((cfg0.win w).block.Idx → Elt F (cfg0.win w).elt) → Prop)

/-- The step keeps the invariant, and what it leaves in the result windows meets `Rl`. -/
def Keeps : Prop := ∀ (c : Dev nD) (t : Fin cfg0.N) (s : Scr F) (o : OutB F t), Inv c t.val s →
  Inv c (t.val + 1) (bodyOut m c t s o).1
    ∧ Rl c 4 t ((st0_4 t).view.read (Elt F) (bodyOut m c t s o).2.o6)
    ∧ Rl c 5 t ((st0_5 t).view.read (Elt F) (bodyOut m c t s o).2.o7)
    ∧ Rl c 6 t ((st0_6 t).view.read (Elt F) (bodyOut m c t s o).2.o8)

/-- The result windows: what the body leaves there is held to a predicate. -/
def fgt : Fin cfg0.W → Bool
  | ⟨0, _⟩ => false | ⟨1, _⟩ => false | ⟨2, _⟩ => false | ⟨3, _⟩ => false
  | ⟨4, _⟩ => true | ⟨5, _⟩ => true | ⟨6, _⟩ => true

/-- The proof data: operands' buffers at their blocks, the scratch buffers at some contents that meet the invariant. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := iprop((∃ s : Scr F, ⌜Inv c t.val s⌝ ∗ scrRes c s) ∗ ∃ r, prngReg c r)
  q _ := fullShare
  owed _ := 0

theorem A_eq (c : Dev nD) (w : Fin cfg0.W) : (dat m Inv c).A w = V m c (Pipeline.arrRef spec0 w) := by
  dsimp only [dat]
theorem after0_0 (c : Dev nD) (t : Fin cfg0.N) : (dat m Inv c).after 0 t = iblk m c 0 t := by dsimp only [dat]
theorem after0_1 (c : Dev nD) (t : Fin cfg0.N) : (dat m Inv c).after 1 t = iblk m c 1 t := by dsimp only [dat]
theorem after0_2 (c : Dev nD) (t : Fin cfg0.N) : (dat m Inv c).after 2 t = iblk m c 2 t := by dsimp only [dat]
theorem after0_3 (c : Dev nD) (t : Fin cfg0.N) : (dat m Inv c).after 3 t = iblk m c 3 t := by dsimp only [dat]
theorem before0_0 (c : Dev nD) (t : Fin cfg0.N) (d) : (dat m Inv c).before 0 t d = iblk m c 0 t :=
  before0_0_of m (dat m Inv c) (A_eq m Inv c 0) (after0_0 m Inv c) t d
theorem before0_1 (c : Dev nD) (t : Fin cfg0.N) (d) : (dat m Inv c).before 1 t d = iblk m c 1 t :=
  before0_1_of m (dat m Inv c) (A_eq m Inv c 1) (after0_1 m Inv c) t d
theorem before0_2 (c : Dev nD) (t : Fin cfg0.N) (d) : (dat m Inv c).before 2 t d = iblk m c 2 t :=
  before0_2_of m (dat m Inv c) (A_eq m Inv c 2) (after0_2 m Inv c) t d
theorem before0_3 (c : Dev nD) (t : Fin cfg0.N) (d) : (dat m Inv c).before 3 t d = iblk m c 3 t :=
  before0_3_of m (dat m Inv c) (A_eq m Inv c 3) (after0_3 m Inv c) t d

/-- What the body is called with at point `t`, -/
def bodyPre (c : Dev nD) (t : Fin cfg0.N) : sProp 𝕄 :=
  iprop((dat m Inv c).Φ t.castSucc ∗ (dat m Inv c).owesAt () t.castSucc ∗ (∃ d, owns (c : Thread nD τ) (st0_0 t) fullShare ((dat m Inv c).before 0 t d)) ∗ (∃ d, owns (c : Thread nD τ) (st0_1 t) fullShare ((dat m Inv c).before 1 t d)) ∗ (∃ d, owns (c : Thread nD τ) (st0_2 t) fullShare ((dat m Inv c).before 2 t d)) ∗ (∃ d, owns (c : Thread nD τ) (st0_3 t) fullShare ((dat m Inv c).before 3 t d)) ∗ (∃ Y, ⌜((dat m Inv c).toRRel fgt (Rl c)).Finds 4 t Y⌝ ∗ owns (c : Thread nD τ) (st0_4 t) fullShare Y) ∗ (∃ Y, ⌜((dat m Inv c).toRRel fgt (Rl c)).Finds 5 t Y⌝ ∗ owns (c : Thread nD τ) (st0_5 t) fullShare Y) ∗ (∃ Y, ⌜((dat m Inv c).toRRel fgt (Rl c)).Finds 6 t Y⌝ ∗ owns (c : Thread nD τ) (st0_6 t) fullShare Y))

/-- and what it returns. -/
def bodyPost (c : Dev nD) (t : Fin cfg0.N) : sProp 𝕄 :=
  iprop((dat m Inv c).Φ t.succ ∗ (dat m Inv c).owesAt () t.succ ∗ owns (c : Thread nD τ) (st0_0 t) fullShare ((dat m Inv c).after 0 t) ∗ owns (c : Thread nD τ) (st0_1 t) fullShare ((dat m Inv c).after 1 t) ∗ owns (c : Thread nD τ) (st0_2 t) fullShare ((dat m Inv c).after 2 t) ∗ owns (c : Thread nD τ) (st0_3 t) fullShare ((dat m Inv c).after 3 t) ∗ (∃ X, ⌜Rl c 4 t X⌝ ∗ owns (c : Thread nD τ) (st0_4 t) fullShare X) ∗ (∃ X, ⌜Rl c 5 t X⌝ ∗ owns (c : Thread nD τ) (st0_5 t) fullShare X) ∗ (∃ X, ⌜Rl c 6 t X⌝ ∗ owns (c : Thread nD τ) (st0_6 t) fullShare X))

theorem sound_body (hK : Keeps m Inv Rl) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost
  simp only [before0_0, before0_1, before0_2, before0_3]
  rw [show (dat m Inv c).owesAt () t.succ = (dat m Inv c).owesAt () t.castSucc from rfl,
    show (dat m Inv c).Φ t.castSucc = iprop((∃ s : Scr F, ⌜Inv c t.val s⌝ ∗ scrRes c s) ∗ ∃ r, prngReg c r) from rfl,
    show (dat m Inv c).Φ t.succ = iprop((∃ s : Scr F, ⌜Inv c (t.val + 1) s⌝ ∗ scrRes c s) ∗ ∃ r, prngReg c r) from rfl,
    after0_0, after0_1, after0_2, after0_3]
  unfold owns
  iintro ⟨⟨⟨%s, %hs, Hs⟩, Hr⟩, Ho, ⟨%d2, %f2, %hf2, H2⟩, ⟨%d3, %f3, %hf3, H3⟩, ⟨%d4, %f4, %hf4, H4⟩, ⟨%d5, %f5, %hf5, H5⟩, ⟨%Y6, %hY6, %f6, %hf6, H6⟩, ⟨%Y7, %hY7, %f7, %hf7, H7⟩, ⟨%Y8, %hY8, %f8, %hf8, H8⟩⟩
  obtain rfl := (hw0_0 t).eq_unread hf2
  obtain rfl := (hw0_1 t).eq_unread hf3
  obtain rfl := (hw0_2 t).eq_unread hf4
  obtain rfl := (hw0_3 t).eq_unread hf5
  have hk := hK c t s ⟨f6, f7, f8⟩ hs
  iapply (body_triple m c t s ⟨f6, f7, f8⟩ _)
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [Hs]; · iexact Hs
  iintro ⟨⟨H2, H3, H4, H5⟩, ⟨H6, H7, H8⟩, Hs⟩
  isplitl [Hs Hr]
  · isplitl [Hs]
    · iexists _; isplitr; · ipureintro; exact hk.1
      iexact Hs
    iexact Hr
  isplitl [Ho]; · iexact Ho
  isplitl [H2]; · iexists _; isplitr; · ipureintro; exact (hw0_0 t).read_unread _
                  iexact H2
  isplitl [H3]; · iexists _; isplitr; · ipureintro; exact (hw0_1 t).read_unread _
                  iexact H3
  isplitl [H4]; · iexists _; isplitr; · ipureintro; exact (hw0_2 t).read_unread _
                  iexact H4
  isplitl [H5]; · iexists _; isplitr; · ipureintro; exact (hw0_3 t).read_unread _
                  iexact H5
  isplitl [H6]
  · iexists _; isplitr; · ipureintro; exact hk.2.1
    iexists _; isplitr; · ipureintro; rfl
    iexact H6
  isplitl [H7]
  · iexists _; isplitr; · ipureintro; exact hk.2.2.1
    iexists _; isplitr; · ipureintro; rfl
    iexact H7
  iexists _; isplitr; · ipureintro; exact hk.2.2.2
  iexists _; isplitr; · ipureintro; rfl
  iexact H8

theorem defs₀_row (t : Fin cfg0.N) :
    defs₀ (F := F) .tc cfg0.body (cfg0.bodyArgs t (cfg0.slots t)) = bodyAt0 t := by
  unfold defs₀; rw [Defs.onTc_tc]

theorem body_obligation (hK : Keeps m Inv Rl) (c : Dev nD) :
    BodyObligationRel (dat (F := F) m Inv c) (defs₀ (F := F)) Variants.none () Set.univ fgt (Rl c) := fun t => by
  rw [bigSep_W0, bigSep_W0, defs₀_row]
  exact triple_restated (sound_body m Inv Rl hK c t) rfl .rfl fun _ => .rfl

/-! ## The launch -/

/-- The scratch buffers at some contents are the region's scoped rest. -/
theorem scr_of_rest (c : Dev nD) : Pipeline.ΦA (U := UR sig nD τ) spec0 c ⊢ (iprop((∃ s : Scr F, scrRes c s) ∗ ∃ r, prngReg c r) : sProp 𝕄) := by
  unfold Pipeline.ΦA
  rw [scopedRest0_eq]
  unfold scrRes
  simp only [(Memref.isWhole_whole _).set_eq_univ]
  iintro ⟨⟨⟨%f9, H9⟩, ⟨%f10, H10⟩, ⟨%f11, H11⟩, ⟨%f12, H12⟩, ⟨%f13, H13⟩, ⟨%f14, H14⟩, ⟨%f15, H15⟩, ⟨%f16, H16⟩⟩, Hr⟩
  isplitr [Hr]
  · iexists (⟨f9, f10, f11, f12, f13, f14, f15, f16⟩ : Scr F)
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hr

theorem rest_of_scr (c : Dev nD) : (iprop((∃ s : Scr F, scrRes c s) ∗ ∃ r, prngReg c r) : sProp 𝕄) ⊢ Pipeline.ΦA (U := UR sig nD τ) spec0 c := by
  unfold Pipeline.ΦA
  rw [scopedRest0_eq]
  unfold scrRes
  simp only [(Memref.isWhole_whole _).set_eq_univ]
  iintro ⟨⟨%s, H9, H10, H11, H12, H13, H14, H15, H16⟩, Hr⟩
  isplitr [Hr]
  · isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  iexact Hr

/-- The relational proof data of the launch. -/
abbrev rdat (c : Dev nD) : RDat τ (Elt F) Unit ℕ (UR sig nD τ) ℕ cfg0 c := (dat m Inv c).toRRel fgt (Rl c)

set_option backward.isDefEq.respectTransparency.types false in
/-- THE LAUNCH: every weakly fair execution of @main terminates, with the arrays at what the proof data say and every
    semaphore counter at zero. -/
theorem run_main (hK : Keeps m Inv Rl) (h0 : ∀ c s, Inv c 0 s) :
    θ_run defs (onTc (τ := τ) (main (F := F))) (s₀ m ρ)
      (fun r => RDat.FramePost cfg0 (rdat m Inv Rl) (V m) r ∧ r.2.sem = fun _ => 0) :=
  RDat.θ_run_frame_track (Q' := _) cfgs (0 : Fin 1) launch0 defs₀ Variants.none (rdat m Inv Rl) m ρ main
    (hbody := fun c => (body_obligation m Inv Rl hK c).toRRel) (hshare := fun c => (dat m Inv c).share_full fun _ => rfl)
    (howed := fun _ _ => rfl) (V := V m) (hmain := hmain m Variants.none) (hA := A_eq m Inv)
    (hin := fun c => (scr_of_rest c).trans (by
      show _ ⊢ iprop((∃ s : Scr F, ⌜Inv c 0 s⌝ ∗ scrRes c s) ∗ ∃ r, prngReg c r)
      iintro ⟨⟨%s, H⟩, Hr⟩
      isplitl [H]
      · iexists s; isplitr; · ipureintro; exact h0 c s
        iexact H
      iexact Hr))
    (hout := fun c => BIBase.Entails.trans (by
      show iprop((∃ s : Scr F, ⌜Inv c cfg0.N s⌝ ∗ scrRes c s) ∗ ∃ r, prngReg c r) ⊢ iprop((∃ s : Scr F, scrRes c s) ∗ ∃ r, prngReg c r)
      iintro ⟨⟨%s, -, H⟩, Hr⟩
      isplitl [H]; · iexists s; iexact H
      iexact Hr) (rest_of_scr c))

/-- The argument arrays end as they began. -/
theorem unchanged_of_post (r : PUnit × MemSt nD τ sig (Elt F)) (h : RDat.FramePost cfg0 (rdat m Inv Rl) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    (RDat.FramePost.arr_in h c 3 rfl).trans ((A_eq m Inv c 3).trans (V_main_arg1 m c))⟩

/-- THE FRAME: every execution terminates, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => unchanged_of_post m (fun _ _ _ => True) (fun _ _ _ _ => True) r h.1 c, h.2⟩)
    (run_main m ρ (fun _ _ _ => True) (fun _ _ _ _ => True) (fun _ _ _ _ _ => ⟨trivial, trivial, trivial, trivial⟩) fun _ _ => trivial)

end Cert.Kernel.Gen

end
-- ==== Proof.PI.Loop2.lean ====
/- The lane-block loop of the kernel (`k0_t2_loop`) as an invariant `sl_exec` goes through: one trip is run once at
   a symbolic trip number, and the pieces it stores are named as the run finds them. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### `k0_t2_loop`: its invariant -/

/-- One trip's resources: what the region reads (arg2, arg5, arg9, arg10, arg11) at its contents,
   what it writes (arg7, arg12, arg13, arg14, arg15, arg16) at any. -/
abbrev Trip_k0_t2 (c : Dev nD) (arg2 : Memref sig .tc .smem S20 .f32) (arg5 : Memref sig .tc .vmem S128x512 .bf16) (arg9 : Memref sig .tc .vmem S16x20x160x256 .bf16) (arg10 : Memref sig .tc .vmem S16x10x16x256 .bf16) (arg11 : Memref sig .tc .vmem S16x128x384 .bf16) (arg7 : Memref sig .tc .vmem S1x20x64x512 .i8) (arg12 : Memref sig .tc .vmem S16x512 .f32) (arg13 : Memref sig .tc .vmem S16x512 .f32) (arg14 : Memref sig .tc .vmem S20x128x512 .f32) (arg15 : Memref sig .tc .vmem S128x256 .f32) (arg16 : Memref sig .tc .vmem S128x256 .f32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (f_arg7 : BufTy.Contents (Elt F) arg7.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : sProp 𝕄G :=
  iprop((arg2.view.loc (c : Thread nD τ) ↦[arg2.view.set]{fullShare} X_arg2) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg7.view.loc (c : Thread nD τ) ↦[arg7.view.set]{fullShare} f_arg7) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16))

/-- ONE TRIP of `k0_t2_loop` at a symbolic `k`, run by `sl_exec` (its rectangles where the program's
   in-range evidence puts them, their places unread): the pieces it writes into arg7, arg12, arg13,
   arg14, arg15, arg16 are the run's own finds — the witnesses `sl_close` assigns handing the
   buffers to the continuation, as functions of the contents the trip finds in the memrefs it writes
   (the region loads some of them back). `@[irreducible]`: cited, never unfolded. -/
@[irreducible] def trip_k0_t2 (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (k : Fin k0_t2_loop.trips) :
    Σ' (L_arg7 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x20x64x512 .i8))) (L_arg12 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S16x512 .f32))) (L_arg13 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S16x512 .f32))) (L_arg14 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S20x128x512 .f32))) (L_arg15 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x256 .f32))) , { L_arg16 : (BufTy.Contents (Elt F) arg7.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x256 .f32)) // ∀ (E : Set ℕ) (f_arg7 : BufTy.Contents (Elt F) arg7.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty),
      Trip_k0_t2 (F := F) c arg2 arg5 arg9 arg10 arg11 arg7 arg12 arg13 arg14 arg15 arg16 X_arg2 X_arg5 X_arg9 X_arg10 X_arg11 f_arg7 f_arg12 f_arg13 f_arg14 f_arg15 f_arg16
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k PUnit.unit)
          (fun _ => Trip_k0_t2 (F := F) c arg2 arg5 arg9 arg10 arg11 arg7 arg12 arg13 arg14 arg15 arg16 X_arg2 X_arg5 X_arg9 X_arg10 X_arg11 (arg7.view.writes (Elt F) f_arg7 (L_arg7 f_arg7 f_arg12 f_arg13 f_arg14 f_arg15 f_arg16)) (arg12.view.writes (Elt F) f_arg12 (L_arg12 f_arg7 f_arg12 f_arg13 f_arg14 f_arg15 f_arg16)) (arg13.view.writes (Elt F) f_arg13 (L_arg13 f_arg7 f_arg12 f_arg13 f_arg14 f_arg15 f_arg16)) (arg14.view.writes (Elt F) f_arg14 (L_arg14 f_arg7 f_arg12 f_arg13 f_arg14 f_arg15 f_arg16)) (arg15.view.writes (Elt F) f_arg15 (L_arg15 f_arg7 f_arg12 f_arg13 f_arg14 f_arg15 f_arg16)) (arg16.view.writes (Elt F) f_arg16 (L_arg16 f_arg7 f_arg12 f_arg13 f_arg14 f_arg15 f_arg16))) } := by
  have hk : k.val < 2 := Nat.lt_of_lt_of_le k.isLt k0_t2_abs.2.1
  refine ⟨?_, ?_, ?_, ?_, ?_, ?_, fun E f_arg7 f_arg12 f_arg13 f_arg14 f_arg15 f_arg16 => ?run⟩
  case run =>
    unfold k0_t2_body
    iintro ⟨HR_arg2, HR_arg5, HR_arg9, HR_arg10, HR_arg11, HW_arg7, HW_arg12, HW_arg13, HW_arg14, HW_arg15, HW_arg16⟩
    sl_exec
    sl_step
    sl_close

/-- The trip's piece lists (plain projections of `trip_…`, for the recursion below to cite without
   its proof), at the contents the trip finds in the written memrefs. -/
abbrev tripL_k0_t2 (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (k : Fin k0_t2_loop.trips) (f_arg7 : BufTy.Contents (Elt F) arg7.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : List (View.Piece (Elt F) S1x20x64x512 .i8) × List (View.Piece (Elt F) S16x512 .f32) × List (View.Piece (Elt F) S16x512 .f32) × List (View.Piece (Elt F) S20x128x512 .f32) × List (View.Piece (Elt F) S128x256 .f32) × List (View.Piece (Elt F) S128x256 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.2.1 f_arg7 f_arg12 f_arg13 f_arg14 f_arg15 f_arg16, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.2.2.1 f_arg7 f_arg12 f_arg13 f_arg14 f_arg15 f_arg16)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (prev : List (View.Piece (Elt F) S1x20x64x512 .i8) × List (View.Piece (Elt F) S16x512 .f32) × List (View.Piece (Elt F) S16x512 .f32) × List (View.Piece (Elt F) S20x128x512 .f32) × List (View.Piece (Elt F) S128x256 .f32) × List (View.Piece (Elt F) S128x256 .f32)) : List (View.Piece (Elt F) S1x20x64x512 .i8) × List (View.Piece (Elt F) S16x512 .f32) × List (View.Piece (Elt F) S16x512 .f32) × List (View.Piece (Elt F) S20x128x512 .f32) × List (View.Piece (Elt F) S128x256 .f32) × List (View.Piece (Elt F) S128x256 .f32) :=
  if h : k < k0_t2_loop.trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.2.1 ++ prev.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.2.2.1 ++ prev.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.2.2.2.1 ++ prev.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 ⟨k, h⟩ (arg7.view.writes (Elt F) G_arg7 prev.1) (arg12.view.writes (Elt F) G_arg12 prev.2.1) (arg13.view.writes (Elt F) G_arg13 prev.2.2.1) (arg14.view.writes (Elt F) G_arg14 prev.2.2.2.1) (arg15.view.writes (Elt F) G_arg15 prev.2.2.2.2.1) (arg16.view.writes (Elt F) G_arg16 prev.2.2.2.2.2)).2.2.2.2.2 ++ prev.2.2.2.2.2)
  else prev

/-- The pieces of the trips before `k` (last first), per written memref, starting from the contents
   `G_·` at loop entry; each trip's pieces taken at the contents the earlier trips left. -/
def pb_k0_t2 (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) : ℕ → List (View.Piece (Elt F) S1x20x64x512 .i8) × List (View.Piece (Elt F) S16x512 .f32) × List (View.Piece (Elt F) S16x512 .f32) × List (View.Piece (Elt F) S20x128x512 .f32) × List (View.Piece (Elt F) S128x256 .f32) × List (View.Piece (Elt F) S128x256 .f32)
  | 0 => ([], [], [], [], [], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k)

theorem pb_k0_t2_succ (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k (arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).1) (arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.1) (arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.1) (arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.1) (arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2)).2.2.2.2.2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k.val).2.2.2.2.2) := by
  rw [pb_k0_t2.eq_2]; unfold pb_k0_t2Step; exact dif_pos k.isLt

/-- THE INVARIANT before trip `k`: arg2, arg5, arg9, arg10, arg11 read at `X_·`; arg7, arg12, arg13,
   arg14, arg15, arg16 holding the pieces of the trips before `k` written over the contents at loop
   entry `G_·` (stated `∃ f, … ∗ ⌜f = …⌝`, so that a hypothesis of any contents matches and the
   equation is what is proved). -/
abbrev inv_k0_t2 (𝒱 : Variants) (c : Dev nD) (bd : Option 𝒱.V) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (_u : PUnit) : sProp 𝕄G :=
  iprop((arg2.view.loc (c : Thread nD τ) ↦[arg2.view.set]{fullShare} X_arg2) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (∃ f, (arg7.view.loc (c : Thread nD τ) ↦[arg7.view.set]{fullShare} f) ∗ ⌜f = arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).1⌝) ∗ (∃ f, (arg12.view.loc (c : Thread nD τ) ↦[arg12.view.set]{fullShare} f) ∗ ⌜f = arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.1⌝) ∗ (∃ f, (arg13.view.loc (c : Thread nD τ) ↦[arg13.view.set]{fullShare} f) ∗ ⌜f = arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.2.1⌝) ∗ (∃ f, (arg14.view.loc (c : Thread nD τ) ↦[arg14.view.set]{fullShare} f) ∗ ⌜f = arg14.view.writes (Elt F) G_arg14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.2.2.1⌝) ∗ (∃ f, (arg15.view.loc (c : Thread nD τ) ↦[arg15.view.set]{fullShare} f) ∗ ⌜f = arg15.view.writes (Elt F) G_arg15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.2.2.2.1⌝) ∗ (∃ f, (arg16.view.loc (c : Thread nD τ) ↦[arg16.view.set]{fullShare} f) ∗ ⌜f = arg16.view.writes (Elt F) G_arg16 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16 k).2.2.2.2.2⌝))

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (arg1 : BitVec 32) (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (G_arg7 : BufTy.Contents (Elt F) arg7.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 G_arg7 G_arg12 G_arg13 G_arg14 G_arg15 G_arg16
  step k acc := by
    iintro ⟨HR_arg2, HR_arg5, HR_arg9, HR_arg10, HR_arg11, ⟨%f_arg7, HW_arg7, %h_arg7⟩, ⟨%f_arg12, HW_arg12, %h_arg12⟩, ⟨%f_arg13, HW_arg13, %h_arg13⟩, ⟨%f_arg14, HW_arg14, %h_arg14⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg2 HR_arg5 HR_arg9 HR_arg10 HR_arg11 HW_arg7 HW_arg12 HW_arg13 HW_arg14 HW_arg15 HW_arg16]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.2.2.2 E f_arg7 f_arg12 f_arg13 f_arg14 f_arg15 f_arg16)
      isplitl [HR_arg2]; · iexact HR_arg2
      isplitl [HR_arg5]; · iexact HR_arg5
      isplitl [HR_arg9]; · iexact HR_arg9
      isplitl [HR_arg10]; · iexact HR_arg10
      isplitl [HR_arg11]; · iexact HR_arg11
      isplitl [HW_arg7]; · iexact HW_arg7
      isplitl [HW_arg12]; · iexact HW_arg12
      isplitl [HW_arg13]; · iexact HW_arg13
      isplitl [HW_arg14]; · iexact HW_arg14
      isplitl [HW_arg15]; · iexact HW_arg15
      iexact HW_arg16
    · iintro %_ ⟨HR_arg2, HR_arg5, HR_arg9, HR_arg10, HR_arg11, HW_arg7, HW_arg12, HW_arg13, HW_arg14, HW_arg15, HW_arg16⟩
      isplitl [HR_arg2]; · iexact HR_arg2
      isplitl [HR_arg5]; · iexact HR_arg5
      isplitl [HR_arg9]; · iexact HR_arg9
      isplitl [HR_arg10]; · iexact HR_arg10
      isplitl [HR_arg11]; · iexact HR_arg11
      rw [pb_k0_t2_succ]
      isplitl [HW_arg7]
      · iexists _; isplitl [HW_arg7]; · iexact HW_arg7
        ipureintro; rw [h_arg7, h_arg12, h_arg13, h_arg14, h_arg15, h_arg16, ← View.writes_append]
      isplitl [HW_arg12]
      · iexists _; isplitl [HW_arg12]; · iexact HW_arg12
        ipureintro; rw [h_arg7, h_arg12, h_arg13, h_arg14, h_arg15, h_arg16, ← View.writes_append]
      isplitl [HW_arg13]
      · iexists _; isplitl [HW_arg13]; · iexact HW_arg13
        ipureintro; rw [h_arg7, h_arg12, h_arg13, h_arg14, h_arg15, h_arg16, ← View.writes_append]
      isplitl [HW_arg14]
      · iexists _; isplitl [HW_arg14]; · iexact HW_arg14
        ipureintro; rw [h_arg7, h_arg12, h_arg13, h_arg14, h_arg15, h_arg16, ← View.writes_append]
      isplitl [HW_arg15]
      · iexists _; isplitl [HW_arg15]; · iexact HW_arg15
        ipureintro; rw [h_arg7, h_arg12, h_arg13, h_arg14, h_arg15, h_arg16, ← View.writes_append]
      iexists _; isplitl [HW_arg16]; · iexact HW_arg16
      ipureintro; rw [h_arg7, h_arg12, h_arg13, h_arg14, h_arg15, h_arg16, ← View.writes_append]

end Cert.KernelIdeal.Gen

end
-- ==== Proof.PI.Run.lean ====
/- The kernel's body run once per case of its two conditionals: the pieces every buffer ends with are the run's own
   finds, as functions of the contents the body finds. -/
module

public import proofs.«01_k».proof.Proof.PI.Loop2
public import proofs.«01_k».proof.Proof.Gen.KernelIdeal.Frame

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body's run: the first lane step of a group, and the last group. -/
@[irreducible] def bodyRunTT (c : Dev nD) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (hc1 : k0_cond1 i = 1#1) (hc2 : k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L6 : List (View.Piece (Elt F) S20x16x512 .f32)) (L7 : List (View.Piece (Elt F) S1x20x64x512 .i8)) (L8 : List (View.Piece (Elt F) S20x16x512 .f32)) (L9 : List (View.Piece (Elt F) S16x20x160x256 .bf16)) (L10 : List (View.Piece (Elt F) S16x10x16x256 .bf16)) (L11 : List (View.Piece (Elt F) S16x128x384 .bf16)) (L12 : List (View.Piece (Elt F) S16x512 .f32)) (L13 : List (View.Piece (Elt F) S16x512 .f32)) (L14 : List (View.Piece (Elt F) S20x128x512 .f32)) (L15 : List (View.Piece (Elt F) S128x256 .f32)), { L16 : List (View.Piece (Elt F) S128x256 .f32) //
      ∀ (E : Set ℕ) (K : PUnit → sProp 𝕄G),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt F) X6 L6)) ∗ (arg7.view.loc (c : Thread nD τ) ↦[arg7.view.set]{fullShare} (arg7.view.writes (Elt F) X7 L7)) ∗ (arg8.view.loc (c : Thread nD τ) ↦[arg8.view.set]{fullShare} (arg8.view.writes (Elt F) X8 L8)) ∗ (arg9.view.loc (c : Thread nD τ) ↦[arg9.view.set]{fullShare} (arg9.view.writes (Elt F) X9 L9)) ∗ (arg10.view.loc (c : Thread nD τ) ↦[arg10.view.set]{fullShare} (arg10.view.writes (Elt F) X10 L10)) ∗ (arg11.view.loc (c : Thread nD τ) ↦[arg11.view.set]{fullShare} (arg11.view.writes (Elt F) X11 L11)) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16))) -∗ K ⟨⟩))
          ⊢ wp frame (wpE (defs₀ (F := F)) Variants.none c none) E (cc0_awq_clip_search i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, fun E K => ?run⟩
  case run =>
    simp only [cc0_awq_clip_search_eq_skeleton]; unfold cc0_awq_clip_search_skel
    iintro ⟨H2, H3, H4, H5, H6, H7, H8, H9, H10, H11, H12, H13, H14, H15, H16, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body's run: the first lane step of a group that is not the last. -/
@[irreducible] def bodyRunTF (c : Dev nD) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (hc1 : k0_cond1 i = 1#1) (hc2 : ¬ k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L7 : List (View.Piece (Elt F) S1x20x64x512 .i8)) (L9 : List (View.Piece (Elt F) S16x20x160x256 .bf16)) (L10 : List (View.Piece (Elt F) S16x10x16x256 .bf16)) (L11 : List (View.Piece (Elt F) S16x128x384 .bf16)) (L12 : List (View.Piece (Elt F) S16x512 .f32)) (L13 : List (View.Piece (Elt F) S16x512 .f32)) (L14 : List (View.Piece (Elt F) S20x128x512 .f32)) (L15 : List (View.Piece (Elt F) S128x256 .f32)), { L16 : List (View.Piece (Elt F) S128x256 .f32) //
      ∀ (E : Set ℕ) (K : PUnit → sProp 𝕄G),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) X7 L7)) ∗ (arg8.view.loc (c : Thread nD τ) ↦[arg8.view.set]{fullShare} X8) ∗ (arg9.view.loc (c : Thread nD τ) ↦[arg9.view.set]{fullShare} (arg9.view.writes (Elt F) X9 L9)) ∗ (arg10.view.loc (c : Thread nD τ) ↦[arg10.view.set]{fullShare} (arg10.view.writes (Elt F) X10 L10)) ∗ (arg11.view.loc (c : Thread nD τ) ↦[arg11.view.set]{fullShare} (arg11.view.writes (Elt F) X11 L11)) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16))) -∗ K ⟨⟩))
          ⊢ wp frame (wpE (defs₀ (F := F)) Variants.none c none) E (cc0_awq_clip_search i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0_awq_clip_search_eq_skeleton]; unfold cc0_awq_clip_search_skel
    iintro ⟨H2, H3, H4, H5, H6, H7, H8, H9, H10, H11, H12, H13, H14, H15, H16, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body's run: a later lane step at the last group. -/
@[irreducible] def bodyRunFT (c : Dev nD) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (hc1 : ¬ k0_cond1 i = 1#1) (hc2 : k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L6 : List (View.Piece (Elt F) S20x16x512 .f32)) (L7 : List (View.Piece (Elt F) S1x20x64x512 .i8)) (L8 : List (View.Piece (Elt F) S20x16x512 .f32)) (L12 : List (View.Piece (Elt F) S16x512 .f32)) (L13 : List (View.Piece (Elt F) S16x512 .f32)) (L14 : List (View.Piece (Elt F) S20x128x512 .f32)) (L15 : List (View.Piece (Elt F) S128x256 .f32)), { L16 : List (View.Piece (Elt F) S128x256 .f32) //
      ∀ (E : Set ℕ) (K : PUnit → sProp 𝕄G),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} (arg6.view.writes (Elt F) X6 L6)) ∗ (arg7.view.loc (c : Thread nD τ) ↦[arg7.view.set]{fullShare} (arg7.view.writes (Elt F) X7 L7)) ∗ (arg8.view.loc (c : Thread nD τ) ↦[arg8.view.set]{fullShare} (arg8.view.writes (Elt F) X8 L8)) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16))) -∗ K ⟨⟩))
          ⊢ wp frame (wpE (defs₀ (F := F)) Variants.none c none) E (cc0_awq_clip_search i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_awq_clip_search_eq_skeleton]; unfold cc0_awq_clip_search_skel
    iintro ⟨H2, H3, H4, H5, H6, H7, H8, H9, H10, H11, H12, H13, H14, H15, H16, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body's run: a later lane step at a group that is not the last. -/
@[irreducible] def bodyRunFF (c : Dev nD) (i : grid0.Coords) (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole) (hc1 : ¬ k0_cond1 i = 1#1) (hc2 : ¬ k0_cond2 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) :
    Σ' (L7 : List (View.Piece (Elt F) S1x20x64x512 .i8)) (L12 : List (View.Piece (Elt F) S16x512 .f32)) (L13 : List (View.Piece (Elt F) S16x512 .f32)) (L14 : List (View.Piece (Elt F) S20x128x512 .f32)) (L15 : List (View.Piece (Elt F) S128x256 .f32)), { L16 : List (View.Piece (Elt F) S128x256 .f32) //
      ∀ (E : Set ℕ) (K : PUnit → sProp 𝕄G),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) X7 L7)) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (arg14.view.loc (c : Thread nD τ) ↦[arg14.view.set]{fullShare} (arg14.view.writes (Elt F) X14 L14)) ∗ (arg15.view.loc (c : Thread nD τ) ↦[arg15.view.set]{fullShare} (arg15.view.writes (Elt F) X15 L15)) ∗ (arg16.view.loc (c : Thread nD τ) ↦[arg16.view.set]{fullShare} (arg16.view.writes (Elt F) X16 L16))) -∗ K ⟨⟩))
          ⊢ wp frame (wpE (defs₀ (F := F)) Variants.none c none) E (cc0_awq_clip_search i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_awq_clip_search_eq_skeleton]; unfold cc0_awq_clip_search_skel
    iintro ⟨H2, H3, H4, H5, H6, H7, H8, H9, H10, H11, H12, H13, H14, H15, H16, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Gen

end
-- ==== Proof.PI.Body.lean ====
/- The kernel's body at one grid point as a step on the buffers it carries, the pipeline's body obligation for any
   invariant the step keeps, and the launch. -/
module

public import proofs.«01_k».proof.Proof.PI.Run
public import Idealize.ShloMosaic.Lib.Pipeline.DatRel
public import Idealize.ShloMosaic.Lib.Pipeline.ArrRel
public import Idealize.ShloMosaic.Lib.Claim

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body carries -/

theorem hw0_0 (t : Fin cfg0.N) : (st0_0 t).IsWhole := hstage0_0 ((cfg0.slots t 0).cast nbuf0_0)
theorem hw0_1 (t : Fin cfg0.N) : (st0_1 t).IsWhole := hstage0_1 ((cfg0.slots t 1).cast nbuf0_1)
theorem hw0_2 (t : Fin cfg0.N) : (st0_2 t).IsWhole := hstage0_2 ((cfg0.slots t 2).cast nbuf0_2)
theorem hw0_3 (t : Fin cfg0.N) : (st0_3 t).IsWhole := hstage0_3 ((cfg0.slots t 3).cast nbuf0_3)
theorem hw0_4 (t : Fin cfg0.N) : (st0_4 t).IsWhole := hstage0_4 ((cfg0.slots t 4).cast nbuf0_4)
theorem hw0_5 (t : Fin cfg0.N) : (st0_5 t).IsWhole := hstage0_5 ((cfg0.slots t 5).cast nbuf0_5)
theorem hw0_6 (t : Fin cfg0.N) : (st0_6 t).IsWhole := hstage0_6 ((cfg0.slots t 6).cast nbuf0_6)

/-- The contents of the eight scratch buffers: the three tables, the two rows, the accumulator and the two blocks. -/
structure Scr (F : FTy → Type) [FloatOps F] where
  s9 : BufTy.Contents (Elt F) (Memref.whole cc0_scratch0).view.ty
  s10 : BufTy.Contents (Elt F) (Memref.whole cc0_scratch1).view.ty
  s11 : BufTy.Contents (Elt F) (Memref.whole cc0_scratch2).view.ty
  s12 : BufTy.Contents (Elt F) (Memref.whole cc0_scratch3).view.ty
  s13 : BufTy.Contents (Elt F) (Memref.whole cc0_scratch4).view.ty
  s14 : BufTy.Contents (Elt F) (Memref.whole cc0_scratch5).view.ty
  s15 : BufTy.Contents (Elt F) (Memref.whole cc0_scratch6).view.ty
  s16 : BufTy.Contents (Elt F) (Memref.whole cc0_scratch7).view.ty

/-- The contents of the three result windows' staging buffers at point `t`. -/
structure OutB (F : FTy → Type) [FloatOps F] (t : Fin cfg0.N) where
  o6 : BufTy.Contents (Elt F) (st0_4 t).view.ty
  o7 : BufTy.Contents (Elt F) (st0_5 t).view.ty
  o8 : BufTy.Contents (Elt F) (st0_6 t).view.ty

/-- The step in case TT. -/
def bodyOutTT (c : Dev nD) (t : Fin cfg0.N) (h1 : k0_cond1 (grid0.coords t) = 1#1) (h2 : k0_cond2 (grid0.coords t) = 1#1) (s : Scr F) (o : OutB F t) : Scr F × OutB F t :=
  let R := bodyRunTT (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16
  (⟨(Memref.whole cc0_scratch0).view.writes (Elt F) s.s9 (R.2.2.2.1), (Memref.whole cc0_scratch1).view.writes (Elt F) s.s10 (R.2.2.2.2.1), (Memref.whole cc0_scratch2).view.writes (Elt F) s.s11 (R.2.2.2.2.2.1), (Memref.whole cc0_scratch3).view.writes (Elt F) s.s12 (R.2.2.2.2.2.2.1), (Memref.whole cc0_scratch4).view.writes (Elt F) s.s13 (R.2.2.2.2.2.2.2.1), (Memref.whole cc0_scratch5).view.writes (Elt F) s.s14 (R.2.2.2.2.2.2.2.2.1), (Memref.whole cc0_scratch6).view.writes (Elt F) s.s15 (R.2.2.2.2.2.2.2.2.2.1), (Memref.whole cc0_scratch7).view.writes (Elt F) s.s16 (R.2.2.2.2.2.2.2.2.2.2.1)⟩,
   ⟨(st0_4 t).view.writes (Elt F) o.o6 (R.1), (st0_5 t).view.writes (Elt F) o.o7 (R.2.1), (st0_6 t).view.writes (Elt F) o.o8 (R.2.2.1)⟩)

/-- The step in case TF. -/
def bodyOutTF (c : Dev nD) (t : Fin cfg0.N) (h1 : k0_cond1 (grid0.coords t) = 1#1) (h2 : ¬ k0_cond2 (grid0.coords t) = 1#1) (s : Scr F) (o : OutB F t) : Scr F × OutB F t :=
  let R := bodyRunTF (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16
  (⟨(Memref.whole cc0_scratch0).view.writes (Elt F) s.s9 (R.2.1), (Memref.whole cc0_scratch1).view.writes (Elt F) s.s10 (R.2.2.1), (Memref.whole cc0_scratch2).view.writes (Elt F) s.s11 (R.2.2.2.1), (Memref.whole cc0_scratch3).view.writes (Elt F) s.s12 (R.2.2.2.2.1), (Memref.whole cc0_scratch4).view.writes (Elt F) s.s13 (R.2.2.2.2.2.1), (Memref.whole cc0_scratch5).view.writes (Elt F) s.s14 (R.2.2.2.2.2.2.1), (Memref.whole cc0_scratch6).view.writes (Elt F) s.s15 (R.2.2.2.2.2.2.2.1), (Memref.whole cc0_scratch7).view.writes (Elt F) s.s16 (R.2.2.2.2.2.2.2.2.1)⟩,
   ⟨o.o6, (st0_5 t).view.writes (Elt F) o.o7 (R.1), o.o8⟩)

/-- The step in case FT. -/
def bodyOutFT (c : Dev nD) (t : Fin cfg0.N) (h1 : ¬ k0_cond1 (grid0.coords t) = 1#1) (h2 : k0_cond2 (grid0.coords t) = 1#1) (s : Scr F) (o : OutB F t) : Scr F × OutB F t :=
  let R := bodyRunFT (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16
  (⟨s.s9, s.s10, s.s11, (Memref.whole cc0_scratch3).view.writes (Elt F) s.s12 (R.2.2.2.1), (Memref.whole cc0_scratch4).view.writes (Elt F) s.s13 (R.2.2.2.2.1), (Memref.whole cc0_scratch5).view.writes (Elt F) s.s14 (R.2.2.2.2.2.1), (Memref.whole cc0_scratch6).view.writes (Elt F) s.s15 (R.2.2.2.2.2.2.1), (Memref.whole cc0_scratch7).view.writes (Elt F) s.s16 (R.2.2.2.2.2.2.2.1)⟩,
   ⟨(st0_4 t).view.writes (Elt F) o.o6 (R.1), (st0_5 t).view.writes (Elt F) o.o7 (R.2.1), (st0_6 t).view.writes (Elt F) o.o8 (R.2.2.1)⟩)

/-- The step in case FF. -/
def bodyOutFF (c : Dev nD) (t : Fin cfg0.N) (h1 : ¬ k0_cond1 (grid0.coords t) = 1#1) (h2 : ¬ k0_cond2 (grid0.coords t) = 1#1) (s : Scr F) (o : OutB F t) : Scr F × OutB F t :=
  let R := bodyRunFF (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16
  (⟨s.s9, s.s10, s.s11, (Memref.whole cc0_scratch3).view.writes (Elt F) s.s12 (R.2.1), (Memref.whole cc0_scratch4).view.writes (Elt F) s.s13 (R.2.2.1), (Memref.whole cc0_scratch5).view.writes (Elt F) s.s14 (R.2.2.2.1), (Memref.whole cc0_scratch6).view.writes (Elt F) s.s15 (R.2.2.2.2.1), (Memref.whole cc0_scratch7).view.writes (Elt F) s.s16 (R.2.2.2.2.2.1)⟩,
   ⟨o.o6, (st0_5 t).view.writes (Elt F) o.o7 (R.1), o.o8⟩)

/-- The step the body makes at point `t` on the buffers it carries. -/
def bodyOut (c : Dev nD) (t : Fin cfg0.N) (s : Scr F) (o : OutB F t) : Scr F × OutB F t :=
  if h1 : k0_cond1 (grid0.coords t) = 1#1 then
    if h2 : k0_cond2 (grid0.coords t) = 1#1 then bodyOutTT m c t h1 h2 s o else bodyOutTF m c t h1 h2 s o
  else
    if h2 : k0_cond2 (grid0.coords t) = 1#1 then bodyOutFT m c t h1 h2 s o else bodyOutFF m c t h1 h2 s o

/-- The staging buffers of the four operands at their blocks. -/
abbrev inRes (c : Dev nD) (t : Fin cfg0.N) : sProp 𝕄 :=
  iprop(((st0_0 t).view.loc (c : Thread nD τ) ↦[(st0_0 t).view.set]{fullShare} ((hw0_0 t).unread (iblk m c 0 t))) ∗ ((st0_1 t).view.loc (c : Thread nD τ) ↦[(st0_1 t).view.set]{fullShare} ((hw0_1 t).unread (iblk m c 1 t))) ∗ ((st0_2 t).view.loc (c : Thread nD τ) ↦[(st0_2 t).view.set]{fullShare} ((hw0_2 t).unread (iblk m c 2 t))) ∗ ((st0_3 t).view.loc (c : Thread nD τ) ↦[(st0_3 t).view.set]{fullShare} ((hw0_3 t).unread (iblk m c 3 t))))

/-- The three result windows' staging buffers. -/
abbrev outRes (c : Dev nD) (t : Fin cfg0.N) (o : OutB F t) : sProp 𝕄 :=
  iprop(((st0_4 t).view.loc (c : Thread nD τ) ↦[(st0_4 t).view.set]{fullShare} o.o6) ∗ ((st0_5 t).view.loc (c : Thread nD τ) ↦[(st0_5 t).view.set]{fullShare} o.o7) ∗ ((st0_6 t).view.loc (c : Thread nD τ) ↦[(st0_6 t).view.set]{fullShare} o.o8))

/-- The eight scratch buffers. -/
abbrev scrRes (c : Dev nD) (s : Scr F) : sProp 𝕄 :=
  iprop(((Memref.whole cc0_scratch0).view.loc (c : Thread nD τ) ↦[(Memref.whole cc0_scratch0).view.set]{fullShare} s.s9) ∗ ((Memref.whole cc0_scratch1).view.loc (c : Thread nD τ) ↦[(Memref.whole cc0_scratch1).view.set]{fullShare} s.s10) ∗ ((Memref.whole cc0_scratch2).view.loc (c : Thread nD τ) ↦[(Memref.whole cc0_scratch2).view.set]{fullShare} s.s11) ∗ ((Memref.whole cc0_scratch3).view.loc (c : Thread nD τ) ↦[(Memref.whole cc0_scratch3).view.set]{fullShare} s.s12) ∗ ((Memref.whole cc0_scratch4).view.loc (c : Thread nD τ) ↦[(Memref.whole cc0_scratch4).view.set]{fullShare} s.s13) ∗ ((Memref.whole cc0_scratch5).view.loc (c : Thread nD τ) ↦[(Memref.whole cc0_scratch5).view.set]{fullShare} s.s14) ∗ ((Memref.whole cc0_scratch6).view.loc (c : Thread nD τ) ↦[(Memref.whole cc0_scratch6).view.set]{fullShare} s.s15) ∗ ((Memref.whole cc0_scratch7).view.loc (c : Thread nD τ) ↦[(Memref.whole cc0_scratch7).view.set]{fullShare} s.s16))

/-- The body's triple at point `t`, case TT. -/
theorem body_tripleTT (c : Dev nD) (t : Fin cfg0.N) (h1 : k0_cond1 (grid0.coords t) = 1#1) (h2 : k0_cond2 (grid0.coords t) = 1#1) (s : Scr F) (o : OutB F t) (K : PUnit → sProp 𝕄) :
    iprop(inRes m c t ∗ outRes c t o ∗ scrRes c s
        ∗ (iprop(inRes m c t ∗ outRes c t (bodyOutTT m c t h1 h2 s o).2 ∗ scrRes c (bodyOutTT m c t h1 h2 s o).1) -∗ K ⟨⟩))
      ⊢ wp frame (wpE (defs₀ (F := F)) Variants.none c none) Set.univ (bodyAt0 t) K := by
  unfold bodyOutTT bodyAt0
  dsimp only
  iintro ⟨⟨H2, H3, H4, H5⟩, ⟨H6, H7, H8⟩, ⟨H9, H10, H11, H12, H13, H14, H15, H16⟩, Hk⟩
  iapply ((bodyRunTT (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16).2.2.2.2.2.2.2.2.2.2.2 Set.univ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's triple at point `t`, case TF. -/
theorem body_tripleTF (c : Dev nD) (t : Fin cfg0.N) (h1 : k0_cond1 (grid0.coords t) = 1#1) (h2 : ¬ k0_cond2 (grid0.coords t) = 1#1) (s : Scr F) (o : OutB F t) (K : PUnit → sProp 𝕄) :
    iprop(inRes m c t ∗ outRes c t o ∗ scrRes c s
        ∗ (iprop(inRes m c t ∗ outRes c t (bodyOutTF m c t h1 h2 s o).2 ∗ scrRes c (bodyOutTF m c t h1 h2 s o).1) -∗ K ⟨⟩))
      ⊢ wp frame (wpE (defs₀ (F := F)) Variants.none c none) Set.univ (bodyAt0 t) K := by
  unfold bodyOutTF bodyAt0
  dsimp only
  iintro ⟨⟨H2, H3, H4, H5⟩, ⟨H6, H7, H8⟩, ⟨H9, H10, H11, H12, H13, H14, H15, H16⟩, Hk⟩
  iapply ((bodyRunTF (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16).2.2.2.2.2.2.2.2.2 Set.univ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's triple at point `t`, case FT. -/
theorem body_tripleFT (c : Dev nD) (t : Fin cfg0.N) (h1 : ¬ k0_cond1 (grid0.coords t) = 1#1) (h2 : k0_cond2 (grid0.coords t) = 1#1) (s : Scr F) (o : OutB F t) (K : PUnit → sProp 𝕄) :
    iprop(inRes m c t ∗ outRes c t o ∗ scrRes c s
        ∗ (iprop(inRes m c t ∗ outRes c t (bodyOutFT m c t h1 h2 s o).2 ∗ scrRes c (bodyOutFT m c t h1 h2 s o).1) -∗ K ⟨⟩))
      ⊢ wp frame (wpE (defs₀ (F := F)) Variants.none c none) Set.univ (bodyAt0 t) K := by
  unfold bodyOutFT bodyAt0
  dsimp only
  iintro ⟨⟨H2, H3, H4, H5⟩, ⟨H6, H7, H8⟩, ⟨H9, H10, H11, H12, H13, H14, H15, H16⟩, Hk⟩
  iapply ((bodyRunFT (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16).2.2.2.2.2.2.2.2 Set.univ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's triple at point `t`, case FF. -/
theorem body_tripleFF (c : Dev nD) (t : Fin cfg0.N) (h1 : ¬ k0_cond1 (grid0.coords t) = 1#1) (h2 : ¬ k0_cond2 (grid0.coords t) = 1#1) (s : Scr F) (o : OutB F t) (K : PUnit → sProp 𝕄) :
    iprop(inRes m c t ∗ outRes c t o ∗ scrRes c s
        ∗ (iprop(inRes m c t ∗ outRes c t (bodyOutFF m c t h1 h2 s o).2 ∗ scrRes c (bodyOutFF m c t h1 h2 s o).1) -∗ K ⟨⟩))
      ⊢ wp frame (wpE (defs₀ (F := F)) Variants.none c none) Set.univ (bodyAt0 t) K := by
  unfold bodyOutFF bodyAt0
  dsimp only
  iintro ⟨⟨H2, H3, H4, H5⟩, ⟨H6, H7, H8⟩, ⟨H9, H10, H11, H12, H13, H14, H15, H16⟩, Hk⟩
  iapply ((bodyRunFF (F := F) c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) h1 h2 ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16).2.2.2.2.2.2 Set.univ K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's triple at point `t`. -/
theorem body_triple (c : Dev nD) (t : Fin cfg0.N) (s : Scr F) (o : OutB F t) (K : PUnit → sProp 𝕄) :
    iprop(inRes m c t ∗ outRes c t o ∗ scrRes c s
        ∗ (iprop(inRes m c t ∗ outRes c t (bodyOut m c t s o).2 ∗ scrRes c (bodyOut m c t s o).1) -∗ K ⟨⟩))
      ⊢ wp frame (wpE (defs₀ (F := F)) Variants.none c none) Set.univ (bodyAt0 t) K := by
  by_cases h1 : k0_cond1 (grid0.coords t) = 1#1
  · by_cases h2 : k0_cond2 (grid0.coords t) = 1#1
    · have e : bodyOut m c t s o = bodyOutTT m c t h1 h2 s o := by unfold bodyOut; rw [dif_pos h1, dif_pos h2]
      rw [e]; exact body_tripleTT m c t h1 h2 s o K
    · have e : bodyOut m c t s o = bodyOutTF m c t h1 h2 s o := by unfold bodyOut; rw [dif_pos h1, dif_neg h2]
      rw [e]; exact body_tripleTF m c t h1 h2 s o K
  · by_cases h2 : k0_cond2 (grid0.coords t) = 1#1
    · have e : bodyOut m c t s o = bodyOutFT m c t h1 h2 s o := by unfold bodyOut; rw [dif_neg h1, dif_pos h2]
      rw [e]; exact body_tripleFT m c t h1 h2 s o K
    · have e : bodyOut m c t s o = bodyOutFF m c t h1 h2 s o := by unfold bodyOut; rw [dif_neg h1, dif_neg h2]
      rw [e]; exact body_tripleFF m c t h1 h2 s o K

/-! ## The proof data for an invariant the step keeps -/

variable (Inv : Dev nD → ℕ → Scr F → Prop)
variable (Rl : Dev nD → (w : Fin cfg0.W) → Fin cfg0.N → ((cfg0.win w).block.Idx → Elt F (cfg0.win w).elt) → Prop)

/-- The step keeps the invariant, and what it leaves in the result windows meets `Rl`. -/
def Keeps : Prop := ∀ (c : Dev nD) (t : Fin cfg0.N) (s : Scr F) (o : OutB F t), Inv c t.val s →
  Inv c (t.val + 1) (bodyOut m c t s o).1
    ∧ Rl c 4 t ((st0_4 t).view.read (Elt F) (bodyOut m c t s o).2.o6)
    ∧ Rl c 5 t ((st0_5 t).view.read (Elt F) (bodyOut m c t s o).2.o7)
    ∧ Rl c 6 t ((st0_6 t).view.read (Elt F) (bodyOut m c t s o).2.o8)

/-- The result windows: what the body leaves there is held to a predicate. -/
def fgt : Fin cfg0.W → Bool
  | ⟨0, _⟩ => false | ⟨1, _⟩ => false | ⟨2, _⟩ => false | ⟨3, _⟩ => false
  | ⟨4, _⟩ => true | ⟨5, _⟩ => true | ⟨6, _⟩ => true

/-- The proof data: operands' buffers at their blocks, the scratch buffers at some contents that meet the invariant. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := iprop((∃ s : Scr F, ⌜Inv c t.val s⌝ ∗ scrRes c s) ∗ ∃ r, prngReg c r)
  q _ := fullShare
  owed _ := 0

theorem A_eq (c : Dev nD) (w : Fin cfg0.W) : (dat m Inv c).A w = V m c (Pipeline.arrRef spec0 w) := by
  dsimp only [dat]
theorem after0_0 (c : Dev nD) (t : Fin cfg0.N) : (dat m Inv c).after 0 t = iblk m c 0 t := by dsimp only [dat]
theorem after0_1 (c : Dev nD) (t : Fin cfg0.N) : (dat m Inv c).after 1 t = iblk m c 1 t := by dsimp only [dat]
theorem after0_2 (c : Dev nD) (t : Fin cfg0.N) : (dat m Inv c).after 2 t = iblk m c 2 t := by dsimp only [dat]
theorem after0_3 (c : Dev nD) (t : Fin cfg0.N) : (dat m Inv c).after 3 t = iblk m c 3 t := by dsimp only [dat]
theorem before0_0 (c : Dev nD) (t : Fin cfg0.N) (d) : (dat m Inv c).before 0 t d = iblk m c 0 t :=
  before0_0_of m (dat m Inv c) (A_eq m Inv c 0) (after0_0 m Inv c) t d
theorem before0_1 (c : Dev nD) (t : Fin cfg0.N) (d) : (dat m Inv c).before 1 t d = iblk m c 1 t :=
  before0_1_of m (dat m Inv c) (A_eq m Inv c 1) (after0_1 m Inv c) t d
theorem before0_2 (c : Dev nD) (t : Fin cfg0.N) (d) : (dat m Inv c).before 2 t d = iblk m c 2 t :=
  before0_2_of m (dat m Inv c) (A_eq m Inv c 2) (after0_2 m Inv c) t d
theorem before0_3 (c : Dev nD) (t : Fin cfg0.N) (d) : (dat m Inv c).before 3 t d = iblk m c 3 t :=
  before0_3_of m (dat m Inv c) (A_eq m Inv c 3) (after0_3 m Inv c) t d

/-- What the body is called with at point `t`, -/
def bodyPre (c : Dev nD) (t : Fin cfg0.N) : sProp 𝕄 :=
  iprop((dat m Inv c).Φ t.castSucc ∗ (dat m Inv c).owesAt () t.castSucc ∗ (∃ d, owns (c : Thread nD τ) (st0_0 t) fullShare ((dat m Inv c).before 0 t d)) ∗ (∃ d, owns (c : Thread nD τ) (st0_1 t) fullShare ((dat m Inv c).before 1 t d)) ∗ (∃ d, owns (c : Thread nD τ) (st0_2 t) fullShare ((dat m Inv c).before 2 t d)) ∗ (∃ d, owns (c : Thread nD τ) (st0_3 t) fullShare ((dat m Inv c).before 3 t d)) ∗ (∃ Y, ⌜((dat m Inv c).toRRel fgt (Rl c)).Finds 4 t Y⌝ ∗ owns (c : Thread nD τ) (st0_4 t) fullShare Y) ∗ (∃ Y, ⌜((dat m Inv c).toRRel fgt (Rl c)).Finds 5 t Y⌝ ∗ owns (c : Thread nD τ) (st0_5 t) fullShare Y) ∗ (∃ Y, ⌜((dat m Inv c).toRRel fgt (Rl c)).Finds 6 t Y⌝ ∗ owns (c : Thread nD τ) (st0_6 t) fullShare Y))

/-- and what it returns. -/
def bodyPost (c : Dev nD) (t : Fin cfg0.N) : sProp 𝕄 :=
  iprop((dat m Inv c).Φ t.succ ∗ (dat m Inv c).owesAt () t.succ ∗ owns (c : Thread nD τ) (st0_0 t) fullShare ((dat m Inv c).after 0 t) ∗ owns (c : Thread nD τ) (st0_1 t) fullShare ((dat m Inv c).after 1 t) ∗ owns (c : Thread nD τ) (st0_2 t) fullShare ((dat m Inv c).after 2 t) ∗ owns (c : Thread nD τ) (st0_3 t) fullShare ((dat m Inv c).after 3 t) ∗ (∃ X, ⌜Rl c 4 t X⌝ ∗ owns (c : Thread nD τ) (st0_4 t) fullShare X) ∗ (∃ X, ⌜Rl c 5 t X⌝ ∗ owns (c : Thread nD τ) (st0_5 t) fullShare X) ∗ (∃ X, ⌜Rl c 6 t X⌝ ∗ owns (c : Thread nD τ) (st0_6 t) fullShare X))

theorem sound_body (hK : Keeps m Inv Rl) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost
  simp only [before0_0, before0_1, before0_2, before0_3]
  rw [show (dat m Inv c).owesAt () t.succ = (dat m Inv c).owesAt () t.castSucc from rfl,
    show (dat m Inv c).Φ t.castSucc = iprop((∃ s : Scr F, ⌜Inv c t.val s⌝ ∗ scrRes c s) ∗ ∃ r, prngReg c r) from rfl,
    show (dat m Inv c).Φ t.succ = iprop((∃ s : Scr F, ⌜Inv c (t.val + 1) s⌝ ∗ scrRes c s) ∗ ∃ r, prngReg c r) from rfl,
    after0_0, after0_1, after0_2, after0_3]
  unfold owns
  iintro ⟨⟨⟨%s, %hs, Hs⟩, Hr⟩, Ho, ⟨%d2, %f2, %hf2, H2⟩, ⟨%d3, %f3, %hf3, H3⟩, ⟨%d4, %f4, %hf4, H4⟩, ⟨%d5, %f5, %hf5, H5⟩, ⟨%Y6, %hY6, %f6, %hf6, H6⟩, ⟨%Y7, %hY7, %f7, %hf7, H7⟩, ⟨%Y8, %hY8, %f8, %hf8, H8⟩⟩
  obtain rfl := (hw0_0 t).eq_unread hf2
  obtain rfl := (hw0_1 t).eq_unread hf3
  obtain rfl := (hw0_2 t).eq_unread hf4
  obtain rfl := (hw0_3 t).eq_unread hf5
  have hk := hK c t s ⟨f6, f7, f8⟩ hs
  iapply (body_triple m c t s ⟨f6, f7, f8⟩ _)
  isplitl [H2 H3 H4 H5]
  · isplitl [H2]; · iexact H2
    isplitl [H3]; · iexact H3
    isplitl [H4]; · iexact H4
    iexact H5
  isplitl [H6 H7 H8]
  · isplitl [H6]; · iexact H6
    isplitl [H7]; · iexact H7
    iexact H8
  isplitl [Hs]; · iexact Hs
  iintro ⟨⟨H2, H3, H4, H5⟩, ⟨H6, H7, H8⟩, Hs⟩
  isplitl [Hs Hr]
  · isplitl [Hs]
    · iexists _; isplitr; · ipureintro; exact hk.1
      iexact Hs
    iexact Hr
  isplitl [Ho]; · iexact Ho
  isplitl [H2]; · iexists _; isplitr; · ipureintro; exact (hw0_0 t).read_unread _
                  iexact H2
  isplitl [H3]; · iexists _; isplitr; · ipureintro; exact (hw0_1 t).read_unread _
                  iexact H3
  isplitl [H4]; · iexists _; isplitr; · ipureintro; exact (hw0_2 t).read_unread _
                  iexact H4
  isplitl [H5]; · iexists _; isplitr; · ipureintro; exact (hw0_3 t).read_unread _
                  iexact H5
  isplitl [H6]
  · iexists _; isplitr; · ipureintro; exact hk.2.1
    iexists _; isplitr; · ipureintro; rfl
    iexact H6
  isplitl [H7]
  · iexists _; isplitr; · ipureintro; exact hk.2.2.1
    iexists _; isplitr; · ipureintro; rfl
    iexact H7
  iexists _; isplitr; · ipureintro; exact hk.2.2.2
  iexists _; isplitr; · ipureintro; rfl
  iexact H8

theorem defs₀_row (t : Fin cfg0.N) :
    defs₀ (F := F) .tc cfg0.body (cfg0.bodyArgs t (cfg0.slots t)) = bodyAt0 t := by
  unfold defs₀; rw [Defs.onTc_tc]

theorem body_obligation (hK : Keeps m Inv Rl) (c : Dev nD) :
    BodyObligationRel (dat (F := F) m Inv c) (defs₀ (F := F)) Variants.none () Set.univ fgt (Rl c) := fun t => by
  rw [bigSep_W0, bigSep_W0, defs₀_row]
  exact triple_restated (sound_body m Inv Rl hK c t) rfl .rfl fun _ => .rfl

/-! ## The launch -/

/-- The scratch buffers at some contents are the region's scoped rest. -/
theorem scr_of_rest (c : Dev nD) : Pipeline.ΦA (U := UR sig nD τ) spec0 c ⊢ (iprop((∃ s : Scr F, scrRes c s) ∗ ∃ r, prngReg c r) : sProp 𝕄) := by
  unfold Pipeline.ΦA
  rw [scopedRest0_eq]
  unfold scrRes
  simp only [(Memref.isWhole_whole _).set_eq_univ]
  iintro ⟨⟨⟨%f9, H9⟩, ⟨%f10, H10⟩, ⟨%f11, H11⟩, ⟨%f12, H12⟩, ⟨%f13, H13⟩, ⟨%f14, H14⟩, ⟨%f15, H15⟩, ⟨%f16, H16⟩⟩, Hr⟩
  isplitr [Hr]
  · iexists (⟨f9, f10, f11, f12, f13, f14, f15, f16⟩ : Scr F)
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hr

theorem rest_of_scr (c : Dev nD) : (iprop((∃ s : Scr F, scrRes c s) ∗ ∃ r, prngReg c r) : sProp 𝕄) ⊢ Pipeline.ΦA (U := UR sig nD τ) spec0 c := by
  unfold Pipeline.ΦA
  rw [scopedRest0_eq]
  unfold scrRes
  simp only [(Memref.isWhole_whole _).set_eq_univ]
  iintro ⟨⟨%s, H9, H10, H11, H12, H13, H14, H15, H16⟩, Hr⟩
  isplitr [Hr]
  · isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  iexact Hr

/-- The relational proof data of the launch. -/
abbrev rdat (c : Dev nD) : RDat τ (Elt F) Unit ℕ (UR sig nD τ) ℕ cfg0 c := (dat m Inv c).toRRel fgt (Rl c)

set_option backward.isDefEq.respectTransparency.types false in
/-- THE LAUNCH: every weakly fair execution of @main terminates, with the arrays at what the proof data say and every
    semaphore counter at zero. -/
theorem run_main (hK : Keeps m Inv Rl) (h0 : ∀ c s, Inv c 0 s) :
    θ_run defs (onTc (τ := τ) (main (F := F))) (s₀ m ρ)
      (fun r => RDat.FramePost cfg0 (rdat m Inv Rl) (V m) r ∧ r.2.sem = fun _ => 0) :=
  RDat.θ_run_frame_track (Q' := _) cfgs (0 : Fin 1) launch0 defs₀ Variants.none (rdat m Inv Rl) m ρ main
    (hbody := fun c => (body_obligation m Inv Rl hK c).toRRel) (hshare := fun c => (dat m Inv c).share_full fun _ => rfl)
    (howed := fun _ _ => rfl) (V := V m) (hmain := hmain m Variants.none) (hA := A_eq m Inv)
    (hin := fun c => (scr_of_rest c).trans (by
      show _ ⊢ iprop((∃ s : Scr F, ⌜Inv c 0 s⌝ ∗ scrRes c s) ∗ ∃ r, prngReg c r)
      iintro ⟨⟨%s, H⟩, Hr⟩
      isplitl [H]
      · iexists s; isplitr; · ipureintro; exact h0 c s
        iexact H
      iexact Hr))
    (hout := fun c => BIBase.Entails.trans (by
      show iprop((∃ s : Scr F, ⌜Inv c cfg0.N s⌝ ∗ scrRes c s) ∗ ∃ r, prngReg c r) ⊢ iprop((∃ s : Scr F, scrRes c s) ∗ ∃ r, prngReg c r)
      iintro ⟨⟨%s, -, H⟩, Hr⟩
      isplitl [H]; · iexists s; iexact H
      iexact Hr) (rest_of_scr c))

/-- The argument arrays end as they began. -/
theorem unchanged_of_post (r : PUnit × MemSt nD τ sig (Elt F)) (h : RDat.FramePost cfg0 (rdat m Inv Rl) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    (RDat.FramePost.arr_in h c 3 rfl).trans ((A_eq m Inv c 3).trans (V_main_arg1 m c))⟩

/-- THE FRAME: every execution terminates, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => unchanged_of_post m (fun _ _ _ => True) (fun _ _ _ _ => True) r h.1 c, h.2⟩)
    (run_main m ρ (fun _ _ _ => True) (fun _ _ _ _ => True) (fun _ _ _ _ _ => ⟨trivial, trivial, trivial, trivial⟩) fun _ _ => trivial)

end Cert.KernelIdeal.Gen

end
-- ==== Proof.PI.Trip2.lean ====
/- What one trip of the lane-block loop stores, as closed lists: the twenty codes blocks, the row of column maxima, the
   row of constant terms and the twenty accumulator blocks, each from the weight block, the ratio and the tables that the
   trip reads. -/
module

public import proofs.«01_k».proof.Proof.PI.Body

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (𝒱 : Variants) (c : Dev nD) (bd : Option 𝒱.V) (i : grid0.Coords)
variable (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole)
  (arg1 : BitVec 32)

/-! ## The words of the offsets -/

/-- The group of point `i`, as the kernel's word. -/
def gw : ℕ := (Scalar.indexCast (BitVec.ofNat 32 (i 1).val)).toNat

/-- The first lane of lane block `k`, as the kernel's word. -/
def lw (k : Fin k0_t2_loop.trips) : ℕ := k0_off13 k 1

/-- The accumulator's first row of the group, as the kernel's word. -/
def rw8 : ℕ := (Scalar.muli (BitVec.ofNat 32 (i 1).val) 8#32).toNat

theorem gw_eq : gw i = (i 1).val := by
  have : ∀ g : Fin 16, (BitVec.ofNat 32 g.val).toNat = g.val := by decide
  exact this (i 1)

theorem rw8_eq : rw8 i = 8 * (i 1).val := by
  have : ∀ g : Fin 16, (Scalar.muli (BitVec.ofNat 32 g.val) 8#32).toNat = 8 * g.val := by decide
  exact this (i 1)

theorem lw_eq (k : Fin k0_t2_loop.trips) : lw k = 256 * k.val := by
  have : ∀ k : Fin 2, (Scalar.muli (Scf.iv 0#32 1#32 k.val) 256#32).toNat = 256 * k.val := by decide
  exact this k

theorem gw_lt : gw i < 16 := by rw [gw_eq]; exact (i 1).isLt

theorem lw_le (k : Fin k0_t2_loop.trips) : lw k + 256 ≤ 512 := by
  have : k.val < 2 := k.isLt
  rw [lw_eq]; omega

theorem rw8_le : rw8 i + 8 ≤ 128 := by
  have : (i 1).val < 16 := (i 1).isLt
  rw [rw8_eq]; omega

/-! ## What the trip computes -/

/-- The codes of a block at one clip ratio: `a` the column maxima, `wf` the weights. -/
def qV (a : FVec F S1x256 .f32) (wf : Vec F S128x256 .f32) (r : Elt F .f32) : FVec F S128x256 .f32 := k0_pay41 a r wf

/-- The block of packed codes, `M` the table of the ratio. -/
def codesV (a : FVec F S1x256 .f32) (wf : Vec F S128x256 .f32) (r : Elt F .f32) (M : Vec F S1x1x160x256 .bf16) :
    IVec S1x1x64x256 8 := k0_pay49 (k0_pay42 a r wf) M

/-- The correction of a pair of ratios, `D` its table. -/
def corrV (a : FVec F S1x256 .f32) (wf : Vec F S128x256 .f32) (r r' : Elt F .f32) (D : Vec F S1x1x16x256 .bf16) :
    FVec F S16x256 .f32 :=
  k0_pay47 (k0_pay42 a r wf) (k0_pay43 a r' wf) trip_k0_t2.sl.cst_32 k0_pay44 D

/-- The accumulator block of a pair's first ratio. -/
def accV0 (a : FVec F S1x256 .f32) (wf : Vec F S128x256 .f32) (r r' : Elt F .f32) (D : Vec F S1x1x16x256 .bf16)
    (M : Vec F S1x1x160x256 .bf16) (hw : Vec F S128x256 .f32) : FVec F S1x8x256 .f32 :=
  k0_pay51 (k0_pay50 (k0_pay41 a r wf) (k0_pay42 a r wf) (k0_pay43 a r' wf) trip_k0_t2.sl.cst_32 k0_pay44 D M hw)

/-- The accumulator block of a pair's second ratio. -/
def accV1 (a : FVec F S1x256 .f32) (wf : Vec F S128x256 .f32) (r r' : Elt F .f32) (D : Vec F S1x1x16x256 .bf16)
    (M : Vec F S1x1x160x256 .bf16) (hw : Vec F S128x256 .f32) : FVec F S1x8x256 .f32 :=
  k0_pay54 (k0_pay41 a r' wf) (k0_pay42 a r' wf) (corrV a wf r r' D) M hw

section Trip

variable (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (k : Fin k0_t2_loop.trips)

theorem inb2 (kk : Fin 20) : ∀ a, (![kk.val] : Fin 1 → ℕ) a + S1.size a ≤ S20.size a := by
  intro a; fin_cases a; have := kk.isLt; show kk.val + 1 ≤ 20; omega

theorem inb5 : ∀ a, (k0_off13 k) a + S128x256.size a ≤ S128x512.size a := by
  have := lw_le k
  intro a; fin_cases a
  · show 0 + 128 ≤ 128; omega
  · exact this

theorem inb7 (kk : Fin 20) : ∀ a, (![0, kk.val, 0, lw k] : Fin 4 → ℕ) a + (![1, 1, 64, 256] : Fin 4 → ℕ) a ≤ S1x20x64x512.size a := by
  have := lw_le k
  have := kk.isLt
  intro a; fin_cases a
  · show 0 + 1 ≤ 1; omega
  · show kk.val + 1 ≤ 20; omega
  · show 0 + 64 ≤ 64; omega
  · show lw k + 256 ≤ 512; omega

theorem inb9 (kk : Fin 20) : ∀ a, (![gw i, kk.val, 0, 0] : Fin 4 → ℕ) a + S1x1x160x256.size a ≤ S16x20x160x256.size a := by
  have := gw_lt i
  have := kk.isLt
  intro a; fin_cases a
  · show gw i + 1 ≤ 16; omega
  · show kk.val + 1 ≤ 20; omega
  · show 0 + 160 ≤ 160; omega
  · show 0 + 256 ≤ 256; omega

theorem inb10 (jj : Fin 10) : ∀ a, (![gw i, jj.val, 0, 0] : Fin 4 → ℕ) a + S1x1x16x256.size a ≤ S16x10x16x256.size a := by
  have := gw_lt i
  have := jj.isLt
  intro a; fin_cases a
  · show gw i + 1 ≤ 16; omega
  · show jj.val + 1 ≤ 10; omega
  · show 0 + 16 ≤ 16; omega
  · show 0 + 256 ≤ 256; omega

theorem inb11a : ∀ a, (![gw i, 0, 0] : Fin 3 → ℕ) a + S1x128x256.size a ≤ S16x128x384.size a := by
  have := gw_lt i
  intro a; fin_cases a
  · show gw i + 1 ≤ 16; omega
  · show 0 + 128 ≤ 128; omega
  · show 0 + 256 ≤ 384; omega

theorem inb11b : ∀ a, (![gw i, 0, 256] : Fin 3 → ℕ) a + S1x128x128.size a ≤ S16x128x384.size a := by
  have := gw_lt i
  intro a; fin_cases a
  · show gw i + 1 ≤ 16; omega
  · show 0 + 128 ≤ 128; omega
  · show 256 + 128 ≤ 384; omega

theorem inb12 : ∀ a, (![gw i, lw k] : Fin 2 → ℕ) a + (![1, 256] : Fin 2 → ℕ) a ≤ S16x512.size a := by
  have := gw_lt i
  have := lw_le k
  intro a; fin_cases a
  · show gw i + 1 ≤ 16; omega
  · show lw k + 256 ≤ 512; omega

theorem inb14 (kk : Fin 20) : ∀ a, (![kk.val, rw8 i, lw k] : Fin 3 → ℕ) a + (![1, 8, 256] : Fin 3 → ℕ) a ≤ S20x128x512.size a := by
  have := rw8_le i
  have := lw_le k
  have := kk.isLt
  intro a; fin_cases a
  · show kk.val + 1 ≤ 20; omega
  · show rw8 i + 8 ≤ 128; omega
  · show lw k + 256 ≤ 512; omega

/-- The clip ratio number `kk`. -/
def ratV (kk : Fin 20) : Elt F .f32 :=
  View.readAt (Elt F) arg2.view (Rect.unit (s := S20) ![kk.val] S1.size (inb2 kk)).toLoadRect X_arg2
    (Shape.Idx.first (show 0 < S1.numel by decide))

/-- The weight block of the trip. -/
def wbV : Vec F S128x256 .bf16 :=
  View.readAt (Elt F) arg5.view (Rect.unit (s := S128x512) (k0_off13 k) S128x256.size (inb5 k)).toLoadRect X_arg5

/-- The table of ratio `kk` at the point's group. -/
def mV (kk : Fin 20) : Vec F S1x1x160x256 .bf16 :=
  View.readAt (Elt F) arg9.view (Rect.unit (s := S16x20x160x256) ![gw i, kk.val, 0, 0] S1x1x160x256.size (inb9 i kk)).toLoadRect X_arg9

/-- The correction table of pair `jj` at the point's group. -/
def dV (jj : Fin 10) : Vec F S1x1x16x256 .bf16 :=
  View.readAt (Elt F) arg10.view (Rect.unit (s := S16x10x16x256) ![gw i, jj.val, 0, 0] S1x1x16x256.size (inb10 i jj)).toLoadRect X_arg10

/-- The first two parts of the doubled Gram matrix at the point's group. -/
def haV : Vec F S1x128x256 .bf16 :=
  View.readAt (Elt F) arg11.view (Rect.unit (s := S16x128x384) ![gw i, 0, 0] S1x128x256.size (inb11a i)).toLoadRect X_arg11

/-- Its third part. -/
def hbV : Vec F S1x128x128 .bf16 :=
  View.readAt (Elt F) arg11.view (Rect.unit (s := S16x128x384) ![gw i, 0, 256] S1x128x128.size (inb11b i)).toLoadRect X_arg11

theorem trip2_codes (f7 : BufTy.Contents (Elt F) arg7.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).1 f7 f12 f13 f14 f15 f16 = (List.finRange 20).reverse.map fun kk : Fin 20 =>
      (⟨Rect.unit ![0, kk.val, 0, lw k] ![1, 1, 64, 256] (inb7 k kk),
        codesV (k0_pay34 (wbV arg5 X_arg5 k)) (trip_k0_t2.sl.v65 arg5 arg15 X_arg5 k) (ratV arg2 X_arg2 kk) (mV i arg9 X_arg9 kk)⟩ : View.Piece (Elt F) S1x20x64x512 .i8) := by
  unfold trip_k0_t2
  rfl

theorem trip2_a (f7 : BufTy.Contents (Elt F) arg7.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.1 f7 f12 f13 f14 f15 f16 = [⟨Rect.unit ![gw i, lw k] ![1, 256] (inb12 i k), k0_pay35 (wbV arg5 X_arg5 k)⟩] := by
  unfold trip_k0_t2
  rfl

theorem trip2_c (f7 : BufTy.Contents (Elt F) arg7.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.1 f7 f12 f13 f14 f15 f16 = [⟨Rect.unit ![gw i, lw k] ![1, 256] (inb12 i k),
      k0_pay40 (k0_pay39 (wbV arg5 X_arg5 k) (haV i arg11 X_arg11) (hbV i arg11 X_arg11))⟩] := by
  unfold trip_k0_t2
  rfl

/-- The accumulator block of ratio `kk`. -/
def accV (kk : Fin 20) (a : FVec F S1x256 .f32) (wf hw : Vec F S128x256 .f32) : FVec F S1x8x256 .f32 :=
  if kk.val % 2 = 0 then
    accV0 a wf (ratV arg2 X_arg2 kk) (ratV arg2 X_arg2 ⟨(kk.val + 1) % 20, Nat.mod_lt _ (by decide)⟩)
      (dV i arg10 X_arg10 ⟨kk.val / 2, by have := kk.isLt; omega⟩) (mV i arg9 X_arg9 kk) hw
  else
    accV1 a wf (ratV arg2 X_arg2 ⟨kk.val - 1, by have := kk.isLt; omega⟩) (ratV arg2 X_arg2 kk)
      (dV i arg10 X_arg10 ⟨kk.val / 2, by have := kk.isLt; omega⟩) (mV i arg9 X_arg9 kk) hw

theorem trip2_acc (f7 : BufTy.Contents (Elt F) arg7.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 k).2.2.2.1 f7 f12 f13 f14 f15 f16 = (List.finRange 20).reverse.map fun kk : Fin 20 =>
      (⟨Rect.unit ![kk.val, rw8 i, lw k] ![1, 8, 256] (inb14 i k kk),
        accV i arg2 arg9 arg10 X_arg2 X_arg9 X_arg10 kk (k0_pay34 (wbV arg5 X_arg5 k)) (trip_k0_t2.sl.v65 arg5 arg15 X_arg5 k) (trip_k0_t2.sl.v121 i arg5 arg11 arg16 X_arg5 X_arg11 k)⟩ : View.Piece (Elt F) S20x128x512 .f32) := by
  unfold trip_k0_t2
  rfl

end Trip

end Cert.KernelIdeal.Gen
-- ==== Proof.PI.Tab.lean ====
/- The loop that builds the tables of a group: what its ten trips leave in the two tables, index by index. -/
module

public import proofs.«01_k».proof.Proof.PI.Trip2
public import Idealize.ShloMosaic.Lib.ValueIdxCoords
public import Idealize.ShloMosaic.Lib.VecWindow
public import Idealize.ShloMosaic.Lib.WritesUnit

@[expose] public section

set_option maxRecDepth 16384
set_option maxHeartbeats 4000000

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

theorem four {P : Fin 4 → Prop} (h0 : P 0) (h1 : P 1) (h2 : P 2) (h3 : P 3) : ∀ a, P a := fun x => by fin_cases x <;> assumption

theorem ex_hit {sh : Shape} {e : EltTy} {p : View.Piece (Elt F) sh e} {L : List (View.Piece (Elt F) sh e)} {y : sh.Idx} (h : y ∈ p.1.set) :
    ∃ q ∈ p :: L, y ∈ q.1.set := ⟨p, List.mem_cons_self, h⟩

theorem ex_hitU {sh : Shape} {e : EltTy} {off size : Fin sh.rank → ℕ} {inb : ∀ a, off a + size a ≤ sh.size a}
    {w : (Rect.unit off size inb).shape.Idx → Elt F e} {L : List (View.Piece (Elt F) sh e)} {y : sh.Idx}
    (h : ∀ a, off a ≤ (y a).val ∧ (y a).val < off a + size a) :
    ∃ q ∈ (⟨Rect.unit off size inb, w⟩ : View.Piece (Elt F) sh e) :: L, y ∈ q.1.set :=
  ex_hit ((Rect.mem_set_unit (inb := inb)).mpr h)

theorem mem_unitU {sh : Shape} {R : Rect sh} {y : sh.Idx} (hs : ∀ a, R.stride a = 1) (h : y ∈ R.set) :
    ∀ a, R.off a ≤ (y a).val ∧ (y a).val < R.off a + R.size a := fun a => by
  obtain ⟨j, hj, e⟩ := (R.mem_set.mp h) a
  rw [hs a, Nat.one_mul] at e
  omega

theorem mem_unitU' {sh : Shape} {R : Rect sh} {y : sh.Idx} (hs : ∀ a, R.stride a = 1)
    (h : ∀ a, R.off a ≤ (y a).val ∧ (y a).val < R.off a + R.size a) : y ∈ R.set :=
  R.mem_set.mpr fun a => ⟨(y a).val - R.off a, by have := h a; omega, by have := h a; rw [hs a]; omega⟩

theorem two {P : Fin 2 → Prop} (h0 : P 0) (h1 : P 1) : ∀ a, P a := fun x => by fin_cases x <;> assumption

theorem three {P : Fin 3 → Prop} (h0 : P 0) (h1 : P 1) (h2 : P 2) : ∀ a, P a := fun x => by fin_cases x <;> assumption

theorem ex_skip {sh : Shape} {e : EltTy} {p : View.Piece (Elt F) sh e} {L : List (View.Piece (Elt F) sh e)} {y : sh.Idx}
    (h : ∃ q ∈ L, y ∈ q.1.set) : ∃ q ∈ p :: L, y ∈ q.1.set :=
  let ⟨q, hq, hy⟩ := h
  ⟨q, List.mem_cons_of_mem _ hq, hy⟩

/-- The table of one clip ratio `r`: `v7` the group's inputs, `P` the packing rows. -/
def tabV (v7 : Vec F S256x128 .bf16) (P : Vec F S32x256 .bf16) (r : Elt F .f32) : Vec F S1x1x160x256 .bf16 := fun y =>
  if h0 : (y 2).val < 128 then
    if h1 : (y 3).val < 128 then
      k0_pay21 (k0_pay1 v7) bodyRunTT.sl.v10 bodyRunTT.sl.v11 r (ix4 (n0 := 1) (n1 := 1) (n2 := 128) (n3 := 128) u0 u0 ⟨(y 2).val, h0⟩ ⟨(y 3).val, h1⟩)
    else
      k0_pay22 (k0_pay1 v7) bodyRunTT.sl.v10 bodyRunTT.sl.v11 r (ix4 (n0 := 1) (n1 := 1) (n2 := 128) (n3 := 128) u0 u0 ⟨(y 2).val, h0⟩
        ⟨(y 3).val - 128, by have h : (y 3).val < 256 := (y 3).isLt; omega⟩)
  else
    k0_pay23 P (ix4 (n0 := 1) (n1 := 1) (n2 := 32) (n3 := 256) u0 u0
      ⟨(y 2).val - 128, by have h : (y 2).val < 160 := (y 2).isLt; omega⟩ ⟨(y 3).val, (y 3).isLt⟩)

/-- The correction table of the ratios `r` and `r'`. -/
def dtabV (v7 : Vec F S256x128 .bf16) (r r' : Elt F .f32) : Vec F S1x1x16x256 .bf16 :=
  k0_pay12 (k0_pay24 bodyRunTT.sl.v10 bodyRunTT.sl.v11 k0_pay9 (k0_pay20 (k0_pay1 v7) r)) (k0_pay29 (k0_pay1 v7) r')

variable (𝒱 : Variants) (c : Dev nD) (bd : Option 𝒱.V) (i : grid0.Coords)
variable (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole)
  (arg1 : BitVec 32) (hc1 : k0_cond1 i = 1#1) (v7 : Vec F S256x128 .bf16)
  (X_arg2 : BufTy.Contents (Elt F) arg2.view.ty) (X_arg4 : BufTy.Contents (Elt F) arg4.view.ty)

/-- The clip ratio number `kk`, as the ratios' array has it. -/
def rat (kk : Fin 20) : Elt F .f32 := arg2.view.read (Elt F) X_arg2 (ix1 kk)

theorem ratV_eq (kk : Fin 20) : ratV arg2 X_arg2 kk = rat arg2 X_arg2 kk := by
  unfold ratV rat
  exact (congrFun (View.readAt_unit arg2.view X_arg2 (inb2 kk) rfl (inb2 kk)) _).trans
    (congrArg (arg2.view.read (Elt F) X_arg2) (funext fun a => by fin_cases a; exact Fin.ext rfl))

section Trip1

variable (k : Fin k0_t1_loop.trips)

def ew0 : ℕ := k0_off4 k 0
def ew1 : ℕ := k0_off8 k 0
def pw : ℕ := (Scalar.indexCast (Scf.iv 0#32 1#32 k.val)).toNat

theorem k1_lt : k.val < 10 := k.isLt

theorem ew0_eq : ew0 k = 2 * k.val := by
  have : ∀ k : Fin 10, (Scalar.muli 2#32 (Scf.iv 0#32 1#32 k.val)).toNat = 2 * k.val := by decide
  exact this k

theorem ew1_eq : ew1 k = 2 * k.val + 1 := by
  have : ∀ k : Fin 10, (Scalar.addi (Scalar.muli 2#32 (Scf.iv 0#32 1#32 k.val)) 1#32).toNat = 2 * k.val + 1 := by decide
  exact this k

theorem pw_eq : pw k = k.val := by
  have : ∀ k : Fin 10, (Scalar.indexCast (Scf.iv 0#32 1#32 k.val)).toNat = k.val := by decide
  exact this k

theorem inb9m (e : ℕ) (he : e < 20) (r l : ℕ) (S : Fin 4 → ℕ) (h0 : S 0 = 1) (h1 : S 1 = 1) (h2 : r + S 2 ≤ 160) (h3 : l + S 3 ≤ 256) :
    ∀ a, (![gw i, e, r, l] : Fin 4 → ℕ) a + S a ≤ S16x20x160x256.size a := by
  have := gw_lt i
  intro a; fin_cases a
  · show gw i + S 0 ≤ 16; omega
  · show e + S 1 ≤ 20; omega
  · exact h2
  · exact h3

theorem inb10m : ∀ a, (![gw i, pw k, 0, 0] : Fin 4 → ℕ) a + (![1, 1, 16, 256] : Fin 4 → ℕ) a ≤ S16x10x16x256.size a := by
  have := gw_lt i
  have := k1_lt k
  have := pw_eq k
  intro a; fin_cases a
  · show gw i + 1 ≤ 16; omega
  · show pw k + 1 ≤ 10; omega
  · show 0 + 16 ≤ 16; omega
  · show 0 + 256 ≤ 256; omega

theorem ew0_lt : ew0 k < 20 := by have := k1_lt k; rw [ew0_eq]; omega
theorem ew1_lt : ew1 k < 20 := by have := k1_lt k; rw [ew1_eq]; omega

theorem inbA : ∀ a, (k0_off4 k) a + S1.size a ≤ S20.size a := by
  have := ew0_lt k
  intro a; fin_cases a; show ew0 k + 1 ≤ 20; omega
theorem inbB : ∀ a, (k0_off8 k) a + S1.size a ≤ S20.size a := by
  have := ew1_lt k
  intro a; fin_cases a; show ew1 k + 1 ≤ 20; omega

/-- The two ratios of pair `k`, as the trip loads them. -/
def rA : Elt F .f32 := View.readAt (Elt F) arg2.view (Rect.unit (s := S20) (k0_off4 k) S1.size (inbA k)).toLoadRect X_arg2
    (Shape.Idx.first (show 0 < S1.numel by decide))
def rB : Elt F .f32 := View.readAt (Elt F) arg2.view (Rect.unit (s := S20) (k0_off8 k) S1.size (inbB k)).toLoadRect X_arg2
    (Shape.Idx.first (show 0 < S1.numel by decide))
/-- The packing rows, as the trip loads them. -/
def pV : Vec F S32x256 .bf16 :=
  View.readAt (Elt F) arg4.view (Rect.unit (s := S32x256) ![0, 0] ![32, 256] inb_S32x256_S32x256_0_0).toLoadRect X_arg4

theorem rA_eq : rA arg2 X_arg2 k = rat arg2 X_arg2 ⟨2 * k.val, by have := k1_lt k; omega⟩ := by
  unfold rA rat
  exact (congrFun (View.readAt_unit arg2.view X_arg2 (inbA k) (off' := ![2 * k.val]) (funext fun a => by fin_cases a; exact ew0_eq k)
      (inb2 ⟨2 * k.val, by have := k1_lt k; omega⟩)) _).trans
    (congrArg (arg2.view.read (Elt F) X_arg2) (funext fun a => by fin_cases a; exact Fin.ext rfl))

theorem rB_eq : rB arg2 X_arg2 k = rat arg2 X_arg2 ⟨2 * k.val + 1, by have := k1_lt k; omega⟩ := by
  unfold rB rat
  exact (congrFun (View.readAt_unit arg2.view X_arg2 (inbB k) (off' := ![2 * k.val + 1]) (funext fun a => by fin_cases a; exact ew1_eq k)
      (inb2 ⟨2 * k.val + 1, by have := k1_lt k; omega⟩)) _).trans
    (congrArg (arg2.view.read (Elt F) X_arg2) (funext fun a => by fin_cases a; exact Fin.ext rfl))

theorem pV_eq : pV arg4 X_arg4 = arg4.view.read (Elt F) X_arg4 := View.readAt_full _ _ _

/-- The pieces trip `k` writes to the table of ratios. -/
def t1L9 : List (View.Piece (Elt F) S16x20x160x256 .bf16) :=
  [⟨Rect.unit ![gw i, ew1 k, 128, 0] ![1, 1, 32, 256] (inb9m i _ (ew1_lt k) _ _ _ rfl rfl (Nat.le_refl 160) (Nat.le_refl 256)), k0_pay11 (pV arg4 X_arg4)⟩,
   ⟨Rect.unit ![gw i, ew1 k, 0, 128] ![1, 1, 128, 128] (inb9m i _ (ew1_lt k) _ _ _ rfl rfl (by show 0 + 128 ≤ 160; omega) (Nat.le_refl 256)),
      k0_pay10 (k0_pay31 (k0_pay1 v7) bodyRunTT.sl.v10 bodyRunTT.sl.v11 (rB arg2 X_arg2 k))⟩,
   ⟨Rect.unit ![gw i, ew1 k, 0, 0] ![1, 1, 128, 128] (inb9m i _ (ew1_lt k) _ _ _ rfl rfl (by show 0 + 128 ≤ 160; omega) (by show 0 + 128 ≤ 256; omega)),
      k0_pay30 (k0_pay1 v7) bodyRunTT.sl.v10 bodyRunTT.sl.v11 (rB arg2 X_arg2 k)⟩,
   ⟨Rect.unit ![gw i, ew0 k, 128, 0] ![1, 1, 32, 256] (inb9m i _ (ew0_lt k) _ _ _ rfl rfl (Nat.le_refl 160) (Nat.le_refl 256)), k0_pay23 (pV arg4 X_arg4)⟩,
   ⟨Rect.unit ![gw i, ew0 k, 0, 128] ![1, 1, 128, 128] (inb9m i _ (ew0_lt k) _ _ _ rfl rfl (by show 0 + 128 ≤ 160; omega) (Nat.le_refl 256)),
      k0_pay22 (k0_pay1 v7) bodyRunTT.sl.v10 bodyRunTT.sl.v11 (rA arg2 X_arg2 k)⟩,
   ⟨Rect.unit ![gw i, ew0 k, 0, 0] ![1, 1, 128, 128] (inb9m i _ (ew0_lt k) _ _ _ rfl rfl (by show 0 + 128 ≤ 160; omega) (by show 0 + 128 ≤ 256; omega)),
      k0_pay21 (k0_pay1 v7) bodyRunTT.sl.v10 bodyRunTT.sl.v11 (rA arg2 X_arg2 k)⟩]

/-- The piece trip `k` writes to the correction table. -/
def t1L10 : List (View.Piece (Elt F) S16x10x16x256 .bf16) :=
  [⟨Rect.unit ![gw i, pw k, 0, 0] ![1, 1, 16, 256] (inb10m i k), dtabV v7 (rA arg2 X_arg2 k) (rB arg2 X_arg2 k)⟩]

theorem tripL1 : tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 bodyRunTT.sl.v10 bodyRunTT.sl.v11 X_arg2 X_arg4 k
    = (t1L9 i arg2 arg4 v7 X_arg2 X_arg4 k, t1L10 i arg2 v7 X_arg2 k) := by
  unfold tripL_k0_t1 trip_k0_t1
  rfl

end Trip1

def pb1 (n : ℕ) := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 bodyRunTT.sl.v10 bodyRunTT.sl.v11 X_arg2 X_arg4 n

theorem pb1_succ (k : Fin k0_t1_loop.trips) : (pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4) (k.val + 1)
    = (t1L9 i arg2 arg4 v7 X_arg2 X_arg4 k ++ ((pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4) k.val).1, t1L10 i arg2 v7 X_arg2 k ++ ((pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4) k.val).2) := by
  unfold pb1
  rw [pb_k0_t1_succ, tripL1]

theorem pb1_mem9 (p) : ∀ n, n ≤ k0_t1_loop.trips → (p ∈ ((pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4) n).1 ↔ ∃ k : Fin k0_t1_loop.trips, k.val < n ∧ p ∈ t1L9 i arg2 arg4 v7 X_arg2 X_arg4 k)
  | 0, _ => ⟨fun h => absurd h List.not_mem_nil, fun ⟨_, h, _⟩ => absurd h (Nat.not_lt_zero _)⟩
  | n + 1, hn => by
    rw [show n + 1 = (⟨n, hn⟩ : Fin k0_t1_loop.trips).val + 1 from rfl, pb1_succ, List.mem_append, pb1_mem9 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.mp hk with h' | h'
      · exact Or.inr ⟨k, h', h⟩
      · left
        obtain rfl : k = ⟨n, hn⟩ := Fin.ext h'
        exact h

theorem pb1_mem10 (p) : ∀ n, n ≤ k0_t1_loop.trips → (p ∈ ((pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4) n).2 ↔ ∃ k : Fin k0_t1_loop.trips, k.val < n ∧ p ∈ t1L10 i arg2 v7 X_arg2 k)
  | 0, _ => ⟨fun h => absurd h List.not_mem_nil, fun ⟨_, h, _⟩ => absurd h (Nat.not_lt_zero _)⟩
  | n + 1, hn => by
    rw [show n + 1 = (⟨n, hn⟩ : Fin k0_t1_loop.trips).val + 1 from rfl, pb1_succ, List.mem_append, pb1_mem10 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.mp hk with h' | h'
      · exact Or.inr ⟨k, h', h⟩
      · left
        obtain rfl : k = ⟨n, hn⟩ := Fin.ext h'
        exact h

attribute [irreducible] ew0 ew1 pw
attribute [local irreducible] gw

/-- The table's value at an index of the point's group. -/
def G9 (P : Vec F S32x256 .bf16) (R : Fin 20 → Elt F .f32) : S16x20x160x256.Idx → Elt F .bf16 := fun y =>
  tabV v7 P (R (y 1)) (ix4 (n0 := 1) (n1 := 1) (n2 := 160) (n3 := 256) u0 u0 (y 2) (y 3))

/-- The correction table's value at an index of the point's group. -/
def G10 (R : Fin 20 → Elt F .f32) : S16x10x16x256.Idx → Elt F .bf16 := fun y =>
  dtabV v7 (R ⟨2 * (y 1).val, by have h : (y 1).val < 10 := (y 1).isLt; omega⟩) (R ⟨2 * (y 1).val + 1, by have h : (y 1).val < 10 := (y 1).isLt; omega⟩)
    (ix4 (n0 := 1) (n1 := 1) (n2 := 16) (n3 := 256) u0 u0 (y 2) (y 3))

theorem tabV_lo (P : Vec F S32x256 .bf16) (r : Elt F .f32) (y : S1x1x160x256.Idx) (x : S1x1x128x128.Idx) (h2 : (y 2).val = (x 2).val) (h3 : (y 3).val = (x 3).val) :
    tabV v7 P r y = k0_pay21 (k0_pay1 v7) bodyRunTT.sl.v10 bodyRunTT.sl.v11 r x := by
  have e2 : (x 2).val < 128 := (x 2).isLt
  have e3 : (x 3).val < 128 := (x 3).isLt
  unfold tabV
  rw [dif_pos (by omega), dif_pos (by omega)]
  refine congrArg _ (funext fun a => ?_)
  fin_cases a
  · exact Fin.ext (by have h : (x 0).val < 1 := (x 0).isLt; show 0 = (x 0).val; omega)
  · exact Fin.ext (by have h : (x 1).val < 1 := (x 1).isLt; show 0 = (x 1).val; omega)
  · exact Fin.ext h2
  · exact Fin.ext h3

theorem tabV_hi (P : Vec F S32x256 .bf16) (r : Elt F .f32) (y : S1x1x160x256.Idx) (x : S1x1x128x128.Idx) (h2 : (y 2).val = (x 2).val) (h3 : (y 3).val = 128 + (x 3).val) :
    tabV v7 P r y = k0_pay22 (k0_pay1 v7) bodyRunTT.sl.v10 bodyRunTT.sl.v11 r x := by
  have e2 : (x 2).val < 128 := (x 2).isLt
  have e3 : (x 3).val < 128 := (x 3).isLt
  unfold tabV
  rw [dif_pos (by omega), dif_neg (by omega)]
  refine congrArg _ (funext fun a => ?_)
  fin_cases a
  · exact Fin.ext (by have h : (x 0).val < 1 := (x 0).isLt; show 0 = (x 0).val; omega)
  · exact Fin.ext (by have h : (x 1).val < 1 := (x 1).isLt; show 0 = (x 1).val; omega)
  · exact Fin.ext h2
  · exact Fin.ext (by show (y 3).val - 128 = (x 3).val; omega)

theorem tabV_pk (P : Vec F S32x256 .bf16) (r : Elt F .f32) (y : S1x1x160x256.Idx) (x : S1x1x32x256.Idx) (h2 : (y 2).val = 128 + (x 2).val) (h3 : (y 3).val = (x 3).val) :
    tabV v7 P r y = k0_pay23 P x := by
  unfold tabV
  rw [dif_neg (by omega)]
  refine congrArg _ (funext fun a => ?_)
  fin_cases a
  · exact Fin.ext (by have h : (x 0).val < 1 := (x 0).isLt; show 0 = (x 0).val; omega)
  · exact Fin.ext (by have h : (x 1).val < 1 := (x 1).isLt; show 0 = (x 1).val; omega)
  · exact Fin.ext (by show (y 2).val - 128 = (x 2).val; omega)
  · exact Fin.ext h3

theorem t1L9_val (k : Fin k0_t1_loop.trips) (p) (hp : p ∈ t1L9 i arg2 arg4 v7 X_arg2 X_arg4 k) (x : p.1.shape.Idx) :
    p.2 x = G9 v7 (arg4.view.read (Elt F) X_arg4) (rat arg2 X_arg2) (p.1.emb x) := by
  have eA := rA_eq arg2 X_arg2 k
  have eB := rB_eq arg2 X_arg2 k
  have hR : ∀ a b : Fin 20, a.val = b.val → rat arg2 X_arg2 a = rat arg2 X_arg2 b := fun a b h => by rw [Fin.ext h]
  have e0 := ew0_eq k
  have e1 := ew1_eq k
  unfold t1L9 at hp
  simp only [List.mem_cons, List.not_mem_nil, _root_.or_false] at hp
  rcases hp with rfl | rfl | rfl | rfl | rfl | rfl
  · have hx : (x 1).val < 1 := (x 1).isLt
    rw [pV_eq]
    refine ((tabV_pk v7 _ _ _ x ?_ ?_).trans ?_).symm
    · show 128 + 1 * (x 2).val = 128 + (x 2).val; omega
    · show 0 + 1 * (x 3).val = (x 3).val; omega
    · rfl
  · have hx : (x 1).val < 1 := (x 1).isLt
    refine ((tabV_hi v7 _ _ _ x ?_ ?_).trans ?_).symm
    · show 0 + 1 * (x 2).val = (x 2).val; omega
    · show 128 + 1 * (x 3).val = 128 + (x 3).val; omega
    · show k0_pay22 _ _ _ (rat arg2 X_arg2 _) x = k0_pay22 _ _ _ (rB arg2 X_arg2 k) x
      rw [eB]
      exact congrArg (fun r => k0_pay22 (k0_pay1 v7) bodyRunTT.sl.v10 bodyRunTT.sl.v11 r x) (hR _ _ (by show ew1 k + 1 * (x 1).val = 2 * k.val + 1; omega))
  · have hx : (x 1).val < 1 := (x 1).isLt
    refine ((tabV_lo v7 _ _ _ x ?_ ?_).trans ?_).symm
    · show 0 + 1 * (x 2).val = (x 2).val; omega
    · show 0 + 1 * (x 3).val = (x 3).val; omega
    · show k0_pay21 _ _ _ (rat arg2 X_arg2 _) x = k0_pay21 _ _ _ (rB arg2 X_arg2 k) x
      rw [eB]
      exact congrArg (fun r => k0_pay21 (k0_pay1 v7) bodyRunTT.sl.v10 bodyRunTT.sl.v11 r x) (hR _ _ (by show ew1 k + 1 * (x 1).val = 2 * k.val + 1; omega))
  · have hx : (x 1).val < 1 := (x 1).isLt
    rw [pV_eq]
    refine ((tabV_pk v7 _ _ _ x ?_ ?_).trans ?_).symm
    · show 128 + 1 * (x 2).val = 128 + (x 2).val; omega
    · show 0 + 1 * (x 3).val = (x 3).val; omega
    · rfl
  · have hx : (x 1).val < 1 := (x 1).isLt
    refine ((tabV_hi v7 _ _ _ x ?_ ?_).trans ?_).symm
    · show 0 + 1 * (x 2).val = (x 2).val; omega
    · show 128 + 1 * (x 3).val = 128 + (x 3).val; omega
    · show k0_pay22 _ _ _ (rat arg2 X_arg2 _) x = k0_pay22 _ _ _ (rA arg2 X_arg2 k) x
      rw [eA]
      exact congrArg (fun r => k0_pay22 (k0_pay1 v7) bodyRunTT.sl.v10 bodyRunTT.sl.v11 r x) (hR _ _ (by show ew0 k + 1 * (x 1).val = 2 * k.val; omega))
  · have hx : (x 1).val < 1 := (x 1).isLt
    refine ((tabV_lo v7 _ _ _ x ?_ ?_).trans ?_).symm
    · show 0 + 1 * (x 2).val = (x 2).val; omega
    · show 0 + 1 * (x 3).val = (x 3).val; omega
    · show k0_pay21 _ _ _ (rat arg2 X_arg2 _) x = k0_pay21 _ _ _ (rA arg2 X_arg2 k) x
      rw [eA]
      exact congrArg (fun r => k0_pay21 (k0_pay1 v7) bodyRunTT.sl.v10 bodyRunTT.sl.v11 r x) (hR _ _ (by show ew0 k + 1 * (x 1).val = 2 * k.val; omega))

theorem t1L10_val (k : Fin k0_t1_loop.trips) (p) (hp : p ∈ t1L10 i arg2 v7 X_arg2 k) (x : p.1.shape.Idx) :
    p.2 x = G10 v7 (rat arg2 X_arg2) (p.1.emb x) := by
  have eA := rA_eq arg2 X_arg2 k
  have eB := rB_eq arg2 X_arg2 k
  have ep := pw_eq k
  unfold t1L10 at hp
  simp only [List.mem_cons, List.not_mem_nil, _root_.or_false] at hp
  subst hp
  have hx : (x 1).val < 1 := (x 1).isLt
  dsimp only
  rw [eA, eB]
  have h1 : ((Rect.unit (s := S16x10x16x256) ![gw i, pw k, 0, 0] ![1, 1, 16, 256] (inb10m i k)).emb x 1).val = k.val := by
    show pw k + 1 * (x 1).val = k.val; omega
  unfold G10
  have hA : ∀ a b : Fin 20, a.val = b.val → rat arg2 X_arg2 a = rat arg2 X_arg2 b := fun a b h => by rw [Fin.ext h]
  refine congr (congr (congrArg _ (hA _ _ ?_)) (hA _ _ ?_)) ?_
  · show 2 * k.val = 2 * ((Rect.unit (s := S16x10x16x256) ![gw i, pw k, 0, 0] ![1, 1, 16, 256] (inb10m i k)).emb x 1).val; rw [h1]
  · show 2 * k.val + 1 = 2 * ((Rect.unit (s := S16x10x16x256) ![gw i, pw k, 0, 0] ![1, 1, 16, 256] (inb10m i k)).emb x 1).val + 1; rw [h1]
  · funext a
    fin_cases a
    · exact Fin.ext (by have h : (x 0).val < 1 := (x 0).isLt; show (x 0).val = 0; omega)
    · exact Fin.ext (by show (x 1).val = 0; omega)
    · exact Fin.ext (by show (x 2).val = 0 + 1 * (x 2).val; omega)
    · exact Fin.ext (by show (x 3).val = 0 + 1 * (x 3).val; omega)

/-- After the loop the point's group of the table reads its values, and every other group what it held. -/
theorem read9 (X_arg9 : BufTy.Contents (Elt F) arg9.view.ty) (y : S16x20x160x256.Idx) :
    arg9.view.read (Elt F) (arg9.view.writes (Elt F) X_arg9 ((pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4) k0_t1_loop.trips).1) y
      = if (y 0).val = (i 1).val then G9 v7 (arg4.view.read (Elt F) X_arg4) (rat arg2 X_arg2) y else arg9.view.read (Elt F) X_arg9 y := by
  have hg := gw_eq i
  have y1 : (y 1).val < 20 := (y 1).isLt
  have y2 : (y 2).val < 160 := (y 2).isLt
  have y3 : (y 3).val < 256 := (y 3).isLt
  split_ifs with h
  · refine View.read_writes_apply_of_pieces _ _ _ _ (fun p hp x => ?_) y ?_
    · obtain ⟨k, _, hk⟩ := (pb1_mem9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4 p _ le_rfl).mp hp
      exact t1L9_val i arg2 arg4 v7 X_arg2 X_arg4 k p hk x
    · have hkt : (y 1).val / 2 < k0_t1_loop.trips := by show _ < 10; omega
      have key : ∃ p ∈ t1L9 i arg2 arg4 v7 X_arg2 X_arg4 ⟨(y 1).val / 2, hkt⟩, y ∈ p.1.set := by
        have e0 := ew0_eq ⟨(y 1).val / 2, hkt⟩
        have e1 := ew1_eq ⟨(y 1).val / 2, hkt⟩
        dsimp only at e0 e1

        unfold t1L9
        rcases Nat.mod_two_eq_zero_or_one (y 1).val with hm | hm <;> by_cases h2 : (y 2).val < 128 <;> by_cases h3 : (y 3).val < 128
        · refine ex_skip (ex_skip (ex_skip (ex_skip (ex_skip (ex_hitU ?_))))); refine four ?_ ?_ ?_ ?_
          · show gw i ≤ (y 0).val ∧ (y 0).val < gw i + 1; omega
          · show ew0 _ ≤ (y 1).val ∧ (y 1).val < ew0 _ + 1; omega
          · show 0 ≤ (y 2).val ∧ (y 2).val < 0 + 128; omega
          · show 0 ≤ (y 3).val ∧ (y 3).val < 0 + 128; omega
        · refine ex_skip (ex_skip (ex_skip (ex_skip (ex_hitU ?_)))); refine four ?_ ?_ ?_ ?_
          · show gw i ≤ (y 0).val ∧ (y 0).val < gw i + 1; omega
          · show ew0 _ ≤ (y 1).val ∧ (y 1).val < ew0 _ + 1; omega
          · show 0 ≤ (y 2).val ∧ (y 2).val < 0 + 128; omega
          · show 128 ≤ (y 3).val ∧ (y 3).val < 128 + 128; omega
        · refine ex_skip (ex_skip (ex_skip (ex_hitU ?_))); refine four ?_ ?_ ?_ ?_
          · show gw i ≤ (y 0).val ∧ (y 0).val < gw i + 1; omega
          · show ew0 _ ≤ (y 1).val ∧ (y 1).val < ew0 _ + 1; omega
          · show 128 ≤ (y 2).val ∧ (y 2).val < 128 + 32; omega
          · show 0 ≤ (y 3).val ∧ (y 3).val < 0 + 256; omega
        · refine ex_skip (ex_skip (ex_skip (ex_hitU ?_))); refine four ?_ ?_ ?_ ?_
          · show gw i ≤ (y 0).val ∧ (y 0).val < gw i + 1; omega
          · show ew0 _ ≤ (y 1).val ∧ (y 1).val < ew0 _ + 1; omega
          · show 128 ≤ (y 2).val ∧ (y 2).val < 128 + 32; omega
          · show 0 ≤ (y 3).val ∧ (y 3).val < 0 + 256; omega
        · refine ex_skip (ex_skip (ex_hitU ?_)); refine four ?_ ?_ ?_ ?_
          · show gw i ≤ (y 0).val ∧ (y 0).val < gw i + 1; omega
          · show ew1 _ ≤ (y 1).val ∧ (y 1).val < ew1 _ + 1; omega
          · show 0 ≤ (y 2).val ∧ (y 2).val < 0 + 128; omega
          · show 0 ≤ (y 3).val ∧ (y 3).val < 0 + 128; omega
        · refine ex_skip (ex_hitU ?_); refine four ?_ ?_ ?_ ?_
          · show gw i ≤ (y 0).val ∧ (y 0).val < gw i + 1; omega
          · show ew1 _ ≤ (y 1).val ∧ (y 1).val < ew1 _ + 1; omega
          · show 0 ≤ (y 2).val ∧ (y 2).val < 0 + 128; omega
          · show 128 ≤ (y 3).val ∧ (y 3).val < 128 + 128; omega
        · refine ex_hitU ?_; refine four ?_ ?_ ?_ ?_
          · show gw i ≤ (y 0).val ∧ (y 0).val < gw i + 1; omega
          · show ew1 _ ≤ (y 1).val ∧ (y 1).val < ew1 _ + 1; omega
          · show 128 ≤ (y 2).val ∧ (y 2).val < 128 + 32; omega
          · show 0 ≤ (y 3).val ∧ (y 3).val < 0 + 256; omega
        · refine ex_hitU ?_; refine four ?_ ?_ ?_ ?_
          · show gw i ≤ (y 0).val ∧ (y 0).val < gw i + 1; omega
          · show ew1 _ ≤ (y 1).val ∧ (y 1).val < ew1 _ + 1; omega
          · show 128 ≤ (y 2).val ∧ (y 2).val < 128 + 32; omega
          · show 0 ≤ (y 3).val ∧ (y 3).val < 0 + 256; omega
      obtain ⟨p, hp, hy⟩ := key
      exact ⟨p, (pb1_mem9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4 p _ le_rfl).mpr ⟨_, hkt, hp⟩, hy⟩
  · refine View.read_writes_apply_of_forall_not_mem _ _ y _ (fun p hp hy => h ?_)
    obtain ⟨k, _, hk⟩ := (pb1_mem9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4 p _ le_rfl).mp hp
    unfold t1L9 at hk
    simp only [List.mem_cons, List.not_mem_nil, _root_.or_false] at hk
    have fin : gw i ≤ (y 0).val ∧ (y 0).val < gw i + 1 := by
      rcases hk with rfl | rfl | rfl | rfl | rfl | rfl <;> exact mem_unitU (fun _ => rfl) hy (0 : Fin 4)
    omega

/-- The same of the correction table. -/
theorem read10 (X_arg10 : BufTy.Contents (Elt F) arg10.view.ty) (y : S16x10x16x256.Idx) :
    arg10.view.read (Elt F) (arg10.view.writes (Elt F) X_arg10 ((pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4) k0_t1_loop.trips).2) y
      = if (y 0).val = (i 1).val then G10 v7 (rat arg2 X_arg2) y else arg10.view.read (Elt F) X_arg10 y := by
  have hg := gw_eq i
  have y1 : (y 1).val < 10 := (y 1).isLt
  have y2 : (y 2).val < 16 := (y 2).isLt
  have y3 : (y 3).val < 256 := (y 3).isLt
  split_ifs with h
  · refine View.read_writes_apply_of_pieces _ _ _ _ (fun p hp x => ?_) y ?_
    · obtain ⟨k, _, hk⟩ := (pb1_mem10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4 p _ le_rfl).mp hp
      exact t1L10_val i arg2 v7 X_arg2 k p hk x
    · have hkt : (y 1).val < k0_t1_loop.trips := y1
      suffices hs : ∃ p ∈ t1L10 i arg2 v7 X_arg2 ⟨(y 1).val, hkt⟩, y ∈ p.1.set by
        obtain ⟨p, hp, hy⟩ := hs
        exact ⟨p, (pb1_mem10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4 _ _ le_rfl).mpr ⟨_, hkt, hp⟩, hy⟩
      refine ex_hitU ?_
      have ep := pw_eq ⟨(y 1).val, hkt⟩
      dsimp only at ep
      intro a; fin_cases a
      · show gw i ≤ (y 0).val ∧ (y 0).val < gw i + 1; omega
      · show pw _ ≤ (y 1).val ∧ (y 1).val < pw _ + 1; omega
      · show 0 ≤ (y 2).val ∧ (y 2).val < 0 + 16; omega
      · show 0 ≤ (y 3).val ∧ (y 3).val < 0 + 256; omega
  · refine View.read_writes_apply_of_forall_not_mem _ _ y _ (fun p hp hy => h ?_)
    obtain ⟨k, _, hk⟩ := (pb1_mem10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hc1 v7 X_arg2 X_arg4 p _ le_rfl).mp hp
    unfold t1L10 at hk
    simp only [List.mem_cons, List.not_mem_nil, _root_.or_false] at hk
    have fin : gw i ≤ (y 0).val ∧ (y 0).val < gw i + 1 := by
      rw [hk] at hy; exact mem_unitU (fun _ => rfl) hy (0 : Fin 4)
    omega

end Cert.KernelIdeal.Gen
-- ==== Proof.PI.Blk.lean ====
/- The loop over lane blocks: what its two trips leave in the codes window, the two rows and the accumulator, index by index. -/
module

public import proofs.«01_k».proof.Proof.PI.Tab

@[expose] public section

set_option maxRecDepth 16384
set_option maxHeartbeats 4000000

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values of one grid point, from the blocks it reads -/

/-- Lane block `k` of the weight block. -/
def wbk (B5 : Vec F S128x512 .bf16) (k : Fin 2) : Vec F S128x256 .bf16 := fun y =>
  B5 (ix2 (n0 := 128) (n1 := 512) (y 0) ⟨256 * k.val + (y 1).val, by have h : (y 1).val < 256 := (y 1).isLt; have := k.isLt; omega⟩)

/-- The lane block of lane `l`, -/
def lb (l : Fin 512) : Fin 2 := ⟨l.val / 256, by have := l.isLt; omega⟩
/-- and its lane there. -/
def ll (l : Fin 512) : Fin 256 := ⟨l.val % 256, Nat.mod_lt _ (by decide)⟩

/-- The packed codes. -/
def codesG (R : Fin 20 → Elt F .f32) (B5 : Vec F S128x512 .bf16) (M : Fin 20 → Vec F S1x1x160x256 .bf16) : S1x20x64x512.Idx → Elt F .i8 := fun y =>
  codesV (k0_pay34 (wbk B5 (lb (y 3)))) (k0_pay33 (wbk B5 (lb (y 3)))) (R (y 1)) (M (y 1)) (ix4 (n0 := 1) (n1 := 1) (n2 := 64) (n3 := 256) u0 u0 (y 2) (ll (y 3)))

/-- The column maxima. -/
def aG (B5 : Vec F S128x512 .bf16) (l : Fin 512) : Elt F .f32 :=
  k0_pay35 (wbk B5 (lb l)) (ix2 (n0 := 1) (n1 := 256) u0 (ll l))

/-- The constant terms. -/
def cG (B5 : Vec F S128x512 .bf16) (ha : Vec F S1x128x256 .bf16) (hb : Vec F S1x128x128 .bf16) (l : Fin 512) : Elt F .f32 :=
  k0_pay40 (k0_pay39 (wbk B5 (lb l)) ha hb) (ix2 (n0 := 1) (n1 := 256) u0 (ll l))

/-- Both as functions of an index of their row buffer. -/
def aGy (B5 : Vec F S128x512 .bf16) : S16x512.Idx → Elt F .f32 := fun y => aG B5 (y 1)
def cGy (B5 : Vec F S128x512 .bf16) (ha : Vec F S1x128x256 .bf16) (hb : Vec F S1x128x128 .bf16) : S16x512.Idx → Elt F .f32 := fun y => cG B5 ha hb (y 1)

/-- The accumulator block of ratio `kk`. -/
def accW (R : Fin 20 → Elt F .f32) (M : Fin 20 → Vec F S1x1x160x256 .bf16) (D : Fin 10 → Vec F S1x1x16x256 .bf16) (kk : Fin 20)
    (a : FVec F S1x256 .f32) (wf hw : Vec F S128x256 .f32) : FVec F S1x8x256 .f32 :=
  if kk.val % 2 = 0 then
    accV0 a wf (R kk) (R ⟨(kk.val + 1) % 20, Nat.mod_lt _ (by decide)⟩) (D ⟨kk.val / 2, by have := kk.isLt; omega⟩) (M kk) hw
  else
    accV1 a wf (R ⟨kk.val - 1, by have := kk.isLt; omega⟩) (R kk) (D ⟨kk.val / 2, by have := kk.isLt; omega⟩) (M kk) hw

/-- The accumulator. -/
def accG (R : Fin 20 → Elt F .f32) (B5 : Vec F S128x512 .bf16) (M : Fin 20 → Vec F S1x1x160x256 .bf16) (D : Fin 10 → Vec F S1x1x16x256 .bf16)
    (ha : Vec F S1x128x256 .bf16) (hb : Vec F S1x128x128 .bf16) (kk : Fin 20) (s : Fin 8) (l : Fin 512) : Elt F .f32 :=
  accW R M D kk (k0_pay34 (wbk B5 (lb l))) (k0_pay33 (wbk B5 (lb l))) (k0_pay38 (wbk B5 (lb l)) ha hb)
    (ix3 (n0 := 1) (n1 := 8) (n2 := 256) u0 s (ll l))

variable (𝒱 : Variants) (c : Dev nD) (bd : Option 𝒱.V) (i : grid0.Coords)
variable (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole)
  (arg1 : BitVec 32)
  (X_arg2 : BufTy.Contents (Elt F) arg2.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty)

/-- The table of ratio `kk` at the point's group. -/
def mRow (kk : Fin 20) : Vec F S1x1x160x256 .bf16 := fun y =>
  arg9.view.read (Elt F) X_arg9 (ix4 (n0 := 16) (n1 := 20) (n2 := 160) (n3 := 256) (i 1) kk (y 2) (y 3))

/-- The correction table of pair `jj` at the point's group. -/
def dRow (jj : Fin 10) : Vec F S1x1x16x256 .bf16 := fun y =>
  arg10.view.read (Elt F) X_arg10 (ix4 (n0 := 16) (n1 := 10) (n2 := 16) (n3 := 256) (i 1) jj (y 2) (y 3))

/-- The first two parts of the doubled Gram matrix at the point's group, -/
def haRow : Vec F S1x128x256 .bf16 := fun y =>
  arg11.view.read (Elt F) X_arg11 (ix3 (n0 := 16) (n1 := 128) (n2 := 384) (i 1) (y 1) ⟨(y 2).val, by have h : (y 2).val < 256 := (y 2).isLt; omega⟩)

/-- and the third. -/
def hbRow : Vec F S1x128x128 .bf16 := fun y =>
  arg11.view.read (Elt F) X_arg11 (ix3 (n0 := 16) (n1 := 128) (n2 := 384) (i 1) (y 1) ⟨256 + (y 2).val, by have h : (y 2).val < 128 := (y 2).isLt; omega⟩)

theorem mV_eq (kk : Fin 20) : mV i arg9 X_arg9 kk = mRow i arg9 X_arg9 kk := by
  have hg := gw_eq i
  funext y
  unfold mV mRow
  refine congrArg (arg9.view.read (Elt F) X_arg9) (funext fun a => ?_)
  have h0 : (y 0).val < 1 := (y 0).isLt
  have h1 : (y 1).val < 1 := (y 1).isLt
  fin_cases a
  · exact Fin.ext (by show gw i + 1 * (y 0).val = (i 1).val; omega)
  · exact Fin.ext (by show kk.val + 1 * (y 1).val = kk.val; omega)
  · exact Fin.ext (by show 0 + 1 * (y 2).val = (y 2).val; omega)
  · exact Fin.ext (by show 0 + 1 * (y 3).val = (y 3).val; omega)

theorem dV_eq (jj : Fin 10) : dV i arg10 X_arg10 jj = dRow i arg10 X_arg10 jj := by
  have hg := gw_eq i
  funext y
  unfold dV dRow
  refine congrArg (arg10.view.read (Elt F) X_arg10) (funext fun a => ?_)
  have h0 : (y 0).val < 1 := (y 0).isLt
  have h1 : (y 1).val < 1 := (y 1).isLt
  fin_cases a
  · exact Fin.ext (by show gw i + 1 * (y 0).val = (i 1).val; omega)
  · exact Fin.ext (by show jj.val + 1 * (y 1).val = jj.val; omega)
  · exact Fin.ext (by show 0 + 1 * (y 2).val = (y 2).val; omega)
  · exact Fin.ext (by show 0 + 1 * (y 3).val = (y 3).val; omega)

theorem haV_eq : haV i arg11 X_arg11 = haRow i arg11 X_arg11 := by
  have hg := gw_eq i
  funext y
  unfold haV haRow
  refine congrArg (arg11.view.read (Elt F) X_arg11) (funext fun a => ?_)
  have h0 : (y 0).val < 1 := (y 0).isLt
  fin_cases a
  · exact Fin.ext (by show gw i + 1 * (y 0).val = (i 1).val; omega)
  · exact Fin.ext (by show 0 + 1 * (y 1).val = (y 1).val; omega)
  · exact Fin.ext (by show 0 + 1 * (y 2).val = (y 2).val; omega)

theorem hbV_eq : hbV i arg11 X_arg11 = hbRow i arg11 X_arg11 := by
  have hg := gw_eq i
  funext y
  unfold hbV hbRow
  refine congrArg (arg11.view.read (Elt F) X_arg11) (funext fun a => ?_)
  have h0 : (y 0).val < 1 := (y 0).isLt
  fin_cases a
  · exact Fin.ext (by show gw i + 1 * (y 0).val = (i 1).val; omega)
  · exact Fin.ext (by show 0 + 1 * (y 1).val = (y 1).val; omega)
  · exact Fin.ext (by show 256 + 1 * (y 2).val = 256 + (y 2).val; omega)

theorem wbV_eq (k : Fin k0_t2_loop.trips) : wbV arg5 X_arg5 k = wbk (arg5.view.read (Elt F) X_arg5) k := by
  have hl := lw_eq k
  funext y
  unfold wbV wbk
  refine congrArg (arg5.view.read (Elt F) X_arg5) (funext fun a => ?_)
  fin_cases a
  · exact Fin.ext (by show 0 + 1 * (y 0).val = (y 0).val; omega)
  · exact Fin.ext (by show lw k + 1 * (y 1).val = 256 * k.val + (y 1).val; omega)

theorem v65_eq (k : Fin k0_t2_loop.trips) : trip_k0_t2.sl.v65 arg5 arg15 X_arg5 k = k0_pay33 (wbV arg5 X_arg5 k) := by
  unfold trip_k0_t2.sl.v65 trip_k0_t2.sl.HW_arg15_1
  exact View.readCov_full arg15.view _ _ _ _

theorem v121_eq (k : Fin k0_t2_loop.trips) :
    trip_k0_t2.sl.v121 i arg5 arg11 arg16 X_arg5 X_arg11 k = k0_pay38 (wbV arg5 X_arg5 k) (haV i arg11 X_arg11) (hbV i arg11 X_arg11) := by
  unfold trip_k0_t2.sl.v121 trip_k0_t2.sl.HW_arg16_1
  exact View.readCov_full arg16.view _ _ _ _

theorem accV_eq (kk : Fin 20) (a : FVec F S1x256 .f32) (wf hw : Vec F S128x256 .f32) :
    accV i arg2 arg9 arg10 X_arg2 X_arg9 X_arg10 kk a wf hw = accW (rat arg2 X_arg2) (mRow i arg9 X_arg9) (dRow i arg10 X_arg10) kk a wf hw := by
  unfold accV accW
  simp only [ratV_eq, mV_eq, dV_eq]

/-! ## The pieces of a trip -/

section Pieces

variable (k : Fin k0_t2_loop.trips)

def t2L7 : List (View.Piece (Elt F) S1x20x64x512 .i8) := (List.finRange 20).reverse.map fun kk : Fin 20 =>
  ⟨Rect.unit ![0, kk.val, 0, lw k] ![1, 1, 64, 256] (inb7 k kk), codesV (k0_pay34 (wbk (arg5.view.read (Elt F) X_arg5) k)) (k0_pay33 (wbk (arg5.view.read (Elt F) X_arg5) k)) ((rat arg2 X_arg2) kk) ((mRow i arg9 X_arg9) kk)⟩

def t2L12 : List (View.Piece (Elt F) S16x512 .f32) := [⟨Rect.unit ![gw i, lw k] ![1, 256] (inb12 i k), k0_pay35 (wbk (arg5.view.read (Elt F) X_arg5) k)⟩]

def t2L13 : List (View.Piece (Elt F) S16x512 .f32) := [⟨Rect.unit ![gw i, lw k] ![1, 256] (inb12 i k), k0_pay40 (k0_pay39 (wbk (arg5.view.read (Elt F) X_arg5) k) (haRow i arg11 X_arg11) (hbRow i arg11 X_arg11))⟩]

def t2L14 : List (View.Piece (Elt F) S20x128x512 .f32) := (List.finRange 20).reverse.map fun kk : Fin 20 =>
  ⟨Rect.unit ![kk.val, rw8 i, lw k] ![1, 8, 256] (inb14 i k kk), accW (rat arg2 X_arg2) (mRow i arg9 X_arg9) (dRow i arg10 X_arg10) kk (k0_pay34 (wbk (arg5.view.read (Elt F) X_arg5) k)) (k0_pay33 (wbk (arg5.view.read (Elt F) X_arg5) k)) (k0_pay38 (wbk (arg5.view.read (Elt F) X_arg5) k) (haRow i arg11 X_arg11) (hbRow i arg11 X_arg11))⟩

end Pieces

variable (X_arg7 : BufTy.Contents (Elt F) arg7.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty)

def pb2 (n : ℕ) := pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16 n

theorem pb2_succ (k : Fin k0_t2_loop.trips) :
    ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) (k.val + 1)).1 = t2L7 i arg2 arg5 arg9 X_arg2 X_arg5 X_arg9 k ++ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k.val).1
    ∧ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) (k.val + 1)).2.1 = t2L12 i arg5 X_arg5 k ++ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k.val).2.1
    ∧ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) (k.val + 1)).2.2.1 = t2L13 i arg5 arg11 X_arg5 X_arg11 k ++ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k.val).2.2.1
    ∧ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) (k.val + 1)).2.2.2.1 = t2L14 i arg2 arg5 arg9 arg10 arg11 X_arg2 X_arg5 X_arg9 X_arg10 X_arg11 k ++ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k.val).2.2.2.1 := by
  unfold pb2
  rw [pb_k0_t2_succ]
  dsimp only
  rw [trip2_codes, trip2_a, trip2_c, trip2_acc]
  unfold t2L7 t2L12 t2L13 t2L14
  simp only [v65_eq, v121_eq, accV_eq, wbV_eq, ratV_eq, mV_eq, haV_eq, hbV_eq, and_self]

theorem pb2_all :
    ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k0_t2_loop.trips).1 = t2L7 i arg2 arg5 arg9 X_arg2 X_arg5 X_arg9 (1 : Fin 2) ++ (t2L7 i arg2 arg5 arg9 X_arg2 X_arg5 X_arg9 (0 : Fin 2) ++ [])
    ∧ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k0_t2_loop.trips).2.1 = t2L12 i arg5 X_arg5 (1 : Fin 2) ++ (t2L12 i arg5 X_arg5 (0 : Fin 2) ++ [])
    ∧ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k0_t2_loop.trips).2.2.1 = t2L13 i arg5 arg11 X_arg5 X_arg11 (1 : Fin 2) ++ (t2L13 i arg5 arg11 X_arg5 X_arg11 (0 : Fin 2) ++ [])
    ∧ ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k0_t2_loop.trips).2.2.2.1 = t2L14 i arg2 arg5 arg9 arg10 arg11 X_arg2 X_arg5 X_arg9 X_arg10 X_arg11 (1 : Fin 2)
        ++ (t2L14 i arg2 arg5 arg9 arg10 arg11 X_arg2 X_arg5 X_arg9 X_arg10 X_arg11 (0 : Fin 2) ++ []) := by
  obtain ⟨a1, a2, a3, a4⟩ := pb2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16 (1 : Fin 2)
  obtain ⟨b1, b2, b3, b4⟩ := pb2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16 (0 : Fin 2)
  exact ⟨a1.trans (congrArg _ b1), a2.trans (congrArg _ b2), a3.trans (congrArg _ b3), a4.trans (congrArg _ b4)⟩

theorem mem2 {α : Type} {L : Fin 2 → List α} {p : α} : p ∈ L 1 ++ (L 0 ++ []) ↔ ∃ k, p ∈ L k := by
  rw [List.append_nil, List.mem_append]
  constructor
  · rintro (h | h)
    · exact ⟨1, h⟩
    · exact ⟨0, h⟩
  · rintro ⟨k, h⟩
    fin_cases k
    · exact Or.inr h
    · exact Or.inl h

theorem lb_eq (k : Fin 2) (l : Fin 512) (z : ℕ) (hz : z < 256) (h : l.val = 256 * k.val + z) : lb l = k := Fin.ext (by show l.val / 256 = k.val; omega)
theorem ll_eq (k : Fin 2) (l : Fin 512) (z : Fin 256) (h : l.val = 256 * k.val + z.val) : ll l = z := Fin.ext (by have := z.isLt; show l.val % 256 = z.val; omega)

attribute [local irreducible] gw lw rw8

/-- What the loop leaves in the codes' window. -/
theorem read7 (y : S1x20x64x512.Idx) : arg7.view.read (Elt F) (arg7.view.writes (Elt F) X_arg7 ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k0_t2_loop.trips).1) y = codesG (rat arg2 X_arg2) (arg5.view.read (Elt F) X_arg5) (mRow i arg9 X_arg9) y := by
  have y0 : (y 0).val < 1 := (y 0).isLt
  have y2 : (y 2).val < 64 := (y 2).isLt
  have y3 : (y 3).val < 512 := (y 3).isLt
  rw [(pb2_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16).1]
  refine View.read_writes_apply_of_pieces _ _ _ _ (fun p hp x => ?_) y ?_
  · obtain ⟨k, hk⟩ := mem2.mp hp
    unfold t2L7 at hk
    obtain ⟨kk, _, rfl⟩ := List.mem_map.mp hk
    have hl := lw_eq k
    have x1 : (x 1).val < 1 := (x 1).isLt
    have x3 : (x 3).val < 256 := (x 3).isLt
    have e1 : (Rect.unit (s := S1x20x64x512) ![0, kk.val, 0, lw k] ![1, 1, 64, 256] (inb7 k kk)).emb x 1 = kk :=
      Fin.ext (by show kk.val + 1 * (x 1).val = kk.val; omega)
    have e3 : ((Rect.unit (s := S1x20x64x512) ![0, kk.val, 0, lw k] ![1, 1, 64, 256] (inb7 k kk)).emb x 3).val = 256 * k.val + (x 3).val := by
      show lw k + 1 * (x 3).val = _; omega
    unfold codesG
    dsimp only
    rw [lb_eq k _ _ x3 e3, ll_eq k _ ⟨_, x3⟩ e3, e1]
    refine congrArg _ (funext fun a => ?_)
    fin_cases a
    · exact Fin.ext (by have h : (x 0).val < 1 := (x 0).isLt; show (x 0).val = 0; omega)
    · exact Fin.ext (by show (x 1).val = 0; omega)
    · exact Fin.ext (by show (x 2).val = 0 + 1 * (x 2).val; omega)
    · rfl
  · have hl := lw_eq (lb (y 3))
    have hb : (lb (y 3)).val = (y 3).val / 256 := rfl
    suffices hs : ∃ p ∈ t2L7 i arg2 arg5 arg9 X_arg2 X_arg5 X_arg9 (lb (y 3)), y ∈ p.1.set by
      obtain ⟨p, hp, hy⟩ := hs
      exact ⟨p, mem2.mpr ⟨_, hp⟩, hy⟩
    unfold t2L7
    refine ⟨_, List.mem_map.mpr ⟨y 1, List.mem_reverse.mpr (List.mem_finRange _), rfl⟩, ?_⟩
    refine mem_unitU' (fun _ => rfl) (four ?_ ?_ ?_ ?_)
    · show 0 ≤ (y 0).val ∧ (y 0).val < 0 + 1; omega
    · show (y 1).val ≤ (y 1).val ∧ (y 1).val < (y 1).val + 1; omega
    · show 0 ≤ (y 2).val ∧ (y 2).val < 0 + 64; omega
    · show lw (lb (y 3)) ≤ (y 3).val ∧ (y 3).val < lw (lb (y 3)) + 256; omega

/-- What the loop leaves in the row of column maxima. -/
theorem read12 (y : S16x512.Idx) : arg12.view.read (Elt F) (arg12.view.writes (Elt F) X_arg12 ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k0_t2_loop.trips).2.1) y
    = if (y 0).val = (i 1).val then aGy (arg5.view.read (Elt F) X_arg5) y else arg12.view.read (Elt F) X_arg12 y := by
  have hg := gw_eq i
  have y1 : (y 1).val < 512 := (y 1).isLt
  rw [(pb2_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16).2.1]
  split_ifs with h
  · refine View.read_writes_apply_of_pieces _ _ (aGy (arg5.view.read (Elt F) X_arg5)) _ (fun p hp x => ?_) y ?_
    · obtain ⟨k, hk⟩ := mem2.mp hp
      unfold t2L12 at hk
      obtain rfl := List.mem_singleton.mp hk
      have hl := lw_eq k
      have x1 : (x 1).val < 256 := (x 1).isLt
      have e1 : ((Rect.unit (s := S16x512) ![gw i, lw k] ![1, 256] (inb12 i k)).emb x 1).val = 256 * k.val + (x 1).val := by
        show lw k + 1 * (x 1).val = _; omega
      unfold aGy aG
      dsimp only
      rw [lb_eq k _ _ x1 e1, ll_eq k _ ⟨_, x1⟩ e1]
      refine congrArg _ (funext fun a => ?_)
      fin_cases a
      · exact Fin.ext (by have h : (x 0).val < 1 := (x 0).isLt; show (x 0).val = 0; omega)
      · rfl
    · have hl := lw_eq (lb (y 1))
      have hb : (lb (y 1)).val = (y 1).val / 256 := rfl
      suffices hs : ∃ p ∈ t2L12 i arg5 X_arg5 (lb (y 1)), y ∈ p.1.set by
        obtain ⟨p, hp, hy⟩ := hs
        exact ⟨p, mem2.mpr ⟨_, hp⟩, hy⟩
      unfold t2L12
      refine ex_hitU (two ?_ ?_)
      · show gw i ≤ (y 0).val ∧ (y 0).val < gw i + 1; omega
      · show lw (lb (y 1)) ≤ (y 1).val ∧ (y 1).val < lw (lb (y 1)) + 256; omega
  · refine View.read_writes_apply_of_forall_not_mem _ _ y _ (fun p hp hy => h ?_)
    obtain ⟨k, hk⟩ := mem2.mp hp
    unfold t2L12 at hk
    obtain rfl := List.mem_singleton.mp hk
    have fin : gw i ≤ (y 0).val ∧ (y 0).val < gw i + 1 := mem_unitU (fun _ => rfl) hy (0 : Fin 2)
    omega

/-- What the loop leaves in the row of constant terms. -/
theorem read13 (y : S16x512.Idx) : arg13.view.read (Elt F) (arg13.view.writes (Elt F) X_arg13 ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k0_t2_loop.trips).2.2.1) y
    = if (y 0).val = (i 1).val then cGy (arg5.view.read (Elt F) X_arg5) (haRow i arg11 X_arg11) (hbRow i arg11 X_arg11) y else arg13.view.read (Elt F) X_arg13 y := by
  have hg := gw_eq i
  have y1 : (y 1).val < 512 := (y 1).isLt
  rw [(pb2_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16).2.2.1]
  split_ifs with h
  · refine View.read_writes_apply_of_pieces _ _ (cGy (arg5.view.read (Elt F) X_arg5) (haRow i arg11 X_arg11) (hbRow i arg11 X_arg11)) _ (fun p hp x => ?_) y ?_
    · obtain ⟨k, hk⟩ := mem2.mp hp
      unfold t2L13 at hk
      obtain rfl := List.mem_singleton.mp hk
      have hl := lw_eq k
      have x1 : (x 1).val < 256 := (x 1).isLt
      have e1 : ((Rect.unit (s := S16x512) ![gw i, lw k] ![1, 256] (inb12 i k)).emb x 1).val = 256 * k.val + (x 1).val := by
        show lw k + 1 * (x 1).val = _; omega
      unfold cGy cG
      dsimp only
      rw [lb_eq k _ _ x1 e1, ll_eq k _ ⟨_, x1⟩ e1]
      refine congrArg _ (funext fun a => ?_)
      fin_cases a
      · exact Fin.ext (by have h : (x 0).val < 1 := (x 0).isLt; show (x 0).val = 0; omega)
      · rfl
    · have hl := lw_eq (lb (y 1))
      have hb : (lb (y 1)).val = (y 1).val / 256 := rfl
      suffices hs : ∃ p ∈ t2L13 i arg5 arg11 X_arg5 X_arg11 (lb (y 1)), y ∈ p.1.set by
        obtain ⟨p, hp, hy⟩ := hs
        exact ⟨p, mem2.mpr ⟨_, hp⟩, hy⟩
      unfold t2L13
      refine ex_hitU (two ?_ ?_)
      · show gw i ≤ (y 0).val ∧ (y 0).val < gw i + 1; omega
      · show lw (lb (y 1)) ≤ (y 1).val ∧ (y 1).val < lw (lb (y 1)) + 256; omega
  · refine View.read_writes_apply_of_forall_not_mem _ _ y _ (fun p hp hy => h ?_)
    obtain ⟨k, hk⟩ := mem2.mp hp
    unfold t2L13 at hk
    obtain rfl := List.mem_singleton.mp hk
    have fin : gw i ≤ (y 0).val ∧ (y 0).val < gw i + 1 := mem_unitU (fun _ => rfl) hy (0 : Fin 2)
    omega

/-- Row `m` of the accumulator within its group. -/
def sub8 (m : Fin 128) : Fin 8 := ⟨m.val % 8, Nat.mod_lt _ (by decide)⟩

/-- What the loop leaves in the accumulator. -/
theorem read14 (y : S20x128x512.Idx) : arg14.view.read (Elt F) (arg14.view.writes (Elt F) X_arg14 ((pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16) k0_t2_loop.trips).2.2.2.1) y
    = if (y 1).val / 8 = (i 1).val then accG (rat arg2 X_arg2) (arg5.view.read (Elt F) X_arg5) (mRow i arg9 X_arg9) (dRow i arg10 X_arg10) (haRow i arg11 X_arg11) (hbRow i arg11 X_arg11) (y 0) (sub8 (y 1)) (y 2) else arg14.view.read (Elt F) X_arg14 y := by
  have hg := rw8_eq i
  have y1 : (y 1).val < 128 := (y 1).isLt
  have y2 : (y 2).val < 512 := (y 2).isLt
  rw [(pb2_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 X_arg2 X_arg5 X_arg9 X_arg10 X_arg11 X_arg7 X_arg12 X_arg13 X_arg14 X_arg15 X_arg16).2.2.2]
  split_ifs with h
  · refine View.read_writes_apply_of_pieces _ _ (fun y => accG (rat arg2 X_arg2) (arg5.view.read (Elt F) X_arg5) (mRow i arg9 X_arg9) (dRow i arg10 X_arg10) (haRow i arg11 X_arg11) (hbRow i arg11 X_arg11) (y 0) (sub8 (y 1)) (y 2)) _ (fun p hp x => ?_) y ?_
    · obtain ⟨k, hk⟩ := mem2.mp hp
      unfold t2L14 at hk
      obtain ⟨kk, _, rfl⟩ := List.mem_map.mp hk
      have hl := lw_eq k
      have x0 : (x 0).val < 1 := (x 0).isLt
      have x1 : (x 1).val < 8 := (x 1).isLt
      have x2 : (x 2).val < 256 := (x 2).isLt
      have e0 : (Rect.unit (s := S20x128x512) ![kk.val, rw8 i, lw k] ![1, 8, 256] (inb14 i k kk)).emb x 0 = kk :=
        Fin.ext (by show kk.val + 1 * (x 0).val = kk.val; omega)
      have e1 : ((Rect.unit (s := S20x128x512) ![kk.val, rw8 i, lw k] ![1, 8, 256] (inb14 i k kk)).emb x 1).val = 8 * (i 1).val + (x 1).val := by
        show rw8 i + 1 * (x 1).val = _; omega
      have e2 : ((Rect.unit (s := S20x128x512) ![kk.val, rw8 i, lw k] ![1, 8, 256] (inb14 i k kk)).emb x 2).val = 256 * k.val + (x 2).val := by
        show lw k + 1 * (x 2).val = _; omega
      have e1' : sub8 ((Rect.unit (s := S20x128x512) ![kk.val, rw8 i, lw k] ![1, 8, 256] (inb14 i k kk)).emb x 1) = ⟨(x 1).val, x1⟩ :=
        Fin.ext (by
          show ((Rect.unit (s := S20x128x512) ![kk.val, rw8 i, lw k] ![1, 8, 256] (inb14 i k kk)).emb x 1).val % 8 = (x 1).val
          rw [e1]; omega)
      unfold accG
      dsimp only
      rw [lb_eq k _ _ x2 e2, ll_eq k _ ⟨_, x2⟩ e2, e0, e1']
      refine congrArg _ (funext fun a => ?_)
      fin_cases a
      · exact Fin.ext (by show (x 0).val = 0; omega)
      · rfl
      · rfl
    · have hl := lw_eq (lb (y 2))
      have hb : (lb (y 2)).val = (y 2).val / 256 := rfl
      suffices hs : ∃ p ∈ t2L14 i arg2 arg5 arg9 arg10 arg11 X_arg2 X_arg5 X_arg9 X_arg10 X_arg11 (lb (y 2)), y ∈ p.1.set by
        obtain ⟨p, hp, hy⟩ := hs
        exact ⟨p, mem2.mpr ⟨_, hp⟩, hy⟩
      unfold t2L14
      refine ⟨_, List.mem_map.mpr ⟨y 0, List.mem_reverse.mpr (List.mem_finRange _), rfl⟩, ?_⟩
      refine mem_unitU' (fun _ => rfl) (three ?_ ?_ ?_)
      · show (y 0).val ≤ (y 0).val ∧ (y 0).val < (y 0).val + 1; omega
      · show rw8 i ≤ (y 1).val ∧ (y 1).val < rw8 i + 8; omega
      · show lw (lb (y 2)) ≤ (y 2).val ∧ (y 2).val < lw (lb (y 2)) + 256; omega
  · refine View.read_writes_apply_of_forall_not_mem _ _ y _ (fun p hp hy => h ?_)
    obtain ⟨k, hk⟩ := mem2.mp hp
    unfold t2L14 at hk
    obtain ⟨kk, _, rfl⟩ := List.mem_map.mp hk
    have fin : rw8 i ≤ (y 1).val ∧ (y 1).val < rw8 i + 8 := mem_unitU (fun _ => rfl) hy (1 : Fin 3)
    omega

end Cert.KernelIdeal.Gen
-- ==== Proof.PI.Last.lean ====
/- The last loop, and the stores of the doubled Gram matrix: what they leave, index by index. -/
module

public import proofs.«01_k».proof.Proof.PI.Blk

@[expose] public section

set_option maxRecDepth 16384
set_option maxHeartbeats 4000000

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (𝒱 : Variants) (c : Dev nD) (bd : Option 𝒱.V) (i : grid0.Coords)
variable (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole)
  (arg1 : BitVec 32)
  (hc2 : k0_cond2 i = 1#1) (v7 : Vec F S16x512 .f32)
  (X_arg2 : BufTy.Contents (Elt F) arg2.view.ty) (X_arg13 : BufTy.Contents (Elt F) arg13.view.ty) (X_arg14 : BufTy.Contents (Elt F) arg14.view.ty) (X_arg11 : BufTy.Contents (Elt F) arg11.view.ty)

/-- Ratio `kk`'s plane of the accumulator. -/
def row14 (T : S20x128x512.Idx → Elt F .f32) (kk : Fin 20) : Vec F S1x128x512 .f32 := fun y =>
  T (ix3 (n0 := 20) (n1 := 128) (n2 := 512) kk (y 1) (y 2))

theorem inbO (kk : Fin 20) : ∀ a, (![kk.val, 0, 0] : Fin 3 → ℕ) a + S1x16x512.size a ≤ S20x16x512.size a :=
  three (by have := kk.isLt; show kk.val + 1 ≤ 20; omega) (by show 0 + 16 ≤ 16; omega) (by show 0 + 512 ≤ 512; omega)

theorem inb14A (kk : Fin 20) : ∀ a, (![kk.val, 0, 0] : Fin 3 → ℕ) a + S1x128x512.size a ≤ S20x128x512.size a :=
  three (by have := kk.isLt; show kk.val + 1 ≤ 20; omega) (by show 0 + 128 ≤ 128; omega) (by show 0 + 512 ≤ 512; omega)

def v14V (kk : Fin 20) : Vec F S1x128x512 .f32 := View.readAt (Elt F) arg14.view (Rect.unit (s := S20x128x512) ![kk.val, 0, 0] S1x128x512.size (inb14A kk)).toLoadRect X_arg14
def v13V : Vec F S16x512 .f32 := View.readAt (Elt F) arg13.view (Rect.unit (s := S16x512) ![0, 0] S16x512.size inb_S16x512_S16x512_0_0).toLoadRect X_arg13

theorem v13V_eq : v13V arg13 X_arg13 = arg13.view.read (Elt F) X_arg13 := by
  have h0 : (![0, 0] : Fin 2 → ℕ) = 0 := by funext a; fin_cases a <;> rfl
  funext y
  exact (congrFun (View.readAt_unit arg13.view X_arg13 inb_S16x512_S16x512_0_0 rfl inb_S16x512_S16x512_0_0) _).trans
    (congrArg (arg13.view.read (Elt F) X_arg13) (funext fun a => Fin.ext (by
      fin_cases a
      · show 0 + 1 * (y 0).val = (y 0).val; omega
      · show 0 + 1 * (y 1).val = (y 1).val; omega)))

theorem v14V_eq (kk : Fin 20) : v14V arg14 X_arg14 kk = row14 (arg14.view.read (Elt F) X_arg14) kk := by
  funext y
  unfold v14V row14
  refine (congrFun (View.readAt_unit arg14.view X_arg14 (inb14A kk) rfl (inb14A kk)) _).trans
    (congrArg (arg14.view.read (Elt F) X_arg14) (funext fun a => Fin.ext ?_))
  have h0 : (y 0).val < 1 := (y 0).isLt
  fin_cases a
  · show kk.val + 1 * (y 0).val = kk.val; omega
  · show 0 + 1 * (y 1).val = (y 1).val; omega
  · show 0 + 1 * (y 2).val = (y 2).val; omega

def k20 (k : Fin k0_t3_loop.trips) : Fin 20 := ⟨k.val, Nat.lt_of_lt_of_le k.isLt k0_t3_abs.2.1⟩

section Trip3
variable (kk : Fin 20)
def t3L6 : List (View.Piece (Elt F) S20x16x512 .f32) :=
  [⟨Rect.unit ![kk.val, 0, 0] S1x16x512.size (inbO kk), k0_pay15 v7 (row14 (arg14.view.read (Elt F) X_arg14) kk) (arg13.view.read (Elt F) X_arg13) ((rat arg2 X_arg2) kk)⟩]
def t3L8 : List (View.Piece (Elt F) S20x16x512 .f32) :=
  [⟨Rect.unit ![kk.val, 0, 0] S1x16x512.size (inbO kk), k0_pay14 v7 ((rat arg2 X_arg2) kk)⟩]
end Trip3

theorem tripL3 (k : Fin k0_t3_loop.trips) : tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14 k
    = (t3L6 arg2 arg13 arg14 v7 X_arg2 X_arg13 X_arg14 (k20 k), t3L8 arg2 v7 X_arg2 (k20 k)) := by
  have key : ∀ (o87 : Fin 1 → ℕ) (o88 o89 : Fin 3 → ℕ) (h87 : o87 = ![k.val]) (h88 : o88 = ![k.val, 0, 0]) (h89 : o89 = ![k.val, 0, 0])
      (i87 : ∀ a, o87 a + S1.size a ≤ S20.size a) (i88 : ∀ a, o88 a + S1x16x512.size a ≤ S20x16x512.size a) (i89 : ∀ a, o89 a + S1x128x512.size a ≤ S20x128x512.size a),
      (([⟨Rect.unit o88 S1x16x512.size i88, k0_pay15 v7 (View.readAt (Elt F) arg14.view (Rect.unit (s := S20x128x512) o89 S1x128x512.size i89).toLoadRect X_arg14)
          (v13V arg13 X_arg13) (View.readAt (Elt F) arg2.view (Rect.unit (s := S20) o87 S1.size i87).toLoadRect X_arg2 (Shape.Idx.first (s := S1) (show 0 < S1.numel by decide)))⟩],
       [⟨Rect.unit o88 S1x16x512.size i88, k0_pay14 v7 (View.readAt (Elt F) arg2.view (Rect.unit (s := S20) o87 S1.size i87).toLoadRect X_arg2 (Shape.Idx.first (s := S1) (show 0 < S1.numel by decide)))⟩]) : List (View.Piece (Elt F) S20x16x512 .f32) × List (View.Piece (Elt F) S20x16x512 .f32))
      = (t3L6 arg2 arg13 arg14 v7 X_arg2 X_arg13 X_arg14 (k20 k), t3L8 arg2 v7 X_arg2 (k20 k)) := by
    rintro _ _ _ rfl rfl rfl i87 i88 i89
    unfold t3L6 t3L8
    rw [← v14V_eq, ← v13V_eq, ← ratV_eq]
    rfl
  unfold tripL_k0_t3 trip_k0_t3
  dsimp only
  unfold trip_k0_t3.sl.r
  exact key _ _ _ (k0_off87_eq k) (k0_off88_eq k) (k0_off89_eq k) (k0_off87_inb i k hc2) (k0_off88_inb i k hc2) (k0_off89_inb i k hc2)

def pb3 (n : ℕ) := pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14 n

theorem pb3_succ (k : Fin k0_t3_loop.trips) : (pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14) (k.val + 1)
    = (t3L6 arg2 arg13 arg14 v7 X_arg2 X_arg13 X_arg14 (k20 k) ++ ((pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14) k.val).1, t3L8 arg2 v7 X_arg2 (k20 k) ++ ((pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14) k.val).2) := by
  unfold pb3
  rw [pb_k0_t3_succ, tripL3]

theorem pb3_mem6 (p) : ∀ n, n ≤ k0_t3_loop.trips → (p ∈ ((pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14) n).1 ↔ ∃ k : Fin k0_t3_loop.trips, k.val < n ∧ p ∈ t3L6 arg2 arg13 arg14 v7 X_arg2 X_arg13 X_arg14 (k20 k))
  | 0, _ => ⟨fun h => absurd h List.not_mem_nil, fun ⟨_, h, _⟩ => absurd h (Nat.not_lt_zero _)⟩
  | n + 1, hn => by
    rw [show n + 1 = (⟨n, hn⟩ : Fin k0_t3_loop.trips).val + 1 from rfl, pb3_succ, List.mem_append, pb3_mem6 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.mp hk with h' | h'
      · exact Or.inr ⟨k, h', h⟩
      · left
        obtain rfl : k = ⟨n, hn⟩ := Fin.ext h'
        exact h

theorem pb3_mem8 (p) : ∀ n, n ≤ k0_t3_loop.trips → (p ∈ ((pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14) n).2 ↔ ∃ k : Fin k0_t3_loop.trips, k.val < n ∧ p ∈ t3L8 arg2 v7 X_arg2 (k20 k))
  | 0, _ => ⟨fun h => absurd h List.not_mem_nil, fun ⟨_, h, _⟩ => absurd h (Nat.not_lt_zero _)⟩
  | n + 1, hn => by
    rw [show n + 1 = (⟨n, hn⟩ : Fin k0_t3_loop.trips).val + 1 from rfl, pb3_succ, List.mem_append, pb3_mem8 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.mp hk with h' | h'
      · exact Or.inr ⟨k, h', h⟩
      · left
        obtain rfl : k = ⟨n, hn⟩ := Fin.ext h'
        exact h

/-- The loss of a block of columns: `a` and `cc` the two rows, `T` the accumulator. -/
def lossG (R : Fin 20 → Elt F .f32) (a : Vec F S16x512 .f32) (T : S20x128x512.Idx → Elt F .f32) (cc : Vec F S16x512 .f32) : S20x16x512.Idx → Elt F .f32 := fun y =>
  k0_pay15 a (row14 T (y 0)) cc (R (y 0)) (ix3 (n0 := 1) (n1 := 16) (n2 := 512) u0 (y 1) (y 2))

/-- The scale of a block of columns. -/
def scaleG (R : Fin 20 → Elt F .f32) (a : Vec F S16x512 .f32) : S20x16x512.Idx → Elt F .f32 := fun y =>
  k0_pay14 a (R (y 0)) (ix3 (n0 := 1) (n1 := 16) (n2 := 512) u0 (y 1) (y 2))

theorem trips3 (kk : Fin 20) : kk.val < k0_t3_loop.trips := by
  have : k0_t3_loop.trips = 20 := by decide
  have := kk.isLt
  omega

theorem emb3 (kk : Fin 20) (x : S1x16x512.Idx) :
    (Rect.unit (s := S20x16x512) ![kk.val, 0, 0] S1x16x512.size (inbO kk)).emb x = ix3 (n0 := 20) (n1 := 16) (n2 := 512) kk (x 1) (x 2) := by
  funext a
  have x0 : (x 0).val < 1 := (x 0).isLt
  fin_cases a
  · exact Fin.ext (by show kk.val + 1 * (x 0).val = kk.val; omega)
  · exact Fin.ext (by show 0 + 1 * (x 1).val = (x 1).val; omega)
  · exact Fin.ext (by show 0 + 1 * (x 2).val = (x 2).val; omega)

theorem self3 (x : S1x16x512.Idx) : x = ix3 (n0 := 1) (n1 := 16) (n2 := 512) u0 (x 1) (x 2) := by
  funext a
  have x0 : (x 0).val < 1 := (x 0).isLt
  fin_cases a
  · exact Fin.ext (by show (x 0).val = 0; omega)
  · rfl
  · rfl

theorem mem3 (y : S20x16x512.Idx) : y ∈ (Rect.unit (s := S20x16x512) ![(y 0).val, 0, 0] S1x16x512.size (inbO (y 0))).set := by
  have y1 : (y 1).val < 16 := (y 1).isLt
  have y2 : (y 2).val < 512 := (y 2).isLt
  refine mem_unitU' (fun _ => rfl) (three ?_ ?_ ?_)
  · show (y 0).val ≤ (y 0).val ∧ (y 0).val < (y 0).val + 1; omega
  · show 0 ≤ (y 1).val ∧ (y 1).val < 0 + 16; omega
  · show 0 ≤ (y 2).val ∧ (y 2).val < 0 + 512; omega

variable (X_arg6 : BufTy.Contents (Elt F) arg6.view.ty) (X_arg8 : BufTy.Contents (Elt F) arg8.view.ty)

/-- What the last loop leaves in the loss window. -/
theorem read6 (y : S20x16x512.Idx) : arg6.view.read (Elt F) (arg6.view.writes (Elt F) X_arg6 ((pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14) k0_t3_loop.trips).1) y = lossG (rat arg2 X_arg2) v7 (arg14.view.read (Elt F) X_arg14) (arg13.view.read (Elt F) X_arg13) y := by
  refine View.read_writes_apply_of_pieces _ _ (lossG (rat arg2 X_arg2) v7 (arg14.view.read (Elt F) X_arg14) (arg13.view.read (Elt F) X_arg13)) _ (fun p hp x => ?_) y ?_
  · obtain ⟨k, _, hk⟩ := (pb3_mem6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14 p _ le_rfl).mp hp
    unfold t3L6 at hk
    obtain rfl := List.mem_singleton.mp hk
    show k0_pay15 v7 (row14 (arg14.view.read (Elt F) X_arg14) (k20 k)) (arg13.view.read (Elt F) X_arg13) ((rat arg2 X_arg2) (k20 k)) x = lossG (rat arg2 X_arg2) v7 (arg14.view.read (Elt F) X_arg14) (arg13.view.read (Elt F) X_arg13) ((Rect.unit (s := S20x16x512) ![(k20 k).val, 0, 0] S1x16x512.size (inbO (k20 k))).emb x)
    rw [emb3]
    exact congrArg _ (self3 x)
  · exact ⟨_, (pb3_mem6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14 _ _ le_rfl).mpr ⟨⟨(y 0).val, trips3 (y 0)⟩, trips3 (y 0), List.mem_singleton.mpr rfl⟩, mem3 y⟩

/-- What the last loop leaves in the scale window. -/
theorem read8 (y : S20x16x512.Idx) : arg8.view.read (Elt F) (arg8.view.writes (Elt F) X_arg8 ((pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14) k0_t3_loop.trips).2) y = scaleG (rat arg2 X_arg2) v7 y := by
  refine View.read_writes_apply_of_pieces _ _ (scaleG (rat arg2 X_arg2) v7) _ (fun p hp x => ?_) y ?_
  · obtain ⟨k, _, hk⟩ := (pb3_mem8 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14 p _ le_rfl).mp hp
    unfold t3L8 at hk
    obtain rfl := List.mem_singleton.mp hk
    show k0_pay14 v7 ((rat arg2 X_arg2) (k20 k)) x = scaleG (rat arg2 X_arg2) v7 ((Rect.unit (s := S20x16x512) ![(k20 k).val, 0, 0] S1x16x512.size (inbO (k20 k))).emb x)
    rw [emb3]
    exact congrArg _ (self3 x)
  · exact ⟨_, (pb3_mem8 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 v7 X_arg2 X_arg13 X_arg14 _ _ le_rfl).mpr ⟨⟨(y 0).val, trips3 (y 0)⟩, trips3 (y 0), List.mem_singleton.mpr rfl⟩, mem3 y⟩

/-! ## The doubled Gram matrix -/

/-- The three parts of the doubled Gram matrix of the block `v`. -/
def G11 (v : Vec F S256x128 .bf16) : S16x128x384.Idx → Elt F .bf16 := fun y =>
  if (y 2).val < 128 then k0_pay6 v (ix3 (n0 := 1) (n1 := 128) (n2 := 128) u0 (y 1) ⟨(y 2).val % 128, Nat.mod_lt _ (by decide)⟩)
  else if (y 2).val < 256 then k0_pay7 v (ix3 (n0 := 1) (n1 := 128) (n2 := 128) u0 (y 1) ⟨(y 2).val % 128, Nat.mod_lt _ (by decide)⟩)
  else k0_pay8 v (ix3 (n0 := 1) (n1 := 128) (n2 := 128) u0 (y 1) ⟨(y 2).val % 128, Nat.mod_lt _ (by decide)⟩)

def L11 (hc1 : k0_cond1 i = 1#1) (v : Vec F S256x128 .bf16) : List (View.Piece (Elt F) S16x128x384 .bf16) :=
  [⟨Rect.unit (k0_off3 i) S1x128x128.size (k0_off3_inb i hc1), k0_pay8 v⟩,
   ⟨Rect.unit (k0_off2 i) S1x128x128.size (k0_off2_inb i hc1), k0_pay7 v⟩,
   ⟨Rect.unit (k0_off1 i) S1x128x128.size (k0_off1_inb i hc1), k0_pay6 v⟩]

theorem off1 : k0_off1 i 0 = (i 1).val ∧ k0_off1 i 1 = 0 ∧ k0_off1 i 2 = 0 := by rw [k0_off1_eq]; exact ⟨rfl, rfl, rfl⟩
theorem off2 : k0_off2 i 0 = (i 1).val ∧ k0_off2 i 1 = 0 ∧ k0_off2 i 2 = 128 := by rw [k0_off2_eq]; exact ⟨rfl, rfl, rfl⟩
theorem off3 : k0_off3 i 0 = (i 1).val ∧ k0_off3 i 1 = 0 ∧ k0_off3 i 2 = 256 := by rw [k0_off3_eq]; exact ⟨rfl, rfl, rfl⟩

theorem self11 (x : S1x128x128.Idx) (q : Fin 128) (l : Fin 128) (hq : q.val = 0 + 1 * (x 1).val) (hl : l.val = (x 2).val) :
    x = ix3 (n0 := 1) (n1 := 128) (n2 := 128) u0 q l := by
  funext a
  have x0 : (x 0).val < 1 := (x 0).isLt
  fin_cases a
  · exact Fin.ext (by show (x 0).val = 0; omega)
  · exact Fin.ext (by show (x 1).val = q.val; omega)
  · exact Fin.ext (by show (x 2).val = l.val; omega)

attribute [local irreducible] k0_off1 k0_off2 k0_off3

/-- What the three stores leave in the Gram scratch. -/
theorem read11 (hc1 : k0_cond1 i = 1#1) (v : Vec F S256x128 .bf16) (y : S16x128x384.Idx) :
    arg11.view.read (Elt F) (arg11.view.writes (Elt F) X_arg11 (L11 i hc1 v)) y
    = if (y 0).val = (i 1).val then G11 v y else arg11.view.read (Elt F) X_arg11 y := by
  obtain ⟨a0, a1, a2⟩ := off1 i
  obtain ⟨b0, b1, b2⟩ := off2 i
  obtain ⟨c0, c1, c2⟩ := off3 i
  have y1 : (y 1).val < 128 := (y 1).isLt
  have y2 : (y 2).val < 384 := (y 2).isLt
  split_ifs with h
  · refine View.read_writes_apply_of_pieces _ _ (G11 v) _ (fun p hp x => ?_) y ?_
    · have x2 : (x 2).val < p.1.size 2 := (x 2).isLt
      unfold L11 at hp
      simp only [List.mem_cons, List.not_mem_nil, _root_.or_false] at hp
      rcases hp with rfl | rfl | rfl
      · have x2 : (x 2).val < 128 := x2
        have e2 : ((Rect.unit (s := S16x128x384) (k0_off3 i) S1x128x128.size (k0_off3_inb i hc1)).emb x 2).val = 256 + (x 2).val := by
          show k0_off3 i 2 + 1 * (x 2).val = _; omega
        show k0_pay8 v x = G11 v ((Rect.unit (s := S16x128x384) (k0_off3 i) S1x128x128.size (k0_off3_inb i hc1)).emb x)
        unfold G11
        rw [if_neg (by omega), if_neg (by omega)]
        exact congrArg _ (self11 x _ _ (by show k0_off3 i 1 + 1 * (x 1).val = _; omega) (by show _ % 128 = _; omega))
      · have x2 : (x 2).val < 128 := x2
        have e2 : ((Rect.unit (s := S16x128x384) (k0_off2 i) S1x128x128.size (k0_off2_inb i hc1)).emb x 2).val = 128 + (x 2).val := by
          show k0_off2 i 2 + 1 * (x 2).val = _; omega
        show k0_pay7 v x = G11 v ((Rect.unit (s := S16x128x384) (k0_off2 i) S1x128x128.size (k0_off2_inb i hc1)).emb x)
        unfold G11
        rw [if_neg (by omega), if_pos (by omega)]
        exact congrArg _ (self11 x _ _ (by show k0_off2 i 1 + 1 * (x 1).val = _; omega) (by show _ % 128 = _; omega))
      · have x2 : (x 2).val < 128 := x2
        have e2 : ((Rect.unit (s := S16x128x384) (k0_off1 i) S1x128x128.size (k0_off1_inb i hc1)).emb x 2).val = (x 2).val := by
          show k0_off1 i 2 + 1 * (x 2).val = _; omega
        show k0_pay6 v x = G11 v ((Rect.unit (s := S16x128x384) (k0_off1 i) S1x128x128.size (k0_off1_inb i hc1)).emb x)
        unfold G11
        rw [if_pos (by omega)]
        exact congrArg _ (self11 x _ _ (by show k0_off1 i 1 + 1 * (x 1).val = _; omega) (by show _ % 128 = _; omega))
    · unfold L11
      by_cases h1 : (y 2).val < 128
      · refine ex_skip (ex_skip (ex_hitU (three ?_ ?_ ?_)))
        · show k0_off1 i 0 ≤ (y 0).val ∧ (y 0).val < k0_off1 i 0 + 1; omega
        · show k0_off1 i 1 ≤ (y 1).val ∧ (y 1).val < k0_off1 i 1 + 128; omega
        · show k0_off1 i 2 ≤ (y 2).val ∧ (y 2).val < k0_off1 i 2 + 128; omega
      · by_cases h2 : (y 2).val < 256
        · refine ex_skip (ex_hitU (three ?_ ?_ ?_))
          · show k0_off2 i 0 ≤ (y 0).val ∧ (y 0).val < k0_off2 i 0 + 1; omega
          · show k0_off2 i 1 ≤ (y 1).val ∧ (y 1).val < k0_off2 i 1 + 128; omega
          · show k0_off2 i 2 ≤ (y 2).val ∧ (y 2).val < k0_off2 i 2 + 128; omega
        · refine ex_hitU (three ?_ ?_ ?_)
          · show k0_off3 i 0 ≤ (y 0).val ∧ (y 0).val < k0_off3 i 0 + 1; omega
          · show k0_off3 i 1 ≤ (y 1).val ∧ (y 1).val < k0_off3 i 1 + 128; omega
          · show k0_off3 i 2 ≤ (y 2).val ∧ (y 2).val < k0_off3 i 2 + 128; omega
  · refine View.read_writes_apply_of_forall_not_mem _ _ y _ (fun p hp hy => h ?_)
    unfold L11 at hp
    simp only [List.mem_cons, List.not_mem_nil, _root_.or_false] at hp
    rcases hp with rfl | rfl | rfl
    · have fin : k0_off3 i 0 ≤ (y 0).val ∧ (y 0).val < k0_off3 i 0 + 1 := mem_unitU (fun _ => rfl) hy (0 : Fin 3)
      omega
    · have fin : k0_off2 i 0 ≤ (y 0).val ∧ (y 0).val < k0_off2 i 0 + 1 := mem_unitU (fun _ => rfl) hy (0 : Fin 3)
      omega
    · have fin : k0_off1 i 0 ≤ (y 0).val ∧ (y 0).val < k0_off1 i 0 + 1 := mem_unitU (fun _ => rfl) hy (0 : Fin 3)
      omega

end Cert.KernelIdeal.Gen
-- ==== Proof.PI.Lists.lean ====
/- What the body stores in each of its four cases, as lists of the loops. -/
module

public import proofs.«01_k».proof.Proof.PI.Last

@[expose] public section

set_option maxRecDepth 16384
set_option maxHeartbeats 4000000

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
variable (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty)

def v3V : Vec F S256x128 .bf16 := View.readAt (Elt F) arg3.view (Rect.unit (s := S256x128) ![0, 0] S256x128.size inb_S256x128_S256x128_0_0).toLoadRect X_arg3
def v12V : Vec F S16x512 .f32 := View.readAt (Elt F) arg12.view (Rect.unit (s := S16x512) ![0, 0] S16x512.size inb_S16x512_S16x512_0_0).toLoadRect X_arg12

theorem v3V_eq : v3V arg3 X_arg3 = arg3.view.read (Elt F) X_arg3 := by
  funext y
  exact (congrFun (View.readAt_unit arg3.view X_arg3 inb_S256x128_S256x128_0_0 rfl inb_S256x128_S256x128_0_0) _).trans
    (congrArg (arg3.view.read (Elt F) X_arg3) (funext fun a => Fin.ext (by
      fin_cases a
      · show 0 + 1 * (y 0).val = (y 0).val; omega
      · show 0 + 1 * (y 1).val = (y 1).val; omega)))

theorem v12V_eq : v12V arg12 X_arg12 = arg12.view.read (Elt F) X_arg12 := by
  funext y
  exact (congrFun (View.readAt_unit arg12.view X_arg12 inb_S16x512_S16x512_0_0 rfl inb_S16x512_S16x512_0_0) _).trans
    (congrArg (arg12.view.read (Elt F) X_arg12) (funext fun a => Fin.ext (by
      fin_cases a
      · show 0 + 1 * (y 0).val = (y 0).val; omega
      · show 0 + 1 * (y 1).val = (y 1).val; omega)))

/-! ## What the body's four cases store -/

theorem listsTT (hc1 : k0_cond1 i = 1#1) (hc2 : k0_cond2 i = 1#1) :
    (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).1 = (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1) k0_t3_loop.trips).1
    ∧ (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).1
    ∧ (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.1 = (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1) k0_t3_loop.trips).2
    ∧ (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.1 = (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1
    ∧ (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.1 = (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2
    ∧ (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.1 = L11 i hc1 (v3V arg3 X_arg3)
    ∧ (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1
    ∧ (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1
    ∧ (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1 := by
  unfold bodyRunTT
  exact ⟨rfl, rfl, rfl, rfl, rfl, rfl, rfl, rfl, rfl⟩

theorem listsTF (hc1 : k0_cond1 i = 1#1) (hc2 : ¬ k0_cond2 i = 1#1) :
    (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).1
    ∧ (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.1 = (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1
    ∧ (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.1 = (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2
    ∧ (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.1 = L11 i hc1 (v3V arg3 X_arg3)
    ∧ (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1
    ∧ (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1
    ∧ (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1 := by
  unfold bodyRunTF
  exact ⟨rfl, rfl, rfl, rfl, rfl, rfl, rfl⟩

theorem listsFT (hc1 : ¬ k0_cond1 i = 1#1) (hc2 : k0_cond2 i = 1#1) :
    (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).1 = (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1) k0_t3_loop.trips).1
    ∧ (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).1
    ∧ (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.1 = (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1) k0_t3_loop.trips).2
    ∧ (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1
    ∧ (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1
    ∧ (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1 := by
  unfold bodyRunFT
  exact ⟨rfl, rfl, rfl, rfl, rfl, rfl⟩

theorem listsFF (hc1 : ¬ k0_cond1 i = 1#1) (hc2 : ¬ k0_cond2 i = 1#1) :
    (bodyRunFF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).1
    ∧ (bodyRunFF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1
    ∧ (bodyRunFF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1
    ∧ (bodyRunFF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.1 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1 := by
  unfold bodyRunFF
  exact ⟨rfl, rfl, rfl, rfl⟩

end Cert.KernelIdeal.Gen
-- ==== Proof.PI.Stp.lean ====
/- One grid point, as a relation between the contents of the carried buffers and of the windows before and after. -/
module

public import proofs.«01_k».proof.Proof.PI.Lists

@[expose] public section

set_option maxRecDepth 16384
set_option maxHeartbeats 400000

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The step, as a relation between the contents -/

/-- The table of ratio `kk` at group `g`. -/
def mR (T : S16x20x160x256.Idx → Elt F .bf16) (g : Fin 16) (kk : Fin 20) : Vec F S1x1x160x256 .bf16 := fun y =>
  T (ix4 (n0 := 16) (n1 := 20) (n2 := 160) (n3 := 256) g kk (y 2) (y 3))

/-- The correction table of pair `jj` at group `g`. -/
def dR (T : S16x10x16x256.Idx → Elt F .bf16) (g : Fin 16) (jj : Fin 10) : Vec F S1x1x16x256 .bf16 := fun y =>
  T (ix4 (n0 := 16) (n1 := 10) (n2 := 16) (n3 := 256) g jj (y 2) (y 3))

/-- The first two parts of the doubled Gram matrix at group `g`, -/
def haR (T : S16x128x384.Idx → Elt F .bf16) (g : Fin 16) : Vec F S1x128x256 .bf16 := fun y =>
  T (ix3 (n0 := 16) (n1 := 128) (n2 := 384) g (y 1) ⟨(y 2).val, by have h : (y 2).val < 256 := (y 2).isLt; omega⟩)

/-- and the third. -/
def hbR (T : S16x128x384.Idx → Elt F .bf16) (g : Fin 16) : Vec F S1x128x128 .bf16 := fun y =>
  T (ix3 (n0 := 16) (n1 := 128) (n2 := 384) g (y 1) ⟨256 + (y 2).val, by have h : (y 2).val < 128 := (y 2).isLt; omega⟩)

/-- One grid point at group `g`: from the ratios `R`, the packing matrix `P`, the block `v` of rows and the block `B` of
    columns, the six carried buffers before (`T`) and after (`U`), and the three windows after. -/
structure StepSpec (g : Fin 16) (c1 c2 : Prop) (R : Fin 20 → Elt F .f32) (P : Vec F S32x256 .bf16) (v : Vec F S256x128 .bf16) (B : Vec F S128x512 .bf16)
    (T9 : S16x20x160x256.Idx → Elt F .bf16) (T10 : S16x10x16x256.Idx → Elt F .bf16) (T11 : S16x128x384.Idx → Elt F .bf16)
    (T12 T13 : S16x512.Idx → Elt F .f32) (T14 : S20x128x512.Idx → Elt F .f32)
    (U9 : S16x20x160x256.Idx → Elt F .bf16) (U10 : S16x10x16x256.Idx → Elt F .bf16) (U11 : S16x128x384.Idx → Elt F .bf16)
    (U12 U13 : S16x512.Idx → Elt F .f32) (U14 : S20x128x512.Idx → Elt F .f32)
    (O6 : S20x16x512.Idx → Elt F .f32) (O7 : S1x20x64x512.Idx → Elt F .i8) (O8 : S20x16x512.Idx → Elt F .f32) : Prop where
  t9 : c1 → ∀ y, (y 0).val = g.val → U9 y = G9 v P R y
  t9k : ∀ y, ¬ (c1 ∧ (y 0).val = g.val) → U9 y = T9 y
  t10 : c1 → ∀ y, (y 0).val = g.val → U10 y = G10 v R y
  t10k : ∀ y, ¬ (c1 ∧ (y 0).val = g.val) → U10 y = T10 y
  t11 : c1 → ∀ y, (y 0).val = g.val → U11 y = G11 v y
  t11k : ∀ y, ¬ (c1 ∧ (y 0).val = g.val) → U11 y = T11 y
  t12 : ∀ y, (y 0).val = g.val → U12 y = aGy B y
  t12k : ∀ y, ¬ (y 0).val = g.val → U12 y = T12 y
  t13 : ∀ y, (y 0).val = g.val → U13 y = cGy B (haR U11 g) (hbR U11 g) y
  t13k : ∀ y, ¬ (y 0).val = g.val → U13 y = T13 y
  t14 : ∀ y, (y 1).val / 8 = g.val → U14 y = accG R B (mR U9 g) (dR U10 g) (haR U11 g) (hbR U11 g) (y 0) (sub8 (y 1)) (y 2)
  t14k : ∀ y, ¬ (y 1).val / 8 = g.val → U14 y = T14 y
  o7 : ∀ y, O7 y = codesG R B (mR U9 g) y
  o6 : c2 → ∀ y, O6 y = lossG R U12 U14 U13 y
  o8 : c2 → ∀ y, O8 y = scaleG R U12 y

attribute [local irreducible] pb1 pb2 pb3

variable (c : Dev nD) (i : grid0.Coords)
variable (arg2 : Memref sig .tc .smem S20 .f32) (harg2 : arg2.IsWhole) (arg3 : Memref sig .tc .vmem S256x128 .bf16) (harg3 : arg3.IsWhole) (arg4 : Memref sig .tc .vmem S32x256 .bf16) (harg4 : arg4.IsWhole) (arg5 : Memref sig .tc .vmem S128x512 .bf16) (harg5 : arg5.IsWhole) (arg6 : Memref sig .tc .vmem S20x16x512 .f32) (harg6 : arg6.IsWhole) (arg7 : Memref sig .tc .vmem S1x20x64x512 .i8) (harg7 : arg7.IsWhole) (arg8 : Memref sig .tc .vmem S20x16x512 .f32) (harg8 : arg8.IsWhole) (arg9 : Memref sig .tc .vmem S16x20x160x256 .bf16) (harg9 : arg9.IsWhole) (arg10 : Memref sig .tc .vmem S16x10x16x256 .bf16) (harg10 : arg10.IsWhole) (arg11 : Memref sig .tc .vmem S16x128x384 .bf16) (harg11 : arg11.IsWhole) (arg12 : Memref sig .tc .vmem S16x512 .f32) (harg12 : arg12.IsWhole) (arg13 : Memref sig .tc .vmem S16x512 .f32) (harg13 : arg13.IsWhole) (arg14 : Memref sig .tc .vmem S20x128x512 .f32) (harg14 : arg14.IsWhole) (arg15 : Memref sig .tc .vmem S128x256 .f32) (harg15 : arg15.IsWhole) (arg16 : Memref sig .tc .vmem S128x256 .f32) (harg16 : arg16.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty)

theorem stepTT_core (hc1 : k0_cond1 i = 1#1) (hc2 : k0_cond2 i = 1#1) (K6 : List (View.Piece (Elt F) S20x16x512 .f32)) (K7 : List (View.Piece (Elt F) S1x20x64x512 .i8)) (K8 : List (View.Piece (Elt F) S20x16x512 .f32)) (K9 : List (View.Piece (Elt F) S16x20x160x256 .bf16)) (K10 : List (View.Piece (Elt F) S16x10x16x256 .bf16)) (K11 : List (View.Piece (Elt F) S16x128x384 .bf16)) (K12 : List (View.Piece (Elt F) S16x512 .f32)) (K13 : List (View.Piece (Elt F) S16x512 .f32)) (K14 : List (View.Piece (Elt F) S20x128x512 .f32))
    (e6 : K6 = (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1) k0_t3_loop.trips).1)
    (e7 : K7 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).1)
    (e8 : K8 = (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1) k0_t3_loop.trips).2)
    (e9 : K9 = (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1)
    (e10 : K10 = (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2)
    (e11 : K11 = L11 i hc1 (v3V arg3 X_arg3))
    (e12 : K12 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1)
    (e13 : K13 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1)
    (e14 : K14 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1) :
    StepSpec (F := F) (i 1) (k0_cond1 i = 1#1) (k0_cond2 i = 1#1) (rat arg2 X_arg2) (arg4.view.read (Elt F) X_arg4) (arg3.view.read (Elt F) X_arg3) (arg5.view.read (Elt F) X_arg5)
    (arg9.view.read (Elt F) X_arg9) (arg10.view.read (Elt F) X_arg10) (arg11.view.read (Elt F) X_arg11) (arg12.view.read (Elt F) X_arg12) (arg13.view.read (Elt F) X_arg13) (arg14.view.read (Elt F) X_arg14)
    (arg9.view.read (Elt F) (arg9.view.writes (Elt F) X_arg9 K9)) (arg10.view.read (Elt F) (arg10.view.writes (Elt F) X_arg10 K10)) (arg11.view.read (Elt F) (arg11.view.writes (Elt F) X_arg11 K11)) (arg12.view.read (Elt F) (arg12.view.writes (Elt F) X_arg12 K12)) (arg13.view.read (Elt F) (arg13.view.writes (Elt F) X_arg13 K13)) (arg14.view.read (Elt F) (arg14.view.writes (Elt F) X_arg14 K14))
    (arg6.view.read (Elt F) (arg6.view.writes (Elt F) X_arg6 K6)) (arg7.view.read (Elt F) (arg7.view.writes (Elt F) X_arg7 K7)) (arg8.view.read (Elt F) (arg8.view.writes (Elt F) X_arg8 K8)) := by
  subst e6 e7 e8 e9 e10 e11 e12 e13 e14
  have r9 := fun y => read9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 X_arg9 y
  have r10 := fun y => read10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 X_arg10 y
  have r11 := fun y => read11 i arg11 X_arg11 hc1 (v3V arg3 X_arg3) y
  simp only [v3V_eq] at r9 r10 r11
  have r7 := fun y => read7 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 y
  have r12 := fun y => read12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 y
  have r13 := fun y => read13 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 y
  have r14 := fun y => read14 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 y
  have r6 := fun y => read6 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1) X_arg6 y
  have r8 := fun y => read8 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1) X_arg8 y
  simp only [v3V_eq] at r7 r12 r13 r14 r6 r8 ⊢
  simp only [v12V_eq] at r6 r8 ⊢
  refine ⟨?_, ?_, ?_, ?_, ?_, ?_, ?_, ?_, ?_, ?_, ?_, ?_, ?_, ?_, ?_⟩
  · exact fun _ y h => (r9 y).trans (if_pos h)
  · exact fun y h => (r9 y).trans (if_neg fun h' => h ⟨hc1, h'⟩)
  · exact fun _ y h => (r10 y).trans (if_pos h)
  · exact fun y h => (r10 y).trans (if_neg fun h' => h ⟨hc1, h'⟩)
  · exact fun _ y h => (r11 y).trans (if_pos h)
  · exact fun y h => (r11 y).trans (if_neg fun h' => h ⟨hc1, h'⟩)
  · exact fun y h => (r12 y).trans (if_pos h)
  · exact fun y h => (r12 y).trans (if_neg h)
  · exact fun y h => (r13 y).trans (if_pos h)
  · exact fun y h => (r13 y).trans (if_neg h)
  · exact fun y h => (r14 y).trans (if_pos h)
  · exact fun y h => (r14 y).trans (if_neg h)
  · exact r7
  · exact fun _ => r6
  · exact fun _ => r8

/-- The step in case TT. -/
theorem stepTT (hc1 : k0_cond1 i = 1#1) (hc2 : k0_cond2 i = 1#1) :
    StepSpec (F := F) (i 1) (k0_cond1 i = 1#1) (k0_cond2 i = 1#1) (rat arg2 X_arg2) (arg4.view.read (Elt F) X_arg4) (arg3.view.read (Elt F) X_arg3) (arg5.view.read (Elt F) X_arg5)
    (arg9.view.read (Elt F) X_arg9) (arg10.view.read (Elt F) X_arg10) (arg11.view.read (Elt F) X_arg11) (arg12.view.read (Elt F) X_arg12) (arg13.view.read (Elt F) X_arg13) (arg14.view.read (Elt F) X_arg14)
    (arg9.view.read (Elt F) (arg9.view.writes (Elt F) X_arg9 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.1)) (arg10.view.read (Elt F) (arg10.view.writes (Elt F) X_arg10 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.1)) (arg11.view.read (Elt F) (arg11.view.writes (Elt F) X_arg11 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.1)) (arg12.view.read (Elt F) (arg12.view.writes (Elt F) X_arg12 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.2.1)) (arg13.view.read (Elt F) (arg13.view.writes (Elt F) X_arg13 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.2.2.1)) (arg14.view.read (Elt F) (arg14.view.writes (Elt F) X_arg14 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.2.2.2.1))
    (arg6.view.read (Elt F) (arg6.view.writes (Elt F) X_arg6 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).1)) (arg7.view.read (Elt F) (arg7.view.writes (Elt F) X_arg7 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.1)) (arg8.view.read (Elt F) (arg8.view.writes (Elt F) X_arg8 (bodyRunTT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.1)) :=
  have e := listsTT c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 X_arg13 X_arg14 X_arg15 X_arg16 hc1 hc2
  stepTT_core c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 X_arg13 X_arg14 X_arg15 X_arg16 hc1 hc2 _ _ _ _ _ _ _ _ _ e.1 e.2.1 e.2.2.1 e.2.2.2.1 e.2.2.2.2.1 e.2.2.2.2.2.1 e.2.2.2.2.2.2.1 e.2.2.2.2.2.2.2.1 e.2.2.2.2.2.2.2.2

theorem stepTF_core (hc1 : k0_cond1 i = 1#1) (hc2 : ¬ k0_cond2 i = 1#1) (K7 : List (View.Piece (Elt F) S1x20x64x512 .i8)) (K9 : List (View.Piece (Elt F) S16x20x160x256 .bf16)) (K10 : List (View.Piece (Elt F) S16x10x16x256 .bf16)) (K11 : List (View.Piece (Elt F) S16x128x384 .bf16)) (K12 : List (View.Piece (Elt F) S16x512 .f32)) (K13 : List (View.Piece (Elt F) S16x512 .f32)) (K14 : List (View.Piece (Elt F) S20x128x512 .f32))
    (e7 : K7 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).1)
    (e9 : K9 = (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1)
    (e10 : K10 = (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2)
    (e11 : K11 = L11 i hc1 (v3V arg3 X_arg3))
    (e12 : K12 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.1)
    (e13 : K13 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.1)
    (e14 : K14 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 k0_t2_loop.trips).2.2.2.1) :
    StepSpec (F := F) (i 1) (k0_cond1 i = 1#1) (k0_cond2 i = 1#1) (rat arg2 X_arg2) (arg4.view.read (Elt F) X_arg4) (arg3.view.read (Elt F) X_arg3) (arg5.view.read (Elt F) X_arg5)
    (arg9.view.read (Elt F) X_arg9) (arg10.view.read (Elt F) X_arg10) (arg11.view.read (Elt F) X_arg11) (arg12.view.read (Elt F) X_arg12) (arg13.view.read (Elt F) X_arg13) (arg14.view.read (Elt F) X_arg14)
    (arg9.view.read (Elt F) (arg9.view.writes (Elt F) X_arg9 K9)) (arg10.view.read (Elt F) (arg10.view.writes (Elt F) X_arg10 K10)) (arg11.view.read (Elt F) (arg11.view.writes (Elt F) X_arg11 K11)) (arg12.view.read (Elt F) (arg12.view.writes (Elt F) X_arg12 K12)) (arg13.view.read (Elt F) (arg13.view.writes (Elt F) X_arg13 K13)) (arg14.view.read (Elt F) (arg14.view.writes (Elt F) X_arg14 K14))
    (arg6.view.read (Elt F) X_arg6) (arg7.view.read (Elt F) (arg7.view.writes (Elt F) X_arg7 K7)) (arg8.view.read (Elt F) X_arg8) := by
  subst e7 e9 e10 e11 e12 e13 e14
  have r9 := fun y => read9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 X_arg9 y
  have r10 := fun y => read10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 X_arg10 y
  have r11 := fun y => read11 i arg11 X_arg11 hc1 (v3V arg3 X_arg3) y
  simp only [v3V_eq] at r9 r10 r11
  have r7 := fun y => read7 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 y
  have r12 := fun y => read12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 y
  have r13 := fun y => read13 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 y
  have r14 := fun y => read14 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 (arg9.view.writes (Elt F) X_arg9 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).1) (arg10.view.writes (Elt F) X_arg10 (pb1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) hc1 (v3V arg3 X_arg3) X_arg2 X_arg4 k0_t1_loop.trips).2) (arg11.view.writes (Elt F) X_arg11 (L11 i hc1 (v3V arg3 X_arg3))) X_arg7 X_arg12 X_arg13 X_arg14 X_arg15 X_arg16 y
  simp only [v3V_eq] at r7 r12 r13 r14 ⊢
  refine ⟨?_, ?_, ?_, ?_, ?_, ?_, ?_, ?_, ?_, ?_, ?_, ?_, ?_, ?_, ?_⟩
  · exact fun _ y h => (r9 y).trans (if_pos h)
  · exact fun y h => (r9 y).trans (if_neg fun h' => h ⟨hc1, h'⟩)
  · exact fun _ y h => (r10 y).trans (if_pos h)
  · exact fun y h => (r10 y).trans (if_neg fun h' => h ⟨hc1, h'⟩)
  · exact fun _ y h => (r11 y).trans (if_pos h)
  · exact fun y h => (r11 y).trans (if_neg fun h' => h ⟨hc1, h'⟩)
  · exact fun y h => (r12 y).trans (if_pos h)
  · exact fun y h => (r12 y).trans (if_neg h)
  · exact fun y h => (r13 y).trans (if_pos h)
  · exact fun y h => (r13 y).trans (if_neg h)
  · exact fun y h => (r14 y).trans (if_pos h)
  · exact fun y h => (r14 y).trans (if_neg h)
  · exact r7
  · exact fun h => absurd h hc2
  · exact fun h => absurd h hc2

/-- The step in case TF. -/
theorem stepTF (hc1 : k0_cond1 i = 1#1) (hc2 : ¬ k0_cond2 i = 1#1) :
    StepSpec (F := F) (i 1) (k0_cond1 i = 1#1) (k0_cond2 i = 1#1) (rat arg2 X_arg2) (arg4.view.read (Elt F) X_arg4) (arg3.view.read (Elt F) X_arg3) (arg5.view.read (Elt F) X_arg5)
    (arg9.view.read (Elt F) X_arg9) (arg10.view.read (Elt F) X_arg10) (arg11.view.read (Elt F) X_arg11) (arg12.view.read (Elt F) X_arg12) (arg13.view.read (Elt F) X_arg13) (arg14.view.read (Elt F) X_arg14)
    (arg9.view.read (Elt F) (arg9.view.writes (Elt F) X_arg9 (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.1)) (arg10.view.read (Elt F) (arg10.view.writes (Elt F) X_arg10 (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.1)) (arg11.view.read (Elt F) (arg11.view.writes (Elt F) X_arg11 (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.1)) (arg12.view.read (Elt F) (arg12.view.writes (Elt F) X_arg12 (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.1)) (arg13.view.read (Elt F) (arg13.view.writes (Elt F) X_arg13 (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.1)) (arg14.view.read (Elt F) (arg14.view.writes (Elt F) X_arg14 (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.2.1))
    (arg6.view.read (Elt F) X_arg6) (arg7.view.read (Elt F) (arg7.view.writes (Elt F) X_arg7 (bodyRunTF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).1)) (arg8.view.read (Elt F) X_arg8) :=
  have e := listsTF c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 X_arg13 X_arg14 X_arg15 X_arg16 hc1 hc2
  stepTF_core c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 X_arg13 X_arg14 X_arg15 X_arg16 hc1 hc2 _ _ _ _ _ _ _ e.1 e.2.1 e.2.2.1 e.2.2.2.1 e.2.2.2.2.1 e.2.2.2.2.2.1 e.2.2.2.2.2.2

theorem stepFT_core (hc1 : ¬ k0_cond1 i = 1#1) (hc2 : k0_cond2 i = 1#1) (K6 : List (View.Piece (Elt F) S20x16x512 .f32)) (K7 : List (View.Piece (Elt F) S1x20x64x512 .i8)) (K8 : List (View.Piece (Elt F) S20x16x512 .f32)) (K12 : List (View.Piece (Elt F) S16x512 .f32)) (K13 : List (View.Piece (Elt F) S16x512 .f32)) (K14 : List (View.Piece (Elt F) S20x128x512 .f32))
    (e6 : K6 = (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1) k0_t3_loop.trips).1)
    (e7 : K7 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).1)
    (e8 : K8 = (pb3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1) k0_t3_loop.trips).2)
    (e12 : K12 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1)
    (e13 : K13 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1)
    (e14 : K14 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1) :
    StepSpec (F := F) (i 1) (k0_cond1 i = 1#1) (k0_cond2 i = 1#1) (rat arg2 X_arg2) (arg4.view.read (Elt F) X_arg4) (arg3.view.read (Elt F) X_arg3) (arg5.view.read (Elt F) X_arg5)
    (arg9.view.read (Elt F) X_arg9) (arg10.view.read (Elt F) X_arg10) (arg11.view.read (Elt F) X_arg11) (arg12.view.read (Elt F) X_arg12) (arg13.view.read (Elt F) X_arg13) (arg14.view.read (Elt F) X_arg14)
    (arg9.view.read (Elt F) X_arg9) (arg10.view.read (Elt F) X_arg10) (arg11.view.read (Elt F) X_arg11) (arg12.view.read (Elt F) (arg12.view.writes (Elt F) X_arg12 K12)) (arg13.view.read (Elt F) (arg13.view.writes (Elt F) X_arg13 K13)) (arg14.view.read (Elt F) (arg14.view.writes (Elt F) X_arg14 K14))
    (arg6.view.read (Elt F) (arg6.view.writes (Elt F) X_arg6 K6)) (arg7.view.read (Elt F) (arg7.view.writes (Elt F) X_arg7 K7)) (arg8.view.read (Elt F) (arg8.view.writes (Elt F) X_arg8 K8)) := by
  subst e6 e7 e8 e12 e13 e14
  have r7 := fun y => read7 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 y
  have r12 := fun y => read12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 y
  have r13 := fun y => read13 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 y
  have r14 := fun y => read14 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 y
  have r6 := fun y => read6 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1) X_arg6 y
  have r8 := fun y => read8 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 hc2 (v12V arg12 (arg12.view.writes (Elt F) X_arg12 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1)) X_arg2 (arg13.view.writes (Elt F) X_arg13 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1) (arg14.view.writes (Elt F) X_arg14 (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1) X_arg8 y
  simp only [v12V_eq] at r6 r8 ⊢
  refine ⟨?_, ?_, ?_, ?_, ?_, ?_, ?_, ?_, ?_, ?_, ?_, ?_, ?_, ?_, ?_⟩
  · exact fun h => absurd h hc1
  · exact fun y _ => rfl
  · exact fun h => absurd h hc1
  · exact fun y _ => rfl
  · exact fun h => absurd h hc1
  · exact fun y _ => rfl
  · exact fun y h => (r12 y).trans (if_pos h)
  · exact fun y h => (r12 y).trans (if_neg h)
  · exact fun y h => (r13 y).trans (if_pos h)
  · exact fun y h => (r13 y).trans (if_neg h)
  · exact fun y h => (r14 y).trans (if_pos h)
  · exact fun y h => (r14 y).trans (if_neg h)
  · exact r7
  · exact fun _ => r6
  · exact fun _ => r8

/-- The step in case FT. -/
theorem stepFT (hc1 : ¬ k0_cond1 i = 1#1) (hc2 : k0_cond2 i = 1#1) :
    StepSpec (F := F) (i 1) (k0_cond1 i = 1#1) (k0_cond2 i = 1#1) (rat arg2 X_arg2) (arg4.view.read (Elt F) X_arg4) (arg3.view.read (Elt F) X_arg3) (arg5.view.read (Elt F) X_arg5)
    (arg9.view.read (Elt F) X_arg9) (arg10.view.read (Elt F) X_arg10) (arg11.view.read (Elt F) X_arg11) (arg12.view.read (Elt F) X_arg12) (arg13.view.read (Elt F) X_arg13) (arg14.view.read (Elt F) X_arg14)
    (arg9.view.read (Elt F) X_arg9) (arg10.view.read (Elt F) X_arg10) (arg11.view.read (Elt F) X_arg11) (arg12.view.read (Elt F) (arg12.view.writes (Elt F) X_arg12 (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.1)) (arg13.view.read (Elt F) (arg13.view.writes (Elt F) X_arg13 (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.1)) (arg14.view.read (Elt F) (arg14.view.writes (Elt F) X_arg14 (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.2.2.1))
    (arg6.view.read (Elt F) (arg6.view.writes (Elt F) X_arg6 (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).1)) (arg7.view.read (Elt F) (arg7.view.writes (Elt F) X_arg7 (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.1)) (arg8.view.read (Elt F) (arg8.view.writes (Elt F) X_arg8 (bodyRunFT c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.1)) :=
  have e := listsFT c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 X_arg13 X_arg14 X_arg15 X_arg16 hc1 hc2
  stepFT_core c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 X_arg13 X_arg14 X_arg15 X_arg16 hc1 hc2 _ _ _ _ _ _ e.1 e.2.1 e.2.2.1 e.2.2.2.1 e.2.2.2.2.1 e.2.2.2.2.2

theorem stepFF_core (hc1 : ¬ k0_cond1 i = 1#1) (hc2 : ¬ k0_cond2 i = 1#1) (K7 : List (View.Piece (Elt F) S1x20x64x512 .i8)) (K12 : List (View.Piece (Elt F) S16x512 .f32)) (K13 : List (View.Piece (Elt F) S16x512 .f32)) (K14 : List (View.Piece (Elt F) S20x128x512 .f32))
    (e7 : K7 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).1)
    (e12 : K12 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.1)
    (e13 : K13 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.1)
    (e14 : K14 = (pb2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 k0_t2_loop.trips).2.2.2.1) :
    StepSpec (F := F) (i 1) (k0_cond1 i = 1#1) (k0_cond2 i = 1#1) (rat arg2 X_arg2) (arg4.view.read (Elt F) X_arg4) (arg3.view.read (Elt F) X_arg3) (arg5.view.read (Elt F) X_arg5)
    (arg9.view.read (Elt F) X_arg9) (arg10.view.read (Elt F) X_arg10) (arg11.view.read (Elt F) X_arg11) (arg12.view.read (Elt F) X_arg12) (arg13.view.read (Elt F) X_arg13) (arg14.view.read (Elt F) X_arg14)
    (arg9.view.read (Elt F) X_arg9) (arg10.view.read (Elt F) X_arg10) (arg11.view.read (Elt F) X_arg11) (arg12.view.read (Elt F) (arg12.view.writes (Elt F) X_arg12 K12)) (arg13.view.read (Elt F) (arg13.view.writes (Elt F) X_arg13 K13)) (arg14.view.read (Elt F) (arg14.view.writes (Elt F) X_arg14 K14))
    (arg6.view.read (Elt F) X_arg6) (arg7.view.read (Elt F) (arg7.view.writes (Elt F) X_arg7 K7)) (arg8.view.read (Elt F) X_arg8) := by
  subst e7 e12 e13 e14
  have r7 := fun y => read7 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 y
  have r12 := fun y => read12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 y
  have r13 := fun y => read13 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 y
  have r14 := fun y => read14 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) X_arg2 X_arg5 X_arg9 X_arg10 X_arg11 X_arg7 X_arg12 X_arg13 X_arg14 X_arg15 X_arg16 y
  refine ⟨?_, ?_, ?_, ?_, ?_, ?_, ?_, ?_, ?_, ?_, ?_, ?_, ?_, ?_, ?_⟩
  · exact fun h => absurd h hc1
  · exact fun y _ => rfl
  · exact fun h => absurd h hc1
  · exact fun y _ => rfl
  · exact fun h => absurd h hc1
  · exact fun y _ => rfl
  · exact fun y h => (r12 y).trans (if_pos h)
  · exact fun y h => (r12 y).trans (if_neg h)
  · exact fun y h => (r13 y).trans (if_pos h)
  · exact fun y h => (r13 y).trans (if_neg h)
  · exact fun y h => (r14 y).trans (if_pos h)
  · exact fun y h => (r14 y).trans (if_neg h)
  · exact r7
  · exact fun h => absurd h hc2
  · exact fun h => absurd h hc2

/-- The step in case FF. -/
theorem stepFF (hc1 : ¬ k0_cond1 i = 1#1) (hc2 : ¬ k0_cond2 i = 1#1) :
    StepSpec (F := F) (i 1) (k0_cond1 i = 1#1) (k0_cond2 i = 1#1) (rat arg2 X_arg2) (arg4.view.read (Elt F) X_arg4) (arg3.view.read (Elt F) X_arg3) (arg5.view.read (Elt F) X_arg5)
    (arg9.view.read (Elt F) X_arg9) (arg10.view.read (Elt F) X_arg10) (arg11.view.read (Elt F) X_arg11) (arg12.view.read (Elt F) X_arg12) (arg13.view.read (Elt F) X_arg13) (arg14.view.read (Elt F) X_arg14)
    (arg9.view.read (Elt F) X_arg9) (arg10.view.read (Elt F) X_arg10) (arg11.view.read (Elt F) X_arg11) (arg12.view.read (Elt F) (arg12.view.writes (Elt F) X_arg12 (bodyRunFF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.1)) (arg13.view.read (Elt F) (arg13.view.writes (Elt F) X_arg13 (bodyRunFF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.1)) (arg14.view.read (Elt F) (arg14.view.writes (Elt F) X_arg14 (bodyRunFF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).2.2.2.1))
    (arg6.view.read (Elt F) X_arg6) (arg7.view.read (Elt F) (arg7.view.writes (Elt F) X_arg7 (bodyRunFF c i arg2 harg2 arg3 harg3 arg4 harg4 arg5 harg5 arg6 harg6 arg7 harg7 arg8 harg8 arg9 harg9 arg10 harg10 arg11 harg11 arg12 harg12 arg13 harg13 arg14 harg14 arg15 harg15 arg16 harg16 hc1 hc2 X_arg2 X_arg3 X_arg4 X_arg5 X_arg6 X_arg7 X_arg8 X_arg9 X_arg10 X_arg11 X_arg12 X_arg13 X_arg14 X_arg15 X_arg16).1)) (arg8.view.read (Elt F) X_arg8) :=
  have e := listsFF c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 X_arg13 X_arg14 X_arg15 X_arg16 hc1 hc2
  stepFF_core c i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 X_arg10 X_arg11 X_arg12 X_arg13 X_arg14 X_arg15 X_arg16 hc1 hc2 _ _ _ _ e.1 e.2.1 e.2.2.1 e.2.2.2

end Cert.KernelIdeal.Gen
-- ==== Proof.PI.Inv.lean ====
/- The invariant of the grid: what the carried buffers hold before each point, and what each point leaves in the result windows. -/
module

public import proofs.«01_k».proof.Proof.PI.Stp

@[expose] public section

set_option maxRecDepth 16384
set_option maxHeartbeats 400000

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The grid's points -/

theorem N_val : cfg0.N = 176 := by decide

/-- The point of column block `ob` and group `g`. -/
def pt (ob : ℕ) (g : Fin 16) : Fin cfg0.N := ⟨(16 * ob + g.val) % 176, by rw [N_val]; exact Nat.mod_lt _ (by decide)⟩

theorem pt_eq (t : Fin cfg0.N) (ob : ℕ) (g : Fin 16) (h : t.val = 16 * ob + g.val) : pt ob g = t := Fin.ext (by
  have : t.val < 176 := Nat.lt_of_lt_of_eq t.isLt N_val
  show (16 * ob + g.val) % 176 = t.val
  rw [← h]; exact Nat.mod_eq_of_lt this)

theorem coords1 : ∀ t : Fin grid0.N, (grid0.coords t 1).val = t.val % 16 := by decide +kernel
theorem cond1 : ∀ t : Fin grid0.N, k0_cond1 (grid0.coords t) = 1#1 ↔ t.val < 16 := by decide +kernel
theorem cond2 : ∀ t : Fin grid0.N, k0_cond2 (grid0.coords t) = 1#1 ↔ t.val % 16 = 15 := by decide +kernel

/-! ## What the points read -/

/-- The ratios, -/
def Rv (c : Dev nD) : Fin 20 → Elt F .f32 := fun kk => (iblk m c 0 (pt 0 0) : Vec F S20 .f32) (ix1 (n := 20) kk)
/-- the packing matrix, -/
def Pv (c : Dev nD) : Vec F S32x256 .bf16 := iblk m c 2 (pt 0 0)
/-- the block of activations of a group, -/
def xB (c : Dev nD) (g : Fin 16) : Vec F S256x128 .bf16 := iblk m c 1 (pt 0 g)
/-- and the block of weights of a point. -/
def wB (c : Dev nD) (t : Fin cfg0.N) : Vec F S128x512 .bf16 := iblk m c 3 t

theorem R_eq (c : Dev nD) (t : Fin cfg0.N) : (iblk m c 0 t : Vec F S20 .f32) = iblk m c 0 (pt 0 0) := rfl
theorem P_eq (c : Dev nD) (t : Fin cfg0.N) : (iblk m c 2 t : Vec F S32x256 .bf16) = iblk m c 2 (pt 0 0) := rfl

/-! ## What the carried buffers come to hold -/

def T9f (c : Dev nD) : S16x20x160x256.Idx → Elt F .bf16 := fun y => G9 (xB m c (y 0)) (Pv m c) (Rv m c) y
def T10f (c : Dev nD) : S16x10x16x256.Idx → Elt F .bf16 := fun y => G10 (xB m c (y 0)) (Rv m c) y
def T11f (c : Dev nD) : S16x128x384.Idx → Elt F .bf16 := fun y => G11 (xB m c (y 0)) y
def T12f (c : Dev nD) (ob : ℕ) : S16x512.Idx → Elt F .f32 := fun y => aGy (wB m c (pt ob (y 0))) y
def T13f (c : Dev nD) (ob : ℕ) : S16x512.Idx → Elt F .f32 := fun y => cGy (wB m c (pt ob (y 0))) (haR (T11f m c) (y 0)) (hbR (T11f m c) (y 0)) y
/-- The group of a row of the accumulator. -/
def g8 (r : Fin 128) : Fin 16 := ⟨r.val / 8, by have := r.isLt; omega⟩
def T14f (c : Dev nD) (ob : ℕ) : S20x128x512.Idx → Elt F .f32 := fun y =>
  accG (Rv m c) (wB m c (pt ob (g8 (y 1)))) (mR (T9f m c) (g8 (y 1))) (dR (T10f m c) (g8 (y 1))) (haR (T11f m c) (g8 (y 1))) (hbR (T11f m c) (g8 (y 1))) (y 0) (sub8 (y 1)) (y 2)

/-- The invariant before point `n`, on the contents read. -/
structure InvF (c : Dev nD) (n : ℕ)
    (T9 : S16x20x160x256.Idx → Elt F .bf16) (T10 : S16x10x16x256.Idx → Elt F .bf16) (T11 : S16x128x384.Idx → Elt F .bf16)
    (T12 T13 : S16x512.Idx → Elt F .f32) (T14 : S20x128x512.Idx → Elt F .f32) : Prop where
  i9 : ∀ y, (y 0).val < n → T9 y = T9f m c y
  i10 : ∀ y, (y 0).val < n → T10 y = T10f m c y
  i11 : ∀ y, (y 0).val < n → T11 y = T11f m c y
  i12 : ∀ y, (y 0).val < n % 16 → T12 y = T12f m c (n / 16) y
  i13 : ∀ y, (y 0).val < n % 16 → T13 y = T13f m c (n / 16) y
  i14 : ∀ y, (y 1).val / 8 < n % 16 → T14 y = T14f m c (n / 16) y

theorem mR_congr {T U : S16x20x160x256.Idx → Elt F .bf16} {g : Fin 16} (h : ∀ y, (y 0).val = g.val → T y = U y) : mR T g = mR U g := by
  funext kk y; exact h _ rfl
theorem dR_congr {T U : S16x10x16x256.Idx → Elt F .bf16} {g : Fin 16} (h : ∀ y, (y 0).val = g.val → T y = U y) : dR T g = dR U g := by
  funext kk y; exact h _ rfl
theorem haR_congr {T U : S16x128x384.Idx → Elt F .bf16} {g : Fin 16} (h : ∀ y, (y 0).val = g.val → T y = U y) : haR T g = haR U g := by
  funext y; exact h _ rfl
theorem hbR_congr {T U : S16x128x384.Idx → Elt F .bf16} {g : Fin 16} (h : ∀ y, (y 0).val = g.val → T y = U y) : hbR T g = hbR U g := by
  funext y; exact h _ rfl

/-- One point keeps the invariant and leaves the windows at their values. -/
theorem keep (c : Dev nD) (t : Fin cfg0.N) (g : Fin 16) (hg : g.val = t.val % 16) (c1 c2 : Prop) (h1 : c1 ↔ t.val < 16) (h2 : c2 ↔ t.val % 16 = 15)
    {T9 U9 : S16x20x160x256.Idx → Elt F .bf16} {T10 U10 : S16x10x16x256.Idx → Elt F .bf16} {T11 U11 : S16x128x384.Idx → Elt F .bf16}
    {T12 T13 U12 U13 : S16x512.Idx → Elt F .f32} {T14 U14 : S20x128x512.Idx → Elt F .f32}
    {O6 : S20x16x512.Idx → Elt F .f32} {O7 : S1x20x64x512.Idx → Elt F .i8} {O8 : S20x16x512.Idx → Elt F .f32}
    {R : Fin 20 → Elt F .f32} {P : Vec F S32x256 .bf16} {v : Vec F S256x128 .bf16} {B : Vec F S128x512 .bf16}
    (S : StepSpec g c1 c2 R P v B T9 T10 T11 T12 T13 T14 U9 U10 U11 U12 U13 U14 O6 O7 O8)
    (hR : R = Rv m c) (hP : P = Pv m c) (hv : v = iblk m c 1 t) (hB : B = wB m c t)
    (I : InvF m c t.val T9 T10 T11 T12 T13 T14) :
    InvF m c (t.val + 1) U9 U10 U11 U12 U13 U14
    ∧ (t.val % 16 = 15 → ∀ y, O6 y = lossG (Rv m c) (T12f m c (t.val / 16)) (T14f m c (t.val / 16)) (T13f m c (t.val / 16)) y)
    ∧ (∀ y, O7 y = codesG (Rv m c) (wB m c t) (mR (T9f m c) g) y)
    ∧ (t.val % 16 = 15 → ∀ y, O8 y = scaleG (Rv m c) (T12f m c (t.val / 16)) y) := by
  subst hR hP hv hB
  have gl := g.isLt
  have hx : t.val < 16 → ∀ g' : Fin 16, g'.val = g.val → xB m c g' = iblk m c 1 t := fun h g' e => by
    unfold xB; rw [pt_eq t 0 g' (by omega)]
  have hw : ∀ g' : Fin 16, g'.val = g.val → pt (t.val / 16) g' = t := fun g' e => pt_eq t _ g' (by omega)
  -- the tables, of every group up to this one
  have A9 : ∀ y, (y 0).val < t.val + 1 → U9 y = T9f m c y := fun y hy => by
    by_cases hc : c1 ∧ (y 0).val = g.val
    · rw [S.t9 hc.1 y hc.2]; unfold T9f; rw [hx (h1.mp hc.1) _ hc.2]
    · rw [S.t9k y hc]
      refine I.i9 y ?_
      by_contra hn
      have y0 : (y 0).val < 16 := (y 0).isLt
      exact hc ⟨h1.mpr (by omega), by omega⟩
  have A10 : ∀ y, (y 0).val < t.val + 1 → U10 y = T10f m c y := fun y hy => by
    by_cases hc : c1 ∧ (y 0).val = g.val
    · rw [S.t10 hc.1 y hc.2]; unfold T10f; rw [hx (h1.mp hc.1) _ hc.2]
    · rw [S.t10k y hc]
      refine I.i10 y ?_
      by_contra hn
      have y0 : (y 0).val < 16 := (y 0).isLt
      exact hc ⟨h1.mpr (by omega), by omega⟩
  have A11 : ∀ y, (y 0).val < t.val + 1 → U11 y = T11f m c y := fun y hy => by
    by_cases hc : c1 ∧ (y 0).val = g.val
    · rw [S.t11 hc.1 y hc.2]; unfold T11f; rw [hx (h1.mp hc.1) _ hc.2]
    · rw [S.t11k y hc]
      refine I.i11 y ?_
      by_contra hn
      have y0 : (y 0).val < 16 := (y 0).isLt
      exact hc ⟨h1.mpr (by omega), by omega⟩
  have B9 : mR U9 g = mR (T9f m c) g := mR_congr fun y e => A9 y (by omega)
  have B10 : dR U10 g = dR (T10f m c) g := dR_congr fun y e => A10 y (by omega)
  have Ba : haR U11 g = haR (T11f m c) g := haR_congr fun y e => A11 y (by omega)
  have Bb : hbR U11 g = hbR (T11f m c) g := hbR_congr fun y e => A11 y (by omega)
  -- the rows and the accumulator, of every group of this column block up to this one
  have A12 : ∀ y, (y 0).val < t.val % 16 + 1 → U12 y = T12f m c (t.val / 16) y := fun y hy => by
    by_cases hc : (y 0).val = g.val
    · rw [S.t12 y hc]; unfold T12f; rw [hw _ hc]
    · rw [S.t12k y hc]; exact I.i12 y (by omega)
  have A13 : ∀ y, (y 0).val < t.val % 16 + 1 → U13 y = T13f m c (t.val / 16) y := fun y hy => by
    by_cases hc : (y 0).val = g.val
    · have e : (y 0 : Fin 16) = g := Fin.ext hc
      rw [S.t13 y hc, Ba, Bb]; unfold T13f; rw [hw _ hc, e]
    · rw [S.t13k y hc]; exact I.i13 y (by omega)
  have A14 : ∀ y, (y 1).val / 8 < t.val % 16 + 1 → U14 y = T14f m c (t.val / 16) y := fun y hy => by
    by_cases hc : (y 1).val / 8 = g.val
    · have e : g8 (y 1) = g := Fin.ext hc
      rw [S.t14 y hc, B9, B10, Ba, Bb]; unfold T14f; rw [e, hw g rfl]
    · rw [S.t14k y hc]; exact I.i14 y (by omega)
  refine ⟨⟨A9, A10, A11, fun y hy => ?_, fun y hy => ?_, fun y hy => ?_⟩, fun h => ?_, ?_, fun h => ?_⟩
  · rw [show (t.val + 1) / 16 = t.val / 16 by omega]; exact A12 y (by omega)
  · rw [show (t.val + 1) / 16 = t.val / 16 by omega]; exact A13 y (by omega)
  · rw [show (t.val + 1) / 16 = t.val / 16 by omega]; exact A14 y (by omega)
  · have e12 : U12 = T12f m c (t.val / 16) := funext fun y => A12 y (by have : (y 0).val < 16 := (y 0).isLt; omega)
    have e13 : U13 = T13f m c (t.val / 16) := funext fun y => A13 y (by have : (y 0).val < 16 := (y 0).isLt; omega)
    have e14 : U14 = T14f m c (t.val / 16) := funext fun y => A14 y (by have : (y 1).val < 128 := (y 1).isLt; omega)
    rw [← e12, ← e13, ← e14]; exact S.o6 (h2.mpr h)
  · rw [← B9]; exact S.o7
  · have e12 : U12 = T12f m c (t.val / 16) := funext fun y => A12 y (by have : (y 0).val < 16 := (y 0).isLt; omega)
    rw [← e12]; exact S.o8 (h2.mpr h)

/-- The invariant, on the scratch buffers. -/
def Inv (c : Dev nD) (n : ℕ) (s : Scr F) : Prop :=
  InvF m c n ((Memref.whole cc0_scratch0).view.read (Elt F) s.s9) ((Memref.whole cc0_scratch1).view.read (Elt F) s.s10) ((Memref.whole cc0_scratch2).view.read (Elt F) s.s11)
    ((Memref.whole cc0_scratch3).view.read (Elt F) s.s12) ((Memref.whole cc0_scratch4).view.read (Elt F) s.s13) ((Memref.whole cc0_scratch5).view.read (Elt F) s.s14)

/-- What the windows are left at. -/
def Rl (c : Dev nD) : (w : Fin cfg0.W) → (t : Fin cfg0.N) → ((cfg0.win w).block.Idx → Elt F (cfg0.win w).elt) → Prop
  | ⟨0, _⟩, _, _ => True | ⟨1, _⟩, _, _ => True | ⟨2, _⟩, _, _ => True | ⟨3, _⟩, _, _ => True
  | ⟨4, _⟩, t, X => t.val % 16 = 15 → ∀ y : S20x16x512.Idx, (X : S20x16x512.Idx → Elt F .f32) y = lossG (Rv m c) (T12f m c (t.val / 16)) (T14f m c (t.val / 16)) (T13f m c (t.val / 16)) y
  | ⟨5, _⟩, t, X => ∀ y : S1x20x64x512.Idx, (X : S1x20x64x512.Idx → Elt F .i8) y = codesG (Rv m c) (wB m c t) (mR (T9f m c) (grid0.coords t 1)) y
  | ⟨6, _⟩, t, X => t.val % 16 = 15 → ∀ y : S20x16x512.Idx, (X : S20x16x512.Idx → Elt F .f32) y = scaleG (Rv m c) (T12f m c (t.val / 16)) y

theorem r0_eq (c : Dev nD) (t : Fin cfg0.N) : rat (st0_0 t) ((hw0_0 t).unread (iblk m c 0 t)) = Rv m c := funext fun kk => congrFun ((hw0_0 t).read_unread (iblk m c 0 t)) (ix1 (n := 20) kk)
theorem r1_eq (c : Dev nD) (t : Fin cfg0.N) : (st0_1 t).view.read (Elt F) ((hw0_1 t).unread (iblk m c 1 t)) = iblk m c 1 t := (hw0_1 t).read_unread _
theorem r2_eq (c : Dev nD) (t : Fin cfg0.N) : (st0_2 t).view.read (Elt F) ((hw0_2 t).unread (iblk m c 2 t)) = iblk m c 2 t := (hw0_2 t).read_unread _
theorem r3_eq (c : Dev nD) (t : Fin cfg0.N) : (st0_3 t).view.read (Elt F) ((hw0_3 t).unread (iblk m c 3 t)) = iblk m c 3 t := (hw0_3 t).read_unread _

theorem keepsTT (c : Dev nD) (t : Fin cfg0.N) (s : Scr F) (o : OutB F t) (h1 : k0_cond1 (grid0.coords t) = 1#1) (h2 : k0_cond2 (grid0.coords t) = 1#1) (hI : Inv m c t.val s) :
    Inv m c (t.val + 1) (bodyOutTT m c t h1 h2 s o).1
    ∧ Rl m c 4 t ((st0_4 t).view.read (Elt F) (bodyOutTT m c t h1 h2 s o).2.o6)
    ∧ Rl m c 5 t ((st0_5 t).view.read (Elt F) (bodyOutTT m c t h1 h2 s o).2.o7)
    ∧ Rl m c 6 t ((st0_6 t).view.read (Elt F) (bodyOutTT m c t h1 h2 s o).2.o8) := by
  unfold bodyOutTT Inv Rl
  dsimp only
  exact keep m c t _ (coords1 t) _ _ (cond1 t) (cond2 t)
    (stepTT c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16 h1 h2)
    (r0_eq m c t) (r2_eq m c t) (r1_eq m c t) (r3_eq m c t) hI

theorem keepsTF (c : Dev nD) (t : Fin cfg0.N) (s : Scr F) (o : OutB F t) (h1 : k0_cond1 (grid0.coords t) = 1#1) (h2 : ¬ k0_cond2 (grid0.coords t) = 1#1) (hI : Inv m c t.val s) :
    Inv m c (t.val + 1) (bodyOutTF m c t h1 h2 s o).1
    ∧ Rl m c 4 t ((st0_4 t).view.read (Elt F) (bodyOutTF m c t h1 h2 s o).2.o6)
    ∧ Rl m c 5 t ((st0_5 t).view.read (Elt F) (bodyOutTF m c t h1 h2 s o).2.o7)
    ∧ Rl m c 6 t ((st0_6 t).view.read (Elt F) (bodyOutTF m c t h1 h2 s o).2.o8) := by
  unfold bodyOutTF Inv Rl
  dsimp only
  exact keep m c t _ (coords1 t) _ _ (cond1 t) (cond2 t)
    (stepTF c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16 h1 h2)
    (r0_eq m c t) (r2_eq m c t) (r1_eq m c t) (r3_eq m c t) hI

theorem keepsFT (c : Dev nD) (t : Fin cfg0.N) (s : Scr F) (o : OutB F t) (h1 : ¬ k0_cond1 (grid0.coords t) = 1#1) (h2 : k0_cond2 (grid0.coords t) = 1#1) (hI : Inv m c t.val s) :
    Inv m c (t.val + 1) (bodyOutFT m c t h1 h2 s o).1
    ∧ Rl m c 4 t ((st0_4 t).view.read (Elt F) (bodyOutFT m c t h1 h2 s o).2.o6)
    ∧ Rl m c 5 t ((st0_5 t).view.read (Elt F) (bodyOutFT m c t h1 h2 s o).2.o7)
    ∧ Rl m c 6 t ((st0_6 t).view.read (Elt F) (bodyOutFT m c t h1 h2 s o).2.o8) := by
  unfold bodyOutFT Inv Rl
  dsimp only
  exact keep m c t _ (coords1 t) _ _ (cond1 t) (cond2 t)
    (stepFT c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16 h1 h2)
    (r0_eq m c t) (r2_eq m c t) (r1_eq m c t) (r3_eq m c t) hI

theorem keepsFF (c : Dev nD) (t : Fin cfg0.N) (s : Scr F) (o : OutB F t) (h1 : ¬ k0_cond1 (grid0.coords t) = 1#1) (h2 : ¬ k0_cond2 (grid0.coords t) = 1#1) (hI : Inv m c t.val s) :
    Inv m c (t.val + 1) (bodyOutFF m c t h1 h2 s o).1
    ∧ Rl m c 4 t ((st0_4 t).view.read (Elt F) (bodyOutFF m c t h1 h2 s o).2.o6)
    ∧ Rl m c 5 t ((st0_5 t).view.read (Elt F) (bodyOutFF m c t h1 h2 s o).2.o7)
    ∧ Rl m c 6 t ((st0_6 t).view.read (Elt F) (bodyOutFF m c t h1 h2 s o).2.o8) := by
  unfold bodyOutFF Inv Rl
  dsimp only
  exact keep m c t _ (coords1 t) _ _ (cond1 t) (cond2 t)
    (stepFF c (grid0.coords t) (st0_0 t) (hw0_0 t) (st0_1 t) (hw0_1 t) (st0_2 t) (hw0_2 t) (st0_3 t) (hw0_3 t) (st0_4 t) (hw0_4 t) (st0_5 t) (hw0_5 t) (st0_6 t) (hw0_6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((hw0_0 t).unread (iblk m c 0 t)) ((hw0_1 t).unread (iblk m c 1 t)) ((hw0_2 t).unread (iblk m c 2 t)) ((hw0_3 t).unread (iblk m c 3 t)) o.o6 o.o7 o.o8 s.s9 s.s10 s.s11 s.s12 s.s13 s.s14 s.s15 s.s16 h1 h2)
    (r0_eq m c t) (r2_eq m c t) (r1_eq m c t) (r3_eq m c t) hI

theorem keeps : Keeps m (Inv m) (Rl m) := fun c t s o hI => by
  unfold bodyOut
  split_ifs with h1 h2 h2
  · exact keepsTT m c t s o h1 h2 hI
  · exact keepsTF m c t s o h1 h2 hI
  · exact keepsFT m c t s o h1 h2 hI
  · exact keepsFF m c t s o h1 h2 hI

theorem inv0 (c : Dev nD) (s : Scr F) : Inv m c 0 s :=
  ⟨fun _ h => absurd h (Nat.not_lt_zero _), fun _ h => absurd h (Nat.not_lt_zero _), fun _ h => absurd h (Nat.not_lt_zero _),
    fun _ h => absurd h (Nat.not_lt_zero _), fun _ h => absurd h (Nat.not_lt_zero _), fun _ h => absurd h (Nat.not_lt_zero _)⟩

/-- The kernel's run, the windows' values tracked. -/
theorem run_value : θ_run defs (onTc (τ := τ) (main (F := F))) (s₀ m ρ)
    (fun r => Pipeline.RDat.FramePost cfg0 (rdat m (Inv m) (Rl m)) (V m) r ∧ r.2.sem = fun _ => 0) :=
  run_main m ρ (Inv m) (Rl m) (keeps m) (inv0 m)

end Cert.KernelIdeal.Gen
-- ==== Proof.PI.Arr.lean ====
/- The three result arrays after the run, at an index. -/
module

public import proofs.«01_k».proof.Proof.PI.Inv
public import Idealize.ShloMosaic.Lib.Pipeline.ArrRel
public import Idealize.ShloMosaic.Lib.Pipeline.Value
public import Idealize.ShloMosaic.Lib.Pipeline.ValueKit.Geometry

@[expose] public section

set_option maxRecDepth 16384
set_option maxHeartbeats 4000000

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The loss array the grid leaves: entry (k, g, n) is computed in the last point of the column block of n. -/
def lossR (c : Dev nD) (i : S20x16x5632.Idx) : Elt F .f32 :=
  lossG (Rv m c) (T12f m c ((i 2).val / 512)) (T14f m c ((i 2).val / 512)) (T13f m c ((i 2).val / 512)) (ix3 (n0 := 20) (n1 := 16) (n2 := 512) (i 0) (i 1) ⟨(i 2).val % 512, Nat.mod_lt _ (by decide)⟩)

/-- The codes array: entry (g, k, R, n) is computed at the point of group g and the column block of n. -/
def codesR (c : Dev nD) (i : S16x20x64x5632.Idx) : Elt F .i8 :=
  codesG (Rv m c) (wB m c (pt ((i 3).val / 512) (i 0))) (mR (T9f m c) (i 0)) (ix4 (n0 := 1) (n1 := 20) (n2 := 64) (n3 := 512) 0 (i 1) (i 2) ⟨(i 3).val % 512, Nat.mod_lt _ (by decide)⟩)

/-- The scale array. -/
def scaleR (c : Dev nD) (i : S20x16x5632.Idx) : Elt F .f32 :=
  scaleG (Rv m c) (T12f m c ((i 2).val / 512)) (ix3 (n0 := 20) (n1 := 16) (n2 := 512) (i 0) (i 1) ⟨(i 2).val % 512, Nat.mod_lt _ (by decide)⟩)

theorem ix4_0 : ∀ t : Fin cfg0.N, win0_4.index t 0 = 0 := by decide +kernel
theorem ix4_1 : ∀ t : Fin cfg0.N, win0_4.index t 1 = 0 := by decide +kernel
theorem ix4_2 : ∀ t : Fin cfg0.N, win0_4.index t 2 = t.val / 16 := by decide +kernel
theorem ix5_0 : ∀ t : Fin cfg0.N, win0_5.index t 0 = t.val % 16 := by decide +kernel
theorem ix5_1 : ∀ t : Fin cfg0.N, win0_5.index t 1 = 0 := by decide +kernel
theorem ix5_2 : ∀ t : Fin cfg0.N, win0_5.index t 2 = 0 := by decide +kernel
theorem ix5_3 : ∀ t : Fin cfg0.N, win0_5.index t 3 = t.val / 16 := by decide +kernel
theorem ix6_0 : ∀ t : Fin cfg0.N, win0_6.index t 0 = 0 := by decide +kernel
theorem ix6_1 : ∀ t : Fin cfg0.N, win0_6.index t 1 = 0 := by decide +kernel
theorem ix6_2 : ∀ t : Fin cfg0.N, win0_6.index t 2 = t.val / 16 := by decide +kernel

theorem loss_key (c : Dev nD) (q : ℕ) (i : S20x16x5632.Idx) (z : S20x16x512.Idx) (h0 : (i 0).val = (z 0).val) (h1 : (i 1).val = (z 1).val)
    (h2 : (i 2).val = q * 512 + (z 2).val) :
    lossG (Rv m c) (T12f m c q) (T14f m c q) (T13f m c q) z = lossR m c i := by
  have hz : (z 2).val < 512 := (z 2).isLt
  have e : (i 2).val / 512 = q := by omega
  have ez : ix3 (n0 := 20) (n1 := 16) (n2 := 512) (i 0) (i 1) ⟨(i 2).val % 512, Nat.mod_lt _ (by decide)⟩ = z := by
    funext a; fin_cases a
    · exact Fin.ext h0
    · exact Fin.ext h1
    · exact Fin.ext (show (i 2).val % 512 = (z 2).val by omega)
  unfold lossR; rw [e, ez]

theorem scale_key (c : Dev nD) (q : ℕ) (i : S20x16x5632.Idx) (z : S20x16x512.Idx) (h0 : (i 0).val = (z 0).val) (h1 : (i 1).val = (z 1).val)
    (h2 : (i 2).val = q * 512 + (z 2).val) :
    scaleG (Rv m c) (T12f m c q) z = scaleR m c i := by
  have hz : (z 2).val < 512 := (z 2).isLt
  have e : (i 2).val / 512 = q := by omega
  have ez : ix3 (n0 := 20) (n1 := 16) (n2 := 512) (i 0) (i 1) ⟨(i 2).val % 512, Nat.mod_lt _ (by decide)⟩ = z := by
    funext a; fin_cases a
    · exact Fin.ext h0
    · exact Fin.ext h1
    · exact Fin.ext (show (i 2).val % 512 = (z 2).val by omega)
  unfold scaleR; rw [e, ez]

theorem codes_key (c : Dev nD) (t : Fin cfg0.N) (g : Fin 16) (hg : g.val = t.val % 16) (i : S16x20x64x5632.Idx) (z : S1x20x64x512.Idx)
    (h0 : (i 0).val = t.val % 16) (h1 : (i 1).val = (z 1).val)
    (h2 : (i 2).val = (z 2).val) (h3 : (i 3).val = t.val / 16 * 512 + (z 3).val) :
    codesG (Rv m c) (wB m c t) (mR (T9f m c) g) z = codesR m c i := by
  have hz : (z 3).val < 512 := (z 3).isLt
  have hz0 : (z 0).val < 1 := (z 0).isLt
  have e : (i 3).val / 512 = t.val / 16 := by omega
  have eg : (i 0 : Fin 16) = g := Fin.ext (h0.trans hg.symm)
  have ep : pt (t.val / 16) g = t := pt_eq t _ _ (by rw [hg]; omega)
  have ez : ix4 (n0 := 1) (n1 := 20) (n2 := 64) (n3 := 512) 0 (i 1) (i 2) ⟨(i 3).val % 512, Nat.mod_lt _ (by decide)⟩ = z := by
    funext a; fin_cases a
    · exact Fin.ext (show 0 = (z 0).val by omega)
    · exact Fin.ext h1
    · exact Fin.ext h2
    · exact Fin.ext (show (i 3).val % 512 = (z 3).val by omega)
  unfold codesR; rw [e, ez, eg, ep]

theorem arr4 (c : Dev nD) (after : (w' : Fin cfg0.W) → Fin cfg0.N → (cfg0.win w').block.Idx → Elt F (cfg0.win w').elt)
    (h : ∀ t : Fin cfg0.N, t.val % 16 = 15 → Rl m c 4 t (after 4 t)) :
    ((rdat m (Inv m) (Rl m) c).withAfter after).arrAt 4 cfg0.N = lossR m c := by
  funext i
  refine ((rdat m (Inv m) (Rl m) c).withAfter after).arrAt_forall_of_covers 4 (fun i v => v = lossR m c i) (by decide +kernel) (fun t hf y => ?_) i
  have h1 := h t ((flush0_4 t).mp hf)
  unfold Rl at h1
  have h2 := h1 ((flush0_4 t).mp hf) ((cfg0.win 4).xinj (cfg0.grid.coords t) y)
  have c0 : ((((cfg0.win 4).blk t).view.emb y) (0 : Fin 3)).val = (y (0 : Fin 3)).val := by
    skip
    blk_simp; rw [ix4_0 t]; omega
  have c1 : ((((cfg0.win 4).blk t).view.emb y) (1 : Fin 3)).val = (y (1 : Fin 3)).val := by
    skip
    blk_simp; rw [ix4_1 t]; omega
  have c2 : ((((cfg0.win 4).blk t).view.emb y) (2 : Fin 3)).val = t.val / 16 * 512 + (y (2 : Fin 3)).val := by
    skip
    blk_simp; rw [ix4_2 t]
  exact h2.trans (loss_key m c (t.val / 16) _ _ c0 c1 c2)

theorem arr5 (c : Dev nD) (after : (w' : Fin cfg0.W) → Fin cfg0.N → (cfg0.win w').block.Idx → Elt F (cfg0.win w').elt)
    (h : ∀ t : Fin cfg0.N, Rl m c 5 t (after 5 t)) :
    ((rdat m (Inv m) (Rl m) c).withAfter after).arrAt 5 cfg0.N = codesR m c := by
  funext i
  refine ((rdat m (Inv m) (Rl m) c).withAfter after).arrAt_forall_of_covers 5 (fun i v => v = codesR m c i) (by decide +kernel) (fun t hf y => ?_) i
  have h1 := h t
  unfold Rl at h1
  have h2 := h1  ((cfg0.win 5).xinj (cfg0.grid.coords t) y)
  have c0 : ((((cfg0.win 5).blk t).view.emb y) (0 : Fin 4)).val = t.val % 16 := by
    have hy : (y (0 : Fin 4)).val < 1 := (y (0 : Fin 4)).isLt
    blk_simp; rw [ix5_0 t]
  have c1 : ((((cfg0.win 5).blk t).view.emb y) (1 : Fin 4)).val = (y (1 : Fin 4)).val := by
    skip
    blk_simp; rw [ix5_1 t]; omega
  have c2 : ((((cfg0.win 5).blk t).view.emb y) (2 : Fin 4)).val = (y (2 : Fin 4)).val := by
    skip
    blk_simp; rw [ix5_2 t]; omega
  have c3 : ((((cfg0.win 5).blk t).view.emb y) (3 : Fin 4)).val = t.val / 16 * 512 + (y (3 : Fin 4)).val := by
    skip
    blk_simp; rw [ix5_3 t]
  exact h2.trans (codes_key m c t _ (coords1 t) _ _ c0 c1 c2 c3)

theorem arr6 (c : Dev nD) (after : (w' : Fin cfg0.W) → Fin cfg0.N → (cfg0.win w').block.Idx → Elt F (cfg0.win w').elt)
    (h : ∀ t : Fin cfg0.N, t.val % 16 = 15 → Rl m c 6 t (after 6 t)) :
    ((rdat m (Inv m) (Rl m) c).withAfter after).arrAt 6 cfg0.N = scaleR m c := by
  funext i
  refine ((rdat m (Inv m) (Rl m) c).withAfter after).arrAt_forall_of_covers 6 (fun i v => v = scaleR m c i) (by decide +kernel) (fun t hf y => ?_) i
  have h1 := h t ((flush0_6 t).mp hf)
  unfold Rl at h1
  have h2 := h1 ((flush0_6 t).mp hf) ((cfg0.win 6).xinj (cfg0.grid.coords t) y)
  have c0 : ((((cfg0.win 6).blk t).view.emb y) (0 : Fin 3)).val = (y (0 : Fin 3)).val := by
    skip
    blk_simp; rw [ix6_0 t]; omega
  have c1 : ((((cfg0.win 6).blk t).view.emb y) (1 : Fin 3)).val = (y (1 : Fin 3)).val := by
    skip
    blk_simp; rw [ix6_1 t]; omega
  have c2 : ((((cfg0.win 6).blk t).view.emb y) (2 : Fin 3)).val = t.val / 16 * 512 + (y (2 : Fin 3)).val := by
    skip
    blk_simp; rw [ix6_2 t]
  exact h2.trans (scale_key m c (t.val / 16) _ _ c0 c1 c2)

/-- What the kernel's run leaves: the three result arrays, and the arguments unchanged. -/
theorem run_arrays : θ_run defs (onTc (τ := τ) (main (F := F))) (s₀ m ρ) (fun r => ∀ c : Dev nD,
    r.2.mem ((c.tc : Thread nD τ).loc main_v6_0) = lossR m c ∧ r.2.mem ((c.tc : Thread nD τ).loc main_v6_1) = codesR m c
    ∧ r.2.mem ((c.tc : Thread nD τ).loc main_v6_2) = scaleR m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => by
    obtain ⟨after, hL, hA⟩ := h.1.exists_exact c
    have hu := unchanged_of_post m (Inv m) (Rl m) r h.1 c
    exact ⟨(hA 4).trans (arr4 m c after fun t ht => Pipeline.Dat.toRRel_leaves (w := 4) _ rfl (hL 4 t ((flush0_4 t).mpr ht))), (hA 5).trans (arr5 m c after fun t => Pipeline.Dat.toRRel_leaves (w := 5) _ rfl (hL 5 t (flush0_5 t))),
      (hA 6).trans (arr6 m c after fun t ht => Pipeline.Dat.toRRel_leaves (w := 6) _ rfl (hL 6 t ((flush0_6 t).mpr ht))), hu.1, hu.2⟩) (run_value m ρ)

end Cert.KernelIdeal.Gen
-- ==== Proof.RI.Ref.lean ====
/- The reference at an index: its three results as plain formulas of the arguments. -/
module

public import proofs.«01_k».proof.Proof.Gen.ReferenceIdeal.Run
public import Idealize.ShloMosaic.Lib.Pointwise

@[expose] public section

set_option maxRecDepth 16384
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

abbrev XArr := FVec Ideal S1x256x2048 .bf16
abbrev WArr := FVec Ideal S2048x5632 .bf16

/-- The weights by group, column and row inside the group. -/
def wfR (B : WArr) : FVec Ideal S16x5632x128 .f32 :=
  extf .f32 (transpose S16x5632x128 [0, 2, 1] (shapeCast _ B shapeCasts_S2048x5632_S16x128x5632) transposes_S16x128x5632_S16x5632x128_0_2_1) bitsLt_bf16_f32

/-- The largest magnitude of each group of each column. -/
def amR (B : WArr) : FVec Ideal S16x5632 .f32 :=
  Host.reduce FloatOps.maximumf (Host.absf (wfR B)) (constant S_ .f32 0xFF800000#32) reducesTo_S16x5632x128_S16x5632_d2 h_S_

/-- The clip ratios. -/
def ratR : FVec Ideal S20 .f32 :=
  subf (broadcastInDim S20 ![] bcast_S_S20 (constant S_ .f32 0x3F800000#32)) (Host.divf (sitofp .f32 (iotaInDim S20 32 0)) (broadcastInDim S20 ![] bcast_S_S20 (constant S_ .f32 0x42200000#32)))

/-- The scales. -/
def scR (B : WArr) : FVec Ideal S16x5632x20 .f32 :=
  select (broadcastInDim S16x5632x20 ![0, 1, 2] bcast_S16x5632x1_S16x5632x20_0_1_2 (cmpf .oeq (broadcastInDim S16x5632x1 ![0, 1] bcast_S16x5632_S16x5632x1_0_1 (amR B)) (broadcastInDim S16x5632x1 ![] bcast_S_S16x5632x1 (constant S_ .f32 0x00000000#32)))) (broadcastInDim S16x5632x20 ![] bcast_S_S16x5632x20 (constant S_ .f32 0x3F800000#32)) (Host.divf (mulf (broadcastInDim S16x5632x20 ![0, 1, 2] bcast_S1x1x20_S16x5632x20_0_1_2 (broadcastInDim S1x1x20 ![2] bcast_S20_S1x1x20_2 ratR)) (broadcastInDim S16x5632x20 ![0, 1, 2] bcast_S16x5632x1_S16x5632x20_0_1_2 (broadcastInDim S16x5632x1 ![0, 1] bcast_S16x5632_S16x5632x1_0_1 (amR B)))) (broadcastInDim S16x5632x20 ![] bcast_S_S16x5632x20 (constant S_ .f32 0x40E00000#32)))

/-- The codes as words. -/
def qR (B : WArr) : IVec S16x5632x20x128 32 :=
  fptosi 32 (minimumf (broadcastInDim S16x5632x20x128 ![] bcast_S_S16x5632x20x128 (id (constant S_ .f32 0x40E00000#32))) (maximumf (broadcastInDim S16x5632x20x128 ![] bcast_S_S16x5632x20x128 (id (constant S_ .f32 0xC0E00000#32))) (Host.roundeven (Host.divf (broadcastInDim S16x5632x20x128 ![0, 1, 2, 3] bcast_S16x5632x1x128_S16x5632x20x128_0_1_2_3 (broadcastInDim S16x5632x1x128 ![0, 1, 3] bcast_S16x5632x128_S16x5632x1x128_0_1_3 (wfR B))) (broadcastInDim S16x5632x20x128 ![0, 1, 2, 3] bcast_S16x5632x20x1_S16x5632x20x128_0_1_2_3 (broadcastInDim S16x5632x20x1 ![0, 1, 2] bcast_S16x5632x20_S16x5632x20x1_0_1_2 (scR B)))))))

/-- The quantisation error. -/
def errR (B : WArr) : FVec Ideal S16x5632x20x128 .f32 :=
  subf (broadcastInDim S16x5632x20x128 ![0, 1, 2, 3] bcast_S16x5632x1x128_S16x5632x20x128_0_1_2_3 (broadcastInDim S16x5632x1x128 ![0, 1, 3] bcast_S16x5632x128_S16x5632x1x128_0_1_3 (wfR B))) (mulf (sitofp .f32 (qR B)) (broadcastInDim S16x5632x20x128 ![0, 1, 2, 3] bcast_S16x5632x20x1_S16x5632x20x128_0_1_2_3 (broadcastInDim S16x5632x20x1 ![0, 1, 2] bcast_S16x5632x20_S16x5632x20x1_0_1_2 (scR B))))

/-- The inputs by row, group and column inside the group. -/
def xfR (A : XArr) : FVec Ideal S256x16x128 .f32 :=
  extf .f32 (shapeCast _ (shapeCast S256x2048 A shapeCasts_S1x256x2048_S256x2048) shapeCasts_S256x2048_S256x16x128) bitsLt_bf16_f32

/-- The Gram matrices. -/
def gramR (A : XArr) : FVec Ideal S16x128x128 .f32 :=
  Host.dotGeneral dot_S256x16x128_S256x16x128_S16x128x128_0_0_2_2_1_1 (some .fp32) (xfR A) (xfR A)

/-- The Gram matrix times the error. -/
def gerrR (A : XArr) (B : WArr) : FVec Ideal S16x128x5632x20 .f32 :=
  Host.dotGeneral dot_S16x128x128_S16x5632x20x128_S16x128x5632x20_1_3_2_12_0_0 (some .fp32) (gramR A) (errR B)

/-- The losses by group, column and ratio. -/
def lossR0 (A : XArr) (B : WArr) : FVec Ideal S16x5632x20 .f32 :=
  Host.dotGeneral dot_S16x5632x20x128_S16x128x5632x20_S16x5632x20_3_1_n_n_012_023 (some .fp32) (errR B) (gerrR A B)

/-- The low four bits of each code, in pairs. -/
def nibR (B : WArr) : IVec S16x5632x20x64x2 32 :=
  shapeCast _ (andi (qR B) (broadcastInDim S16x5632x20x128 ![] bcast_S_S16x5632x20x128 (constantI S_ 32 15#32))) shapeCasts_S16x5632x20x128_S16x5632x20x64x2

/-- The packed codes. -/
def packR (B : WArr) : IVec S16x5632x20x64 8 :=
  trunci 8 (ori (shapeCast _ (extractStridedSlice S16x5632x20x64x1 ![0, 0, 0, 0, 0] (nibR B) slices_S16x5632x20x64x2_S16x5632x20x64x1_0_0_0_0_0) shapeCasts_S16x5632x20x64x1_S16x5632x20x64) (Host.shli (shapeCast _ (extractStridedSlice S16x5632x20x64x1 ![0, 0, 0, 0, 1] (nibR B) slices_S16x5632x20x64x2_S16x5632x20x64x1_0_0_0_0_1) shapeCasts_S16x5632x20x64x1_S16x5632x20x64) (broadcastInDim S16x5632x20x64 ![] bcast_S_S16x5632x20x64 (constantI S_ 32 4#32)))) natLt_8_32

/-- The three results, laid out as the program returns them. -/
def out0 (A : XArr) (B : WArr) : FVec Ideal S20x16x5632 .f32 := transpose S20x16x5632 [2, 0, 1] (lossR0 A B) transposes_S16x5632x20_S20x16x5632_2_0_1
def out1 (B : WArr) : IVec S16x20x64x5632 8 := transpose S16x20x64x5632 [0, 2, 3, 1] (packR B) transposes_S16x5632x20x64_S16x20x64x5632_0_2_3_1
def out2 (B : WArr) : FVec Ideal S20x16x5632 .f32 := transpose S20x16x5632 [2, 0, 1] (scR B) transposes_S16x5632x20_S20x16x5632_2_0_1

variable (m : (ℓ : Loc nD τ sig) → Buf (Elt Ideal) ℓ) (c : Dev nD)

theorem res0_eq : res_main_v53 (F := Ideal) m c = out0 (m ((c.tc : Thread nD τ).loc main_arg0)) (m ((c.tc : Thread nD τ).loc main_arg1)) := rfl
theorem res1_eq : res_main_v54 (F := Ideal) m c = out1 (m ((c.tc : Thread nD τ).loc main_arg1)) := rfl

/-- The reference's run, its results by these names. -/
theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v53) = out0 (m ((c.tc : Thread nD τ).loc main_arg0)) (m ((c.tc : Thread nD τ).loc main_arg1))
      ∧ r.2.mem ((c.tc : Thread nD τ).loc main_v54) = out1 (m ((c.tc : Thread nD τ).loc main_arg1))
      ∧ r.2.mem ((c.tc : Thread nD τ).loc main_v55) = out2 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (res0_eq m c), (h c).2.1.trans (res1_eq m c), (h c).2.2.1, (h c).2.2.2.1, (h c).2.2.2.2⟩) (run (F := Ideal) m ρ)

/-! ## Reading the pieces at an index -/

theorem b_last (x : FVec Ideal S16x5632 .f32) (g : Fin 16) (n : Fin 5632) (k : Fin 20) :
    broadcastInDim S16x5632x20 ![0, 1, 2] bcast_S16x5632x1_S16x5632x20_0_1_2 (broadcastInDim S16x5632x1 ![0, 1] bcast_S16x5632_S16x5632x1_0_1 x) (ix3 g n k) = x (ix2 g n) :=
  (broadcastInDim_apply _ _ _ _ (ix3 g n 0) (fun a => by fin_cases a <;> rfl)).trans
    (broadcastInDim_apply _ _ _ _ (ix2 g n) (fun a => by fin_cases a <;> rfl))

theorem b_last1 (x : IVec S16x5632x1 1) (g : Fin 16) (n : Fin 5632) (k : Fin 20) :
    broadcastInDim S16x5632x20 ![0, 1, 2] bcast_S16x5632x1_S16x5632x20_0_1_2 x (ix3 g n k) = x (ix3 g n 0) :=
  broadcastInDim_apply _ _ _ _ (ix3 g n 0) (fun a => by fin_cases a <;> rfl)

theorem b_last2 (x : FVec Ideal S16x5632 .f32) (g : Fin 16) (n : Fin 5632) :
    broadcastInDim S16x5632x1 ![0, 1] bcast_S16x5632_S16x5632x1_0_1 x (ix3 g n 0) = x (ix2 g n) :=
  broadcastInDim_apply _ _ _ _ (ix2 g n) (fun a => by fin_cases a <;> rfl)

theorem b_rat (x : FVec Ideal S20 .f32) (g : Fin 16) (n : Fin 5632) (k : Fin 20) :
    broadcastInDim S16x5632x20 ![0, 1, 2] bcast_S1x1x20_S16x5632x20_0_1_2 (broadcastInDim S1x1x20 ![2] bcast_S20_S1x1x20_2 x) (ix3 g n k) = x (ix1 k) :=
  (broadcastInDim_apply _ _ _ _ (ix3 0 0 k) (fun a => by fin_cases a <;> rfl)).trans
    (broadcastInDim_apply _ _ _ _ (ix1 k) (fun a => by fin_cases a <;> rfl))

theorem b_w (x : FVec Ideal S16x5632x128 .f32) (g : Fin 16) (n : Fin 5632) (k : Fin 20) (i : Fin 128) :
    broadcastInDim S16x5632x20x128 ![0, 1, 2, 3] bcast_S16x5632x1x128_S16x5632x20x128_0_1_2_3 (broadcastInDim S16x5632x1x128 ![0, 1, 3] bcast_S16x5632x128_S16x5632x1x128_0_1_3 x) (ix4 g n k i) = x (ix3 g n i) :=
  (broadcastInDim_apply _ _ _ _ (ix4 g n 0 i) (fun a => by fin_cases a <;> rfl)).trans
    (broadcastInDim_apply _ _ _ _ (ix3 g n i) (fun a => by fin_cases a <;> rfl))

theorem b_s (x : FVec Ideal S16x5632x20 .f32) (g : Fin 16) (n : Fin 5632) (k : Fin 20) (i : Fin 128) :
    broadcastInDim S16x5632x20x128 ![0, 1, 2, 3] bcast_S16x5632x20x1_S16x5632x20x128_0_1_2_3 (broadcastInDim S16x5632x20x1 ![0, 1, 2] bcast_S16x5632x20_S16x5632x20x1_0_1_2 x) (ix4 g n k i) = x (ix3 g n k) :=
  (broadcastInDim_apply _ _ _ _ (ix4 g n k 0) (fun a => by fin_cases a <;> rfl)).trans
    (broadcastInDim_apply _ _ _ _ (ix3 g n k) (fun a => by fin_cases a <;> rfl))

/-! ## The plain values -/

/-- The ratio of step k. -/
def ratio (k : Fin 20) : EReal := 1 - Ideal.div (FloatOps.sitofp (F := Ideal) FTy.f32 (BitVec.ofNat 32 k.val)) (Ideal.ofBits FTy.f32 0x42200000#32)

/-- The largest magnitude of a column of 128 weights. -/
def amax (w : Fin 128 → EReal) : EReal := Finset.fold max (Ideal.ofBits FTy.f32 0xFF800000#32) (fun i => max (w i) (-(w i))) Finset.univ

/-- The scale of a column with largest magnitude a at ratio r. -/
def scaleOf (a r : EReal) : EReal := Scalar.select (FloatOps.cmpf (F := Ideal) (φ := .f32) .oeq a 0) 1 (Ideal.div (r * a) (Ideal.ofBits FTy.f32 0x40E00000#32))

/-- The rounded and clipped quotient. -/
def clipOf (v s : EReal) : EReal := min (Ideal.ofBits FTy.f32 0x40E00000#32) (max (Ideal.ofBits FTy.f32 0xC0E00000#32) (Ideal.liftRound Ideal.roundHalfEven (Ideal.div v s)))

theorem wfR_ix (B : WArr) (g : Fin 16) (n : Fin 5632) (i : Fin 128) : wfR B (ix3 g n i) = B (ix2 ⟨g.val * 128 + i.val, by omega⟩ n) := by
  pointwise [wfR]

/-- A column of weights of one group. -/
def colR (B : WArr) (g : Fin 16) (n : Fin 5632) (i : Fin 128) : EReal := wfR B (ix3 g n i)

theorem ratR_ix (k : Fin 20) : ratR (ix1 k) = ratio k := by
  pointwise [ratR, ratio]

theorem amR_ix (B : WArr) (g : Fin 16) (n : Fin 5632) : amR B (ix2 g n) = amax (colR B g n) := by
  unfold amR amax colR
  pointwise
  rfl

theorem scR_ix (B : WArr) (g : Fin 16) (n : Fin 5632) (k : Fin 20) : scR B (ix3 g n k) = scaleOf (amax (colR B g n)) (ratio k) := by
  unfold scR scaleOf
  rw [show ∀ (c : IVec S16x5632x20 1) (a b : FVec Ideal S16x5632x20 .f32) (i : S16x5632x20.Idx), select c a b i = Scalar.select (c i) (a i) (b i) from fun _ _ _ _ => rfl, b_last1, ValueIdx.cmpf_apply, b_last2, amR_ix, Host.divf_apply, mulf_apply, b_rat, ratR_ix, b_last, amR_ix]
  pointwise

theorem qR_ix (B : WArr) (g : Fin 16) (n : Fin 5632) (k : Fin 20) (i : Fin 128) :
    qR B (ix4 g n k i) = Ideal.fptosi 32 (clipOf (colR B g n i) (scaleOf (amax (colR B g n)) (ratio k))) := by
  unfold qR clipOf colR
  rw [fptosi_apply, minimumf_apply, maximumf_apply, Host.roundeven_apply, Host.divf_apply, b_w, b_s, scR_ix]
  rfl

theorem errR_ix (B : WArr) (g : Fin 16) (n : Fin 5632) (k : Fin 20) (i : Fin 128) :
    errR B (ix4 g n k i) = colR B g n i - FloatOps.sitofp (F := Ideal) FTy.f32 (qR B (ix4 g n k i)) * scaleOf (amax (colR B g n)) (ratio k) := by
  unfold errR colR
  rw [subf_apply, mulf_apply, b_w, b_s, scR_ix]
  rfl

theorem xfR_ix (A : XArr) (r : Fin 256) (g : Fin 16) (i : Fin 128) : xfR A (ix3 r g i) = A (ix3 0 r ⟨g.val * 128 + i.val, by omega⟩) := by
  pointwise [xfR]

theorem gramR_ix (A : XArr) (g : Fin 16) (i j : Fin 128) : gramR A (ix3 g i j) = ∑ r, xfR A (ix3 r g i) * xfR A (ix3 r g j) := by
  pointwise [gramR]

theorem out0_ix (A : XArr) (B : WArr) (k : Fin 20) (g : Fin 16) (n : Fin 5632) :
    out0 A B (ix3 k g n) = ∑ j, errR B (ix4 g n k j) * ∑ i, gramR A (ix3 g i j) * errR B (ix4 g n k i) := by
  pointwise [out0, lossR0, gerrR]

theorem out1_ix (B : WArr) (g : Fin 16) (k : Fin 20) (R : Fin 64) (n : Fin 5632) :
    out1 B (ix4 g k R n) = BitVec.setWidth 8 ((qR B (ix4 g n k ⟨R.val * 2, by omega⟩) &&& 15#32) ||| ((qR B (ix4 g n k ⟨R.val * 2 + 1, by omega⟩) &&& 15#32) <<< 4)) := by
  pointwise [out1, packR, nibR]
  rfl

theorem out2_ix (B : WArr) (k : Fin 20) (g : Fin 16) (n : Fin 5632) : out2 B (ix3 k g n) = scaleOf (amax (colR B g n)) (ratio k) := by
  pointwise [out2]
  exact scR_ix B g n k

end Cert.ReferenceIdeal.Value
-- ==== Proof.PI.In.lean ====
/- The blocks the kernel reads, at an index, in the arithmetic of the extended reals. -/
module

public import proofs.«01_k».proof.Proof.PI.Arr
public import proofs.«01_k».proof.Proof.RI.Ref
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL.Sem
open Cert.ReferenceIdeal.Value (ratio amax scaleOf clipOf colR wfR_ix out0 out1 out2 out0_ix out1_ix out2_ix)

variable (m : (ℓ : Loc nD τ sig) → Buf (Elt Ideal) ℓ)

/-! The two spellings of an index agree. -/
theorem vx1 {a : ℕ} (i : Fin a) : ValueIdx.ix1 i = ix1 i := by funext d; fin_cases d; rfl
theorem vx2 {a b : ℕ} (i : Fin a) (j : Fin b) : ValueIdx.ix2 i j = ix2 i j := by funext d; fin_cases d <;> rfl
theorem vx3 {a b e : ℕ} (i : Fin a) (j : Fin b) (k : Fin e) : ValueIdx.ix3 i j k = ix3 i j k := by funext d; fin_cases d <;> rfl
theorem vx4 {a b e f : ℕ} (i : Fin a) (j : Fin b) (k : Fin e) (l : Fin f) : ValueIdx.ix4 i j k l = ix4 i j k l := by funext d; fin_cases d <;> rfl

/-- The x block's array: the argument without its leading axis. -/
theorem V_main_v0 (c : Dev nD) : V m c main_v0 = shapeCast S256x2048 (m ((c : Thread nD τ).loc main_arg0)) shapeCasts_S1x256x2048_S256x2048 := by
  show StableHlo.after hostOps0 _ (Proc.devRef .tc main_v0) = _
  after_results
  first | done | rfl

/-- The ratios' array. -/
theorem V_main_v5 (c : Dev nD) : V m c main_v5 = (subf (broadcastInDim S20 ![] bcast_S_S20 (constant (F := Ideal) S_ .f32 0x3F800000#32)) (Host.divf (sitofp .f32 (iotaInDim S20 32 0)) (broadcastInDim S20 ![] bcast_S_S20 (constant (F := Ideal) S_ .f32 0x42200000#32))) : FVec Ideal S20 .f32) := by
  show StableHlo.after hostOps0 _ (Proc.devRef .tc main_v5) = _
  after_results
  first | done | rfl

/-- The packing table's array. -/
theorem V_main_cst (c : Dev nD) : V m c main_cst = (fun i => FloatOps.ofBits (F := Ideal) .bf16 (lit0 (S32x256.rowMajor i))) := by
  show StableHlo.after hostOps0 _ (Proc.devRef .tc main_cst) = _
  after_results
  first | done | rfl

theorem iw3_0 : ∀ t : Fin cfg0.N, win0_3.index t 0 = t.val % 16 := by decide +kernel
theorem iw3_1 : ∀ t : Fin cfg0.N, win0_3.index t 1 = t.val / 16 := by decide +kernel
theorem iw1_0 : ∀ t : Fin cfg0.N, win0_1.index t 0 = 0 := by decide +kernel
theorem iw1_1 : ∀ t : Fin cfg0.N, win0_1.index t 1 = t.val % 16 := by decide +kernel
theorem iw0_0 : ∀ t : Fin cfg0.N, win0_0.index t 0 = 0 := by decide +kernel
theorem iw2_0 : ∀ t : Fin cfg0.N, win0_2.index t 0 = 0 := by decide +kernel
theorem iw2_1 : ∀ t : Fin cfg0.N, win0_2.index t 1 = 0 := by decide +kernel

/-- The weight block of a point. -/
theorem wB_at (c : Dev nD) (t : Fin cfg0.N) (i : Fin 128) (j : Fin 512) (a : Fin 2048) (b : Fin 5632) (h : t.val % 16 * 128 + i.val = a.val) (h' : t.val / 16 * 512 + j.val = b.val) :
    wB m c t (ix2 i j) = m ((c : Thread nD τ).loc main_arg1) (ix2 a b) := by
  rw [← V_main_arg1 m c]
  unfold wB
  blk_simp [iblk]
  refine congrArg _ ?_
  funext d
  fin_cases d
  · apply Fin.ext
    blk_simp
    rw [iw3_0 t]
    exact h
  · apply Fin.ext
    blk_simp
    rw [iw3_1 t]
    exact h'

/-- The x array's cast at an index. -/
theorem x_cast (A : FVec Ideal S1x256x2048 .bf16) (r : Fin 256) (a : Fin 2048) : shapeCast S256x2048 A shapeCasts_S1x256x2048_S256x2048 (ix2 r a) = A (ix3 0 r a) := by
  pointwise

/-- The block of activations of a group. -/
theorem xB_at (c : Dev nD) (g : Fin 16) (r : Fin 256) (i : Fin 128) (a : Fin 2048) (h : g.val * 128 + i.val = a.val) :
    xB m c g (ix2 r i) = m ((c : Thread nD τ).loc main_arg0) (ix3 0 r a) := by
  have e : xB m c g (ix2 r i) = V m c main_v0 (ix2 r a) := by
    unfold xB
    blk_simp [iblk]
    refine congrArg _ ?_
    funext d
    fin_cases d
    · apply Fin.ext
      blk_simp
      rw [iw1_0]
      simp
    · apply Fin.ext
      blk_simp
      rw [iw1_1]
      have hg : g.val < 16 := g.isLt
      have : (pt 0 g).val = g.val := by unfold pt; simp only []; omega
      rw [this, Nat.mod_eq_of_lt hg]
      exact h
  rw [e, V_main_v0]
  exact x_cast _ r a

/-- The ratio of a step. -/
theorem Rv_at (c : Dev nD) (k : Fin 20) : Rv m c k = ratio k := by
  have e : Rv m c k = V m c main_v5 (ix1 k) := by
    unfold Rv
    blk_simp [iblk]
    refine congrArg _ ?_
    funext d
    fin_cases d
    apply Fin.ext
    blk_simp
    rw [iw0_0]
    simp
  rw [e, V_main_v5]
  pointwise [ratio]

/-- The packing table at an entry. -/
theorem Pv_at (c : Dev nD) (a : Fin 32) (b : Fin 256) : Pv m c (ix2 a b) = Ideal.ofBits .bf16 (lit0 (S32x256.rowMajor (ix2 a b))) := by
  have e : Pv m c (ix2 a b) = V m c main_cst (ix2 a b) := by
    unfold Pv
    blk_simp [iblk]
    refine congrArg _ ?_
    funext d
    fin_cases d
    · apply Fin.ext
      blk_simp
      rw [iw2_0]
      simp
    · apply Fin.ext
      blk_simp
      rw [iw2_1]
      simp
  rw [e, V_main_cst]
  rfl

end Cert.KernelIdeal.Gen
-- ==== Proof.PI.Scale.lean ====
/- The kernel's scales are the reference's. -/
module

public import proofs.«01_k».proof.Proof.PI.In
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL.Sem
open Cert.ReferenceIdeal.Value (ratio amax scaleOf clipOf colR wfR_ix out0 out1 out2 out0_ix out1_ix out2_ix qR errR gramR xfR qR_ix errR_ix gramR_ix xfR_ix)

variable (m : (ℓ : Loc nD τ sig) → Buf (Elt Ideal) ℓ)

/-- The two halves of a block's lanes make up its lane. -/
theorem wbk_at (B5 : Vec Ideal S128x512 .bf16) (l : Fin 512) (i : Fin 128) : wbk B5 (lb l) (ix2 i (ll l)) = B5 (ix2 i l) := by
  unfold wbk
  refine congrArg B5 ?_
  funext d
  fin_cases d
  · rfl
  · apply Fin.ext
    show 256 * (l.val / 256) + l.val % 256 = l.val
    omega

theorem pay34_at (B : Vec Ideal S128x256 .bf16) (l : Fin 256) : k0_pay34 B (ix2 0 l) = amax (fun i => B (ix2 i l)) := by
  unfold k0_pay34 amax
  pointwise
  rfl

theorem pay35_at (B : Vec Ideal S128x256 .bf16) (l : Fin 256) : k0_pay35 B (ix2 0 l) = k0_pay34 B (ix2 0 l) := by
  unfold k0_pay35
  exact shapeCast_apply _ _ _ _ rfl

theorem aG_at (B5 : Vec Ideal S128x512 .bf16) (l : Fin 512) : aG B5 l = amax (fun i => B5 (ix2 i l)) := by
  unfold aG
  rw [vx2, show (ValueIdx.u0 : Fin 1) = 0 from rfl, pay35_at, pay34_at]
  refine congrArg amax (funext fun i => ?_)
  exact wbk_at B5 l i

theorem pay14_at (a : Vec Ideal S16x512 .f32) (r : EReal) (g : Fin 16) (l : Fin 512) : k0_pay14 a r (ix3 0 g l) = scaleOf (a (ix2 g l)) r := by
  unfold k0_pay14 scaleOf
  pointwise

/-- The column of the weights a lane of a block holds. -/
theorem col_at (c : Dev nD) (g : Fin 16) (n : Fin 5632) :
    (fun i => wB m c (pt (n.val / 512) g) (ix2 i ⟨n.val % 512, Nat.mod_lt _ (by decide)⟩)) = colR (m ((c : Thread nD τ).loc main_arg1)) g n := by
  funext i
  have hn := n.isLt
  have hg := g.isLt
  have hp : (pt (n.val / 512) g).val = 16 * (n.val / 512) + g.val := by unfold pt; simp only []; omega
  unfold colR
  rw [wfR_ix]
  refine wB_at m c _ i _ ⟨g.val * 128 + i.val, by omega⟩ n ?_ ?_
  · rw [hp]; simp only []; omega
  · rw [hp]; simp only []; omega

theorem T12f_at (c : Dev nD) (g : Fin 16) (n : Fin 5632) :
    T12f m c (n.val / 512) (ix2 g ⟨n.val % 512, Nat.mod_lt _ (by decide)⟩) = amax (colR (m ((c : Thread nD τ).loc main_arg1)) g n) := by
  have h := (aG_at (wB m c (pt (n.val / 512) g)) ⟨n.val % 512, Nat.mod_lt _ (by decide)⟩).trans (congrArg amax (col_at m c g n))
  rw [← h]
  unfold T12f aGy
  simp only [ix2_0, ix2_1]

/-- The scales are the reference's. -/
theorem scaleR_eq (c : Dev nD) : scaleR m c = out2 (m ((c : Thread nD τ).loc main_arg1)) := by
  have key : ∀ (k : Fin 20) (g : Fin 16) (n : Fin 5632), scaleR m c (ix3 k g n) = out2 (m ((c : Thread nD τ).loc main_arg1)) (ix3 k g n) := by
    intro k g n
    refine Eq.trans (b := k0_pay14 (T12f m c (n.val / 512)) (Rv m c k) (ix3 0 g ⟨n.val % 512, Nat.mod_lt _ (by decide)⟩)) ?_ ?_
    · rw [← vx3]; rfl
    · rw [pay14_at, T12f_at, Rv_at, out2_ix]
  funext y
  have e : y = ix3 (n0 := 20) (n1 := 16) (n2 := 5632) (y 0) (y 1) (y 2) := by funext d; fin_cases d <;> rfl
  rw [e]
  exact key _ _ _

end Cert.KernelIdeal.Gen
-- ==== Proof.PI.Quant.lean ====
/- The quantised weights and the packing rows of the kernel, at an index. -/
module

public import proofs.«01_k».proof.Proof.PI.Scale
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL.Sem
open Cert.ReferenceIdeal.Value (ratio amax scaleOf clipOf colR wfR_ix out0 out1 out2 out0_ix out1_ix out2_ix qR errR gramR xfR qR_ix errR_ix gramR_ix xfR_ix)

variable (m : (ℓ : Loc nD τ sig) → Buf (Elt Ideal) ℓ)

theorem qV_at (wf : Vec Ideal S128x256 .f32) (a : FVec Ideal S1x256 .f32) (r : EReal) (i : Fin 128) (l : Fin 256) :
    k0_pay42 a r wf (ix2 i l) = clipOf (wf (ix2 i l)) (scaleOf (a (ix2 0 l)) r) := by
  unfold k0_pay42 k0_pay41 clipOf scaleOf
  pointwise
  rw [max_comm, min_comm]

theorem pay43_at (wf : Vec Ideal S128x256 .f32) (a : FVec Ideal S1x256 .f32) (r : EReal) (i : Fin 128) (l : Fin 256) :
    k0_pay43 a r wf (ix2 i l) = Ideal.liftRound Ideal.roundHalfEven (Ideal.div (wf (ix2 i l)) (scaleOf (a (ix2 0 l)) r)) := by
  unfold k0_pay43 scaleOf
  pointwise

theorem pay48_at (q : FVec Ideal S128x256 .bf16) (M : Vec Ideal S1x1x160x256 .bf16) (i : Fin 160) (l : Fin 256) :
    k0_pay48 q M (ix2 i l) = ∑ j : Fin 256, M (ix4 0 0 i j) * (if h : j.val < 128 then q (ix2 ⟨j.val, h⟩ l) else q (ix2 ⟨j.val - 128, by omega⟩ l)) := by
  unfold k0_pay48
  pointwise

theorem pay33_at (w : Vec Ideal S128x256 .bf16) (i : Fin 128) (l : Fin 256) : k0_pay33 w (ix2 i l) = w (ix2 i l) := by
  unfold k0_pay33 k0_pay32
  pointwise

theorem pay23_at (P : Vec Ideal S32x256 .bf16) (a : Fin 32) (b : Fin 256) : k0_pay23 P (ix4 0 0 a b) = P (ix2 a b) := by
  unfold k0_pay23
  pointwise

theorem T9_lo (c : Dev nD) (g : Fin 16) (k : Fin 20) (a : Fin 32) (b : Fin 256) : mR (T9f m c) g k (ix4 0 0 ⟨128 + a.val, by omega⟩ b) = Pv m c (ix2 a b) := by
  unfold mR T9f G9 tabV
  simp only [ix4_2, ix4_3, ValueIdx.ix4]
  rw [dif_neg (by simp)]
  refine Eq.trans (congrArg (k0_pay23 (Pv m c)) (?_ : _ = ix4 0 0 a b)) (pay23_at _ _ _)
  funext d
  fin_cases d
  · rfl
  · rfl
  · apply Fin.ext
    show 128 + a.val - 128 = a.val
    omega
  · rfl

end Cert.KernelIdeal.Gen
-- ==== Proof.PI.Lit.lean ====
/- The packing table's bits. -/
module

public import proofs.«01_k».proof.KernelIdeal
public import Idealize.ShloMosaic.Lib.Pointwise

@[expose] public section

set_option maxRecDepth 16384
set_option maxHeartbeats 4000000

noncomputable section

namespace Cert.KernelIdeal.Gen

open Cert.KernelIdeal Idealize.ShloMosaic

/-- Word row m packs codes 8 m .. 8 m + 3 with weights 1, 16, 256, 4096 in its first half and 8 m + 4 .. 8 m + 7 in its second. -/
theorem lit_eq : ∀ (a : Fin 32) (b : Fin 256), lit0 (S32x256.rowMajor (ix2 a b)) = if a.val < 16 then (if b.val / 8 = a.val ∧ b.val % 8 < 4 then (0x3F80 + BitVec.ofNat 16 (512 * (b.val % 4)) : BitVec 16) else 0) else (if b.val / 8 = a.val - 16 ∧ 4 ≤ b.val % 8 then (0x3F80 + BitVec.ofNat 16 (512 * (b.val % 4)) : BitVec 16) else 0) := by decide +kernel

end Cert.KernelIdeal.Gen
-- ==== Proof.PI.Codes.lean ====
/- The kernel's packed codes are the reference's. -/
module

public import proofs.«01_k».proof.Proof.PI.Quant
public import proofs.«01_k».proof.Proof.PI.Lit
public import Idealize.ShloMosaic.Lib.Pointwise
public import Idealize.ShloMosaic.Lib.BitcastFour

@[expose] public section

set_option maxRecDepth 16384
set_option maxHeartbeats 4000000

noncomputable section

namespace Cert.KernelIdeal.Gen

open Idealize.ShloMosaic Idealize.ShloMosaic.TcCoe Idealize.ShloMosaic.Tactic
open Idealize.SL.Sem
open Cert.ReferenceIdeal.Value (ratio amax scaleOf clipOf colR wfR_ix out0 out1 out2 out0_ix out1_ix out2_ix qR errR gramR xfR qR_ix errR_ix gramR_ix xfR_ix)

variable (m : (ℓ : Loc nD τ sig) → Buf (Elt Ideal) ℓ)

theorem k_seven : Ideal.ofBits FTy.f32 0x40E00000#32 = (((7 : ℤ) : ℝ) : EReal) := by
  simp [Ideal.ofBits, Ideal.ieee, -EReal.coe_mul]; norm_num
theorem k_mseven : Ideal.ofBits FTy.f32 0xC0E00000#32 = (((-7 : ℤ) : ℝ) : EReal) := by
  simp [Ideal.ofBits, Ideal.ieee, -EReal.coe_mul, -EReal.coe_neg]; norm_num
theorem k_bias : Ideal.ofBits FTy.f32 0x4B008888#32 = (((8423560 : ℤ) : ℝ) : EReal) := by
  simp [Ideal.ofBits, Ideal.ieee, -EReal.coe_mul]
theorem k_w0 : Ideal.ofBits FTy.bf16 0x3F80#16 = (((1 : ℤ) : ℝ) : EReal) := by
  simp [Ideal.ofBits, Ideal.ieee, -EReal.coe_mul]; norm_num
theorem k_w1 : Ideal.ofBits FTy.bf16 0x4180#16 = (((16 : ℤ) : ℝ) : EReal) := by
  simp [Ideal.ofBits, Ideal.ieee, -EReal.coe_mul]; norm_num
theorem k_w2 : Ideal.ofBits FTy.bf16 0x4380#16 = (((256 : ℤ) : ℝ) : EReal) := by
  simp [Ideal.ofBits, Ideal.ieee, -EReal.coe_mul]; norm_num
theorem k_w3 : Ideal.ofBits FTy.bf16 0x4580#16 = (((4096 : ℤ) : ℝ) : EReal) := by
  simp [Ideal.ofBits, Ideal.ieee, -EReal.coe_mul]; norm_num
theorem k_wt (d : Fin 4) : Ideal.ofBits FTy.bf16 (0x3F80 + BitVec.ofNat 16 (512 * d.val) : BitVec 16) = (((16 ^ d.val : ℤ) : ℝ) : EReal) := by
  fin_cases d
  · exact k_w0
  · exact k_w1
  · exact k_w2
  · exact k_w3
theorem k_bzero : Ideal.ofBits FTy.bf16 (0 : BitVec 16) = (((0 : ℤ) : ℝ) : EReal) := by
  simp [Ideal.ofBits, Ideal.ieee, -EReal.coe_mul]

/-- A clipped quotient is an integer of magnitude at most 7, whatever was divided. -/
theorem clip_int (v s : EReal) : ∃ z : ℤ, -7 ≤ z ∧ z ≤ 7 ∧ clipOf v s = (((z : ℤ) : ℝ) : EReal) := by
  unfold clipOf
  rw [k_seven, k_mseven]
  generalize Ideal.div v s = e
  induction e with
  | bot => exact ⟨-7, by norm_num, by norm_num, by rw [show Ideal.liftRound Ideal.roundHalfEven (⊥ : EReal) = ⊥ from rfl, max_eq_left bot_le, min_eq_right (EReal.coe_le_coe_iff.mpr (by norm_num))]⟩
  | top => exact ⟨7, by norm_num, by norm_num, by rw [show Ideal.liftRound Ideal.roundHalfEven (⊤ : EReal) = ⊤ from rfl, max_eq_right le_top, min_eq_left le_top]⟩
  | coe r =>
    refine ⟨min 7 (max (-7) (Ideal.roundHalfEven r)), by omega, by omega, ?_⟩
    rw [show Ideal.liftRound Ideal.roundHalfEven (r : EReal) = ((Ideal.roundHalfEven r : ℝ) : EReal) from rfl]
    rw [Int.cast_min, Int.cast_max, EReal.coe_strictMono.monotone.map_min, EReal.coe_strictMono.monotone.map_max]

theorem fptosi_int (z : ℤ) (h : -2147483648 ≤ z) (h' : z ≤ 2147483647) : Ideal.fptosi 32 (((z : ℤ) : ℝ) : EReal) = BitVec.ofInt 32 z := by
  unfold Ideal.fptosi
  congr 1
  show max _ (min _ (if (0 : ℝ) ≤ (z : ℝ) then ⌊(z : ℝ)⌋ else ⌈(z : ℝ)⌉)) = z
  rw [Int.floor_intCast, Int.ceil_intCast, ite_self]
  norm_num
  omega

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The packing table at an entry, as a number. -/
theorem lit_val (a : Fin 32) (b : Fin 256) : Ideal.ofBits FTy.bf16 (lit0 (S32x256.rowMajor (ix2 a b))) = (((if b.val / 4 = 2 * (a.val % 16) + a.val / 16 then 16 ^ (b.val % 4) else 0 : ℤ) : ℝ) : EReal) := by
  have hk := k_wt ⟨b.val % 4, Nat.mod_lt _ (by decide)⟩
  simp only [] at hk
  have ha := a.isLt
  have hb := b.isLt
  rw [lit_eq]
  by_cases h16 : a.val < 16
  · rw [if_pos h16]
    by_cases h : b.val / 8 = a.val ∧ b.val % 8 < 4
    · rw [if_pos h, if_pos (by omega)]; exact hk
    · rw [if_neg h, if_neg (by omega)]; exact k_bzero
  · rw [if_neg h16]
    by_cases h : b.val / 8 = a.val - 16 ∧ 4 ≤ b.val % 8
    · rw [if_pos h, if_pos (by omega)]; exact hk
    · rw [if_neg h, if_neg (by omega)]; exact k_bzero

theorem isum (t : Fin 64) (z : Fin 256 → ℤ) : ∑ j : Fin 256, (if j.val / 4 = t.val then (16 : ℤ) ^ (j.val % 4) else 0) * z j
    = z ⟨4 * t.val, by omega⟩ + 16 * z ⟨4 * t.val + 1, by omega⟩ + 256 * z ⟨4 * t.val + 2, by omega⟩ + 4096 * z ⟨4 * t.val + 3, by omega⟩ := by
  have e : ∀ (p : Fin 64) (q : Fin 4), (finProdFinEquiv (m := 64) (n := 4) (p, q)).val = q.val + 4 * p.val := fun p q => rfl
  rw [← (finProdFinEquiv (m := 64) (n := 4)).sum_comp, Fintype.sum_prod_type, Finset.sum_eq_single t]
  · rw [Fin.sum_univ_four]
    have d : ∀ q : Fin 4, (q.val + 4 * t.val) / 4 = t.val := fun q => by omega
    have d' : ∀ q : Fin 4, (q.val + 4 * t.val) % 4 = q.val := fun q => by omega
    simp only [e, d, d', if_true]
    have f : ∀ q : Fin 4, finProdFinEquiv (m := 64) (n := 4) (t, q) = ⟨4 * t.val + q.val, by omega⟩ := fun q => Fin.ext ((e t q).trans (Nat.add_comm _ _))
    rw [f 0, f 1, f 2, f 3]
    simp
  · intro p _ hp
    apply Finset.sum_eq_zero
    intro q _
    have hpt : p.val ≠ t.val := fun h => hp (Fin.ext h)
    rw [e, if_neg (by omega), zero_mul]
  · intro h; exact absurd (Finset.mem_univ _) h

theorem packsum (a : Fin 32) (z : Fin 256 → ℤ) (t : Fin 64) (ht : t.val = 2 * (a.val % 16) + a.val / 16) :
    ∑ j : Fin 256, Ideal.ofBits FTy.bf16 (lit0 (S32x256.rowMajor (ix2 a j))) * (((z j : ℤ) : ℝ) : EReal)
    = (((z ⟨4 * t.val, by omega⟩ + 16 * z ⟨4 * t.val + 1, by omega⟩ + 256 * z ⟨4 * t.val + 2, by omega⟩ + 4096 * z ⟨4 * t.val + 3, by omega⟩ : ℤ) : ℝ) : EReal) := by
  rw [← isum t z]
  rw [Int.cast_sum, ← coe_sum]
  refine Finset.sum_congr rfl fun j _ => ?_
  rw [lit_val, ← ht, Int.cast_mul, EReal.coe_mul]

/-- A byte of a word, its codes read off the biased sum. -/
theorem byte_lo (u0 u1 u2 u3 : ℕ) (h0 : u0 < 16) (h1 : u1 < 16) (h2 : u2 < 16) (h3 : u3 < 16) :
    (BitVec.ofNat 32 (8388608 + u0 + 16 * u1 + 256 * u2 + 4096 * u3)).extractLsb' 0 8 = BitVec.ofNat 8 (u0 + 16 * u1) := by
  apply BitVec.eq_of_toNat_eq
  rw [BitVec.extractLsb'_toNat, BitVec.toNat_ofNat, BitVec.toNat_ofNat, Nat.shiftRight_zero]
  omega
theorem byte_hi (u0 u1 u2 u3 : ℕ) (h0 : u0 < 16) (h1 : u1 < 16) (h2 : u2 < 16) (h3 : u3 < 16) :
    (BitVec.ofNat 32 (8388608 + u0 + 16 * u1 + 256 * u2 + 4096 * u3)).extractLsb' 8 8 = BitVec.ofNat 8 (u2 + 16 * u3) := by
  apply BitVec.eq_of_toNat_eq
  rw [BitVec.extractLsb'_toNat, BitVec.toNat_ofNat, BitVec.toNat_ofNat, Nat.shiftRight_eq_div_pow]
  omega

theorem nib : ∀ a b : Fin 15, BitVec.ofNat 8 (a.val + 1 + 16 * (b.val + 1)) ^^^ 0x88#8
    = BitVec.setWidth 8 ((BitVec.ofInt 32 ((a.val : ℤ) - 7) &&& 15#32) ||| ((BitVec.ofInt 32 ((b.val : ℤ) - 7) &&& 15#32) <<< 4)) := by decide +kernel

theorem app_lo (A B : BitVec 16) (i : ℕ) (h : i < 16) : (A ++ B : BitVec 32).getLsbD i = B.getLsbD i :=
  (BitVec.getLsbD_append (x := A) (y := B) (i := i)).trans (by simp [h])
theorem app_hi (A B : BitVec 16) (i : ℕ) (h : 16 ≤ i) : (A ++ B : BitVec 32).getLsbD i = A.getLsbD (i - 16) :=
  (BitVec.getLsbD_append (x := A) (y := B) (i := i)).trans (by simp [Nat.not_lt.mpr h])

theorem word0 (lo hi : BitVec 32) : (((hi.setWidth 16 ++ lo.setWidth 16 : BitVec 32)) ^^^ 2290649224#32).extractLsb' 0 8 = lo.extractLsb' 0 8 ^^^ 0x88#8 := by
  apply BitVec.eq_of_getLsbD_eq
  intro i hi'
  rw [BitVec.getLsbD_extractLsb', BitVec.getLsbD_xor, BitVec.getLsbD_xor, BitVec.getLsbD_extractLsb']
  interval_cases i <;> rw [app_lo _ _ _ (by decide)] <;> simp
theorem word1 (lo hi : BitVec 32) : (((hi.setWidth 16 ++ lo.setWidth 16 : BitVec 32)) ^^^ 2290649224#32).extractLsb' 8 8 = lo.extractLsb' 8 8 ^^^ 0x88#8 := by
  apply BitVec.eq_of_getLsbD_eq
  intro i hi'
  rw [BitVec.getLsbD_extractLsb', BitVec.getLsbD_xor, BitVec.getLsbD_xor, BitVec.getLsbD_extractLsb']
  interval_cases i <;> rw [app_lo _ _ _ (by decide)] <;> simp
theorem word2 (lo hi : BitVec 32) : (((hi.setWidth 16 ++ lo.setWidth 16 : BitVec 32)) ^^^ 2290649224#32).extractLsb' 16 8 = hi.extractLsb' 0 8 ^^^ 0x88#8 := by
  apply BitVec.eq_of_getLsbD_eq
  intro i hi'
  rw [BitVec.getLsbD_extractLsb', BitVec.getLsbD_xor, BitVec.getLsbD_xor, BitVec.getLsbD_extractLsb']
  interval_cases i <;> rw [app_hi _ _ _ (by decide)] <;> simp
theorem word3 (lo hi : BitVec 32) : (((hi.setWidth 16 ++ lo.setWidth 16 : BitVec 32)) ^^^ 2290649224#32).extractLsb' 24 8 = hi.extractLsb' 8 8 ^^^ 0x88#8 := by
  apply BitVec.eq_of_getLsbD_eq
  intro i hi'
  rw [BitVec.getLsbD_extractLsb', BitVec.getLsbD_xor, BitVec.getLsbD_xor, BitVec.getLsbD_extractLsb']
  interval_cases i <;> rw [app_hi _ _ _ (by decide)] <;> simp

/-- Thirty-two bits read as bytes: row R of the bytes is byte R % 4 of word row R / 4. -/
theorem bc_at (x : IVec S16x256 32) (R : Fin 64) (l : Fin 256) :
    bitcast S64x256 8 x bitcasts_S16x256_w32_S64x256_w8 (ix2 R l) = (x (ix2 ⟨R.val / 4, by omega⟩ l)).extractLsb' (8 * (R.val % 4)) 8 := by
  apply BitVec.eq_of_getLsbD_eq
  intro q hq
  have hR := R.isLt
  have hrow : (S64x256).row (ix2 R l) = R.val := rfl
  rw [bitcast_getLsbD x bitcasts_S16x256_w32_S64x256_w8 (ix2 R l) q hq (by decide), BitVec.getLsbD_extractLsb']
  have e2 : ((S64x256).row (ix2 R l) * 8 + q) % 32 = 8 * (R.val % 4) + q := by rw [hrow]; omega
  rw [e2]
  simp only [hq, decide_true, Bool.true_and]
  congr 2
  funext d
  match d with
  | ⟨0, _⟩ => exact Fin.ext ((Shape.Bitcasts.srcIdx_row _ _ _ _ ⟨0, Nat.zero_lt_two⟩ rfl).trans (by show ((S64x256).row (ix2 R l) * 8 + q) / 32 = R.val / 4; rw [hrow]; omega))
  | ⟨1, _⟩ => exact Fin.ext (Shape.Bitcasts.srcIdx_other _ _ _ _ ⟨1, Nat.one_lt_two⟩ (by show ¬ 1 + 2 = 2; omega))

/-- The biased sum of four codes as a word. -/
theorem word_row (q : FVec Ideal S128x256 .bf16) (M : Vec Ideal S1x1x160x256 .bf16) (z : Fin 128 → ℤ) (l : Fin 256)
    (hz : ∀ i, -7 ≤ z i ∧ z i ≤ 7) (hq : ∀ i, q (ix2 i l) = (((z i : ℤ) : ℝ) : EReal))
    (hM : ∀ (a : Fin 32) (b : Fin 256), M (ix4 0 0 ⟨128 + a.val, by omega⟩ b) = Ideal.ofBits .bf16 (lit0 (S32x256.rowMajor (ix2 a b))))
    (a : Fin 32) (t : ℕ) (ht : t = 2 * (a.val % 16) + a.val / 16) (ht' : 4 * t + 3 < 128) :
    Ideal.fptosi 32 (k0_pay48 q M (ix2 ⟨128 + a.val, by omega⟩ l) + Ideal.ofBits .f32 0x4B008888#32)
    = BitVec.ofNat 32 (8388608 + (z ⟨4 * t, by omega⟩ + 8).toNat + 16 * (z ⟨4 * t + 1, by omega⟩ + 8).toNat + 256 * (z ⟨4 * t + 2, by omega⟩ + 8).toNat + 4096 * (z ⟨4 * t + 3, by omega⟩ + 8).toNat) := by
  have e : k0_pay48 q M (ix2 ⟨128 + a.val, by omega⟩ l)
      = ∑ j : Fin 256, Ideal.ofBits FTy.bf16 (lit0 (S32x256.rowMajor (ix2 a j))) * ((((if h : j.val < 128 then z ⟨j.val, h⟩ else z ⟨j.val - 128, by omega⟩) : ℤ) : ℝ) : EReal) := by
    rw [pay48_at]
    refine Finset.sum_congr rfl fun j _ => ?_
    rw [hM]
    congr 1
    split
    · exact hq _
    · exact hq _
  rw [e, packsum a _ ⟨t, by omega⟩ ht, k_bias, ← EReal.coe_add, ← Int.cast_add]
  simp only []
  rw [dif_pos (by omega), dif_pos (by omega), dif_pos (by omega), dif_pos (by omega)]
  have h0 := hz ⟨4 * t, by omega⟩
  have h1 := hz ⟨4 * t + 1, by omega⟩
  have h2 := hz ⟨4 * t + 2, by omega⟩
  have h3 := hz ⟨4 * t + 3, by omega⟩
  rw [fptosi_int _ (by omega) (by omega)]
  rw [← BitVec.ofInt_natCast]
  congr 1
  omega

theorem nib_int (x y : ℤ) (hx : -7 ≤ x ∧ x ≤ 7) (hy : -7 ≤ y ∧ y ≤ 7) : BitVec.ofNat 8 ((x + 8).toNat + 16 * (y + 8).toNat) ^^^ 0x88#8
    = BitVec.setWidth 8 ((BitVec.ofInt 32 x &&& 15#32) ||| ((BitVec.ofInt 32 y &&& 15#32) <<< 4)) := by
  have h := nib ⟨(x + 7).toNat, by omega⟩ ⟨(y + 7).toNat, by omega⟩
  simp only [] at h
  rw [show ((x + 7).toNat : ℤ) - 7 = x by omega, show ((y + 7).toNat : ℤ) - 7 = y by omega, show (x + 7).toNat + 1 = (x + 8).toNat by omega, show (y + 7).toNat + 1 = (y + 8).toNat by omega] at h
  exact h

/-- The stored word before its byte view. -/
theorem pay49_at (q : FVec Ideal S128x256 .bf16) (M : Vec Ideal S1x1x160x256 .bf16) (R : Fin 64) (l : Fin 256) :
    k0_pay49 q M (ix4 0 0 R l) =
    (((Ideal.fptosi 32 (k0_pay48 q M (ix2 ⟨128 + (16 + R.val / 4), by omega⟩ l) + Ideal.ofBits .f32 0x4B008888#32)).setWidth 16 ++ (Ideal.fptosi 32 (k0_pay48 q M (ix2 ⟨128 + R.val / 4, by omega⟩ l) + Ideal.ofBits .f32 0x4B008888#32)).setWidth 16 : BitVec 32) ^^^ 2290649224#32).extractLsb' (8 * (R.val % 4)) 8 := by
  unfold k0_pay49
  refine (shapeCast_apply _ _ (ix4 0 0 R l) (ix2 R l) ?_).trans ((bc_at _ R l).trans ?_)
  · simp [Shape.rowMajor_val_two, Shape.rowMajor_val_four]
  · refine congrArg (fun w : BitVec 32 => w.extractLsb' (8 * (R.val % 4)) 8) ?_
    pointwise
    rfl

/-- A byte of codes. -/
theorem codes_byte (q : FVec Ideal S128x256 .bf16) (M : Vec Ideal S1x1x160x256 .bf16) (z : Fin 128 → ℤ) (l : Fin 256)
    (hz : ∀ i, -7 ≤ z i ∧ z i ≤ 7) (hq : ∀ i, q (ix2 i l) = (((z i : ℤ) : ℝ) : EReal))
    (hM : ∀ (a : Fin 32) (b : Fin 256), M (ix4 0 0 ⟨128 + a.val, by omega⟩ b) = Ideal.ofBits .bf16 (lit0 (S32x256.rowMajor (ix2 a b)))) (R : Fin 64) :
    k0_pay49 q M (ix4 0 0 R l) = BitVec.setWidth 8 ((BitVec.ofInt 32 (z ⟨R.val * 2, by omega⟩) &&& 15#32) ||| ((BitVec.ofInt 32 (z ⟨R.val * 2 + 1, by omega⟩) &&& 15#32) <<< 4)) := by
  have hR := R.isLt
  rw [← nib_int _ _ (hz _) (hz _), pay49_at]
  have w0 := word_row q M z l hz hq hM ⟨R.val / 4, by omega⟩ (2 * (R.val / 4)) (by simp only []; omega) (by omega)
  have w1 := word_row q M z l hz hq hM ⟨16 + R.val / 4, by omega⟩ (2 * (R.val / 4) + 1) (by simp only []; omega) (by omega)
  have zc : ∀ i j : Fin 128, i.val = j.val → z i = z j := fun i j h => congrArg z (Fin.ext h)
  simp only [] at w0 w1
  rw [w0, w1]
  have b : ∀ i, (z i + 8).toNat < 16 := fun i => by have := hz i; omega
  have hr : R.val % 4 = 0 ∨ R.val % 4 = 1 ∨ R.val % 4 = 2 ∨ R.val % 4 = 3 := by omega
  rcases hr with h | h | h | h <;> rw [h]
  · rw [word0, byte_lo _ _ _ _ (b _) (b _) (b _) (b _)]
    refine congrArg₂ (fun x y : ℤ => BitVec.ofNat 8 ((x + 8).toNat + 16 * (y + 8).toNat) ^^^ 0x88#8) (zc _ _ ?_) (zc _ _ ?_) <;> (dsimp only; omega)
  · rw [word1, byte_hi _ _ _ _ (b _) (b _) (b _) (b _)]
    refine congrArg₂ (fun x y : ℤ => BitVec.ofNat 8 ((x + 8).toNat + 16 * (y + 8).toNat) ^^^ 0x88#8) (zc _ _ ?_) (zc _ _ ?_) <;> (dsimp only; omega)
  · rw [word2, byte_lo _ _ _ _ (b _) (b _) (b _) (b _)]
    refine congrArg₂ (fun x y : ℤ => BitVec.ofNat 8 ((x + 8).toNat + 16 * (y + 8).toNat) ^^^ 0x88#8) (zc _ _ ?_) (zc _ _ ?_) <;> (dsimp only; omega)
  · rw [word3, byte_hi _ _ _ _ (b _) (b _) (b _) (b _)]
    refine congrArg₂ (fun x y : ℤ => BitVec.ofNat 8 ((x + 8).toNat + 16 * (y + 8).toNat) ^^^ 0x88#8) (zc _ _ ?_) (zc _ _ ?_) <;> (dsimp only; omega)

/-- The codes are the reference's. -/
theorem codesR_eq (c : Dev nD) : codesR m c = out1 (m ((c : Thread nD τ).loc main_arg1)) := by
  have key : ∀ (g : Fin 16) (k : Fin 20) (R : Fin 64) (n : Fin 5632), codesR m c (ix4 g k R n) = out1 (m ((c : Thread nD τ).loc main_arg1)) (ix4 g k R n) := by
    intro g k R n
    let l : Fin 512 := ⟨n.val % 512, Nat.mod_lt _ (by decide)⟩
    let W := wbk (wB m c (pt (n.val / 512) g)) (lb l)
    refine Eq.trans (b := k0_pay49 (k0_pay42 (k0_pay34 W) (Rv m c k) (k0_pay33 W)) (mR (T9f m c) g k) (ix4 0 0 R (ll l))) ?_ ?_
    · rw [← vx4]; rfl
    · have hW : (fun i => W (ix2 i (ll l))) = colR (m ((c : Thread nD τ).loc main_arg1)) g n :=
        (funext fun i => wbk_at _ l i).trans (col_at m c g n)
      have hq : ∀ i, k0_pay42 (k0_pay34 W) (Rv m c k) (k0_pay33 W) (ix2 i (ll l)) = clipOf (colR (m ((c : Thread nD τ).loc main_arg1)) g n i) (scaleOf (amax (colR (m ((c : Thread nD τ).loc main_arg1)) g n)) (ratio k)) := by
        intro i
        rw [qV_at, pay33_at, pay34_at, Rv_at, hW, ← hW]
      choose z z1 z2 z3 using fun i => clip_int (colR (m ((c : Thread nD τ).loc main_arg1)) g n i) (scaleOf (amax (colR (m ((c : Thread nD τ).loc main_arg1)) g n)) (ratio k))
      rw [codes_byte _ _ z (ll l) (fun i => ⟨z1 i, z2 i⟩) (fun i => (hq i).trans (z3 i)) (fun a b => (T9_lo m c g k a b).trans (Pv_at m c a b)), out1_ix]
      have hf : ∀ i, Cert.ReferenceIdeal.Value.qR (m ((c : Thread nD τ).loc main_arg1)) (ix4 g n k i) = BitVec.ofInt 32 (z i) := fun i => by
        rw [Cert.ReferenceIdeal.Value.qR_ix, z3, fptosi_int _ (by have := z1 i; omega) (by have := z2 i; omega)]
      rw [hf, hf]
  funext y
  have e : y = ix4 (n0 := 16) (n1 := 20) (n2 := 64) (n3 := 5632) (y 0) (y 1) (y 2) (y 3) := by funext d; fin_cases d <;> rfl
  rw [e]
  exact key _ _ _ _

end Cert.KernelIdeal.Gen
-- ==== Proof.PI.Pays.lean ====
/- The kernel's loss terms at an index. -/
module

public import proofs.«01_k».proof.Proof.PI.Codes
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL.Sem
open Cert.ReferenceIdeal.Value (ratio amax scaleOf clipOf colR wfR_ix out0 out1 out2 out0_ix out1_ix out2_ix qR errR gramR xfR qR_ix errR_ix gramR_ix xfR_ix)

variable (m : (ℓ : Loc nD τ sig) → Buf (Elt Ideal) ℓ)

theorem sel0 (c : BitVec 1) : Scalar.select c (0 : EReal) 0 = 0 := by
  unfold Scalar.select
  split <;> rfl
theorem v10_at (i j : Fin 128) : bodyRunTT.sl.v10 (ix2 i j) = BitVec.ofNat 32 i.val := by
  unfold bodyRunTT.sl.v10
  pointwise
theorem v11_at (i j : Fin 128) : bodyRunTT.sl.v11 (ix2 i j) = BitVec.ofNat 32 j.val := by
  unfold bodyRunTT.sl.v11
  pointwise
theorem pay1_at (v : Vec Ideal S256x128 .bf16) (i j : Fin 128) : k0_pay1 v (ix2 i j) = ∑ r : Fin 256, v (ix2 r i) * v (ix2 r j) := by
  unfold k0_pay1
  pointwise
theorem pay6_at (v : Vec Ideal S256x128 .bf16) (i j : Fin 128) : k0_pay6 v (ix3 0 i j) = Ideal.ofBits .f32 0x40000000#32 * k0_pay1 v (ix2 i j) := by
  unfold k0_pay6 k0_pay3 k0_pay2
  pointwise
theorem pay7_at (v : Vec Ideal S256x128 .bf16) (i j : Fin 128) : k0_pay7 v (ix3 0 i j) = Ideal.ofBits .f32 0x40000000#32 * k0_pay1 v (ix2 i j) - Ideal.ofBits .f32 0x40000000#32 * k0_pay1 v (ix2 i j) := by
  unfold k0_pay7 k0_pay5 k0_pay4 k0_pay3 k0_pay2
  pointwise
theorem pay8_at (v : Vec Ideal S256x128 .bf16) (i j : Fin 128) : k0_pay8 v (ix3 0 i j) = (Ideal.ofBits .f32 0x40000000#32 * k0_pay1 v (ix2 i j) - Ideal.ofBits .f32 0x40000000#32 * k0_pay1 v (ix2 i j)) - (Ideal.ofBits .f32 0x40000000#32 * k0_pay1 v (ix2 i j) - Ideal.ofBits .f32 0x40000000#32 * k0_pay1 v (ix2 i j)) := by
  unfold k0_pay8 k0_pay5 k0_pay4 k0_pay3 k0_pay2
  pointwise
theorem pay17_at (G : FVec Ideal S128x128 .f32) (r : EReal) (i j : Fin 128) : k0_pay17 G r (ix2 i j) = r * G (ix2 i j) := by
  unfold k0_pay17 k0_pay16
  pointwise
theorem pay19_at (G : FVec Ideal S128x128 .f32) (r : EReal) (i j : Fin 128) : k0_pay19 G r (ix2 i j) = r * G (ix2 i j) - r * G (ix2 i j) := by
  unfold k0_pay19 k0_pay18 k0_pay17 k0_pay16
  pointwise
theorem pay20_at (G : FVec Ideal S128x128 .f32) (r : EReal) (i j : Fin 128) : k0_pay20 G r (ix2 i j) = (r * G (ix2 i j) - r * G (ix2 i j)) - (r * G (ix2 i j) - r * G (ix2 i j)) := by
  unfold k0_pay20 k0_pay19 k0_pay18 k0_pay17 k0_pay16
  pointwise
theorem pay29_at (G : FVec Ideal S128x128 .f32) (r : EReal) (i j : Fin 128) : k0_pay29 G r (ix2 i j) = (r * G (ix2 i j) - r * G (ix2 i j)) - (r * G (ix2 i j) - r * G (ix2 i j)) := by
  unfold k0_pay29 k0_pay28 k0_pay27 k0_pay26 k0_pay25
  pointwise
theorem pay21_at (G : FVec Ideal S128x128 .f32) (r : EReal) (i j : Fin 128) : k0_pay21 G bodyRunTT.sl.v10 bodyRunTT.sl.v11 r (ix4 0 0 i j)
   = Scalar.select (IntOp.cmpi .slt (BitVec.ofNat 32 i.val) (BitVec.ofNat 32 j.val)) (Ideal.ofBits .f32 0x40000000#32 * k0_pay17 G r (ix2 i j)) (Scalar.select (IntOp.cmpi .eq (BitVec.ofNat 32 i.val) (BitVec.ofNat 32 j.val)) (k0_pay17 G r (ix2 i j)) (Ideal.ofBits .f32 0x40000000#32 * k0_pay20 G r (ix2 i j))) := by
  unfold k0_pay21
  rw [← v10_at i j, ← v11_at i j]
  pointwise
theorem pay22_at (G : FVec Ideal S128x128 .f32) (r : EReal) (i j : Fin 128) : k0_pay22 G bodyRunTT.sl.v10 bodyRunTT.sl.v11 r (ix4 0 0 i j)
   = Scalar.select (IntOp.cmpi .slt (BitVec.ofNat 32 i.val) (BitVec.ofNat 32 j.val)) (Ideal.ofBits .f32 0x40000000#32 * k0_pay19 G r (ix2 i j)) (Scalar.select (IntOp.cmpi .eq (BitVec.ofNat 32 i.val) (BitVec.ofNat 32 j.val)) (k0_pay19 G r (ix2 i j)) 0) := by
  unfold k0_pay22
  rw [← v10_at i j, ← v11_at i j]
  pointwise
theorem pay24_at (H : FVec Ideal S128x128 .f32) (s : Fin 8) (j : Fin 128) (h : ∀ i, H (ix2 i j) = 0) : k0_pay24 bodyRunTT.sl.v10 bodyRunTT.sl.v11 k0_pay9 H (ix2 s j) = 0 := by
  unfold k0_pay24
  pointwise
  simp [h, sel0]
theorem pay12_at (A : FVec Ideal S8x128 .f32) (H : FVec Ideal S128x128 .f32) (hA : ∀ s j, A (ix2 s j) = 0) (hH : ∀ i j, H (ix2 i j) = 0) (s : Fin 16) (j : Fin 256) : k0_pay12 A H (ix4 0 0 s j) = 0 := by
  unfold k0_pay12
  pointwise
  simp [hA, hH, sel0]
theorem pay36_at (w : Vec Ideal S128x256 .bf16) (l : Fin 256) : k0_pay36 w (ix2 0 l) = Ideal.div (Ideal.ofBits .f32 0x40E00000#32) (Scalar.select (FloatOps.cmpf (F := Ideal) (φ := .f32) .oeq (k0_pay34 w (ix2 0 l)) 0) 1 (k0_pay34 w (ix2 0 l))) := by
  unfold k0_pay36
  pointwise
theorem pay37_at (w : Vec Ideal S128x256 .bf16) (ha : Vec Ideal S1x128x256 .bf16) (hb : Vec Ideal S1x128x128 .bf16) (i : Fin 128) (l : Fin 256) : k0_pay37 w ha hb (ix2 i l)
   = (∑ j : Fin 256, ha (ix3 0 i j) * (if h : j.val < 128 then w (ix2 ⟨j.val, h⟩ l) else w (ix2 ⟨j.val - 128, by omega⟩ l)) + ∑ j : Fin 128, hb (ix3 0 i j) * w (ix2 j l)) * k0_pay36 w (ix2 0 l) := by
  unfold k0_pay37
  pointwise
theorem pay38_eq (w : Vec Ideal S128x256 .bf16) (ha : Vec Ideal S1x128x256 .bf16) (hb : Vec Ideal S1x128x128 .bf16) (i : Fin 128) (l : Fin 256) : k0_pay38 w ha hb (ix2 i l) = k0_pay37 w ha hb (ix2 i l) := by
  unfold k0_pay38
  exact shapeCast_apply _ _ _ _ rfl
theorem pay39_at (w : Vec Ideal S128x256 .bf16) (ha : Vec Ideal S1x128x256 .bf16) (hb : Vec Ideal S1x128x128 .bf16) (i : Fin 128) (l : Fin 256) : k0_pay39 w ha hb (ix2 i l) = (w (ix2 i l) * k0_pay36 w (ix2 0 l)) * k0_pay37 w ha hb (ix2 i l) := by
  unfold k0_pay39 k0_pay32
  pointwise
theorem pay40_at (v : FVec Ideal S128x256 .f32) (l : Fin 256) : k0_pay40 v (ix2 0 l) = Ideal.ofBits .f32 0x3F000000#32 * ∑ i : Fin 128, v (ix2 i l) := by
  unfold k0_pay40
  pointwise
theorem pay15_at (a : Vec Ideal S16x512 .f32) (T : Vec Ideal S1x128x512 .f32) (cc : Vec Ideal S16x512 .f32) (r : EReal) (g : Fin 16) (l : Fin 512) : k0_pay15 a T cc r (ix3 0 g l)
   = Ideal.div (a (ix2 g l)) (Ideal.ofBits .f32 0x40E00000#32) * (Ideal.div (a (ix2 g l)) (Ideal.ofBits .f32 0x40E00000#32) * (cc (ix2 g l) + r * ∑ s : Fin 8, T (ix3 0 ⟨g.val * 8 + s.val, by omega⟩ l))) := by
  unfold k0_pay15
  pointwise
theorem pay47_at (q : FVec Ideal S128x256 .bf16) (q' : FVec Ideal S128x256 .f32) (k : EReal) (v : FVec Ideal S128x256 .f32) (D : Vec Ideal S1x1x16x256 .bf16) (h : ∀ s j, D (ix4 0 0 s j) = 0) (s : Fin 16) (l : Fin 256) : k0_pay47 q q' k v D (ix2 s l) = 0 := by
  unfold k0_pay47
  pointwise
  simp [h]
theorem pay50_at (qf : FVec Ideal S128x256 .f32) (q : FVec Ideal S128x256 .bf16) (q' : FVec Ideal S128x256 .f32) (k : EReal) (v : FVec Ideal S128x256 .f32) (D : Vec Ideal S1x1x16x256 .bf16) (M : Vec Ideal S1x1x160x256 .bf16) (hw : Vec Ideal S128x256 .f32) (s : Fin 8) (l : Fin 256) :
   k0_pay51 (k0_pay50 qf q q' k v D M hw) (ix3 0 s l) = (∑ b : Fin 16, qf (ix2 ⟨b.val * 8 + s.val, by omega⟩ l) * (k0_pay48 q M (ix2 ⟨b.val * 8 + s.val, by omega⟩ l) - hw (ix2 ⟨b.val * 8 + s.val, by omega⟩ l))) + k0_pay47 q q' k v D (ix2 ⟨s.val, by omega⟩ l) := by
  unfold k0_pay51 k0_pay50
  pointwise
theorem pay54_at (qf : FVec Ideal S128x256 .f32) (q : FVec Ideal S128x256 .bf16) (co : FVec Ideal S16x256 .f32) (M : Vec Ideal S1x1x160x256 .bf16) (hw : Vec Ideal S128x256 .f32) (s : Fin 8) (l : Fin 256) :
   k0_pay54 qf q co M hw (ix3 0 s l) = (∑ b : Fin 16, qf (ix2 ⟨b.val * 8 + s.val, by omega⟩ l) * (k0_pay48 q M (ix2 ⟨b.val * 8 + s.val, by omega⟩ l) - hw (ix2 ⟨b.val * 8 + s.val, by omega⟩ l))) + co (ix2 ⟨8 + s.val, by omega⟩ l) := by
  unfold k0_pay54
  rw [show k0_pay52 q M = k0_pay48 q M from rfl]
  pointwise

end Cert.KernelIdeal.Gen
-- ==== Proof.PI.Real.lean ====
/- The real-number identities behind the loss. -/
module

public import proofs.«01_k».proof.Proof.PI.Pays
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL.Sem
open Cert.ReferenceIdeal.Value (ratio amax scaleOf clipOf colR wfR_ix out0 out1 out2 out0_ix out1_ix out2_ix qR errR gramR xfR qR_ix errR_ix gramR_ix xfR_ix)

variable (m : (ℓ : Loc nD τ sig) → Buf (Elt Ideal) ℓ)

theorem k_two : Ideal.ofBits FTy.f32 0x40000000#32 = ((2 : ℝ) : EReal) := by
  simp [Ideal.ofBits, Ideal.ieee, -EReal.coe_mul]; norm_num
theorem k_half : Ideal.ofBits FTy.f32 0x3F000000#32 = ((1 / 2 : ℝ) : EReal) := by
  simp [Ideal.ofBits, Ideal.ieee, -EReal.coe_mul]; norm_num
theorem k_forty : Ideal.ofBits FTy.f32 0x42200000#32 = ((40 : ℝ) : EReal) := by
  simp [Ideal.ofBits, Ideal.ieee, -EReal.coe_mul]; norm_num
theorem k_7 : Ideal.ofBits FTy.f32 0x40E00000#32 = ((7 : ℝ) : EReal) := by
  rw [k_seven]; norm_num
theorem k_ninf : Ideal.ofBits FTy.f32 0xFF800000#32 = ⊥ := by
  simp [Ideal.ofBits, Ideal.ieee, -EReal.coe_mul]

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem sel_zero (α : ℝ) (x y : EReal) : Scalar.select (FloatOps.cmpf (F := Ideal) (φ := .f32) .oeq (α : EReal) 0) x y = if α = 0 then x else y := by
  pointwise
  simp [EReal.coe_eq_zero]

/-- The largest magnitude of a column of reals is real, and zero only for the zero column. -/
theorem amax_real (W : Fin 128 → ℝ) : ∃ α : ℝ, amax (fun i => ((W i : ℝ) : EReal)) = (α : EReal) ∧ (α = 0 → ∀ i, W i = 0) := by
  have hle : ∀ i, max ((W i : ℝ) : EReal) (-((W i : ℝ) : EReal)) ≤ amax (fun i => ((W i : ℝ) : EReal)) := fun i => by
    unfold amax
    exact (Finset.le_fold_max _).mpr (Or.inr ⟨i, Finset.mem_univ i, le_refl _⟩)
  have hm : ∀ i, max ((W i : ℝ) : EReal) (-((W i : ℝ) : EReal)) = ((max (W i) (-(W i)) : ℝ) : EReal) := fun i => by
    rw [EReal.coe_strictMono.monotone.map_max, EReal.coe_neg]
  have htop : amax (fun i => ((W i : ℝ) : EReal)) < ⊤ := by
    unfold amax
    refine (Finset.fold_max_lt _).mpr ⟨by rw [k_ninf]; exact bot_lt_top, fun i _ => ?_⟩
    rw [hm]; exact EReal.coe_lt_top _
  have hbot : amax (fun i => ((W i : ℝ) : EReal)) ≠ ⊥ := by
    intro h
    have := hle 0
    rw [h, hm] at this
    exact absurd this (not_le.mpr (EReal.bot_lt_coe _))
  refine ⟨(amax (fun i => ((W i : ℝ) : EReal))).toReal, (EReal.coe_toReal htop.ne hbot).symm, fun h0 i => ?_⟩
  have h1 := hle i
  rw [← EReal.coe_toReal htop.ne hbot, h0, hm, EReal.coe_le_coe_iff] at h1
  have h2 := le_max_left (W i) (-(W i))
  have h3 := le_max_right (W i) (-(W i))
  linarith

theorem ratio_real (k : Fin 20) : ∃ ρ : ℝ, ratio k = (ρ : EReal) := by
  refine ⟨1 - ((BitVec.ofNat 32 k.val).toInt : ℝ) / 40, ?_⟩
  unfold ratio
  rw [k_forty, show (FloatOps.sitofp (F := Ideal) FTy.f32 (BitVec.ofNat 32 k.val) : EReal) = (((BitVec.ofNat 32 k.val).toInt : ℝ) : EReal) from rfl, div_coe _ _ (by norm_num), EReal.coe_sub]
  rfl

theorem scale_real (α ρ : ℝ) : scaleOf (α : EReal) (ρ : EReal) = ((if α = 0 then 1 else ρ * α / 7 : ℝ) : EReal) := by
  unfold scaleOf
  rw [sel_zero, k_7, ← EReal.coe_mul, div_coe _ _ (by norm_num)]
  split <;> simp

/-- The clipped quotient of zero by one. -/
theorem clip_zero : clipOf 0 1 = 0 := by
  unfold clipOf
  rw [k_seven, k_mseven, show (0 : EReal) = ((0 : ℝ) : EReal) from rfl, show (1 : EReal) = ((1 : ℝ) : EReal) from rfl, div_coe _ _ one_ne_zero]
  rw [show Ideal.liftRound Ideal.roundHalfEven (((0 / 1 : ℝ)) : EReal) = ((Ideal.roundHalfEven (0 / 1) : ℝ) : EReal) from rfl]
  have : Ideal.roundHalfEven (0 / 1) = 0 := by
    unfold Ideal.roundHalfEven
    norm_num
  rw [this]
  norm_num

theorem sum256 (f : Fin 256 → EReal) : ∑ j, f j = ∑ j : Fin 128, f ⟨j.val, by omega⟩ + ∑ j : Fin 128, f ⟨128 + j.val, by omega⟩ :=
  Fin.sum_univ_add (a := 128) (b := 128) f

/-- The rows of a group of eight by their group make up all rows. -/
theorem sum128 (f : Fin 128 → ℝ) : ∑ s : Fin 8, ∑ b : Fin 16, f ⟨b.val * 8 + s.val, by omega⟩ = ∑ i, f i := by
  rw [Finset.sum_comm, ← (finProdFinEquiv (m := 16) (n := 8)).sum_comp, Fintype.sum_prod_type]
  refine Finset.sum_congr rfl fun b _ => Finset.sum_congr rfl fun s _ => congrArg f (Fin.ext ?_)
  show b.val * 8 + s.val = s.val + 8 * b.val
  omega

/-- A symmetric form by its upper triangle. -/
theorem tri (G : Fin 128 → Fin 128 → ℝ) (hG : ∀ i j, G i j = G j i) (z : Fin 128 → ℝ) (ρ : ℝ) :
    ∑ i, z i * ∑ j, (if i < j then 2 * (ρ * G i j) else if i = j then ρ * G i j else 0) * z j = ρ * ∑ i, ∑ j, z i * G i j * z j := by
  let t : Fin 128 → Fin 128 → ℝ := fun i j => z i * ((if i < j then 2 * (ρ * G i j) else if i = j then ρ * G i j else 0) * z j)
  have e1 : ∑ i, z i * ∑ j, (if i < j then 2 * (ρ * G i j) else if i = j then ρ * G i j else 0) * z j = ∑ i, ∑ j, t i j :=
    Finset.sum_congr rfl fun i _ => Finset.mul_sum _ _ _
  have e2 : ∑ i, ∑ j, t i j = ∑ i, ∑ j, t j i := Finset.sum_comm
  have e3 : ∑ i, ∑ j, t i j + ∑ i, ∑ j, t j i = 2 * (ρ * ∑ i, ∑ j, z i * G i j * z j) := by
    simp only [Finset.mul_sum, ← Finset.sum_add_distrib]
    refine Finset.sum_congr rfl fun i _ => Finset.sum_congr rfl fun j _ => ?_
    simp only [t]
    rw [hG j i]
    rcases lt_trichotomy i j with h | h | h
    · rw [if_pos h, if_neg (not_lt.mpr h.le), if_neg h.ne']; ring
    · subst h; rw [if_neg (lt_irrefl _), if_pos rfl]; ring
    · rw [if_neg (not_lt.mpr h.le), if_neg h.ne', if_pos h]; ring
  rw [e1]
  linarith

/-- The kernel's expanded loss is the quadratic form of the error. -/
theorem real_loss (G : Fin 128 → Fin 128 → ℝ) (hG : ∀ i j, G i j = G j i) (w z : Fin 128 → ℝ) (α ρ : ℝ) (hα : α ≠ 0) :
    α / 7 * (α / 7 * (1 / 2 * ∑ i, (w i * (7 / α)) * ((∑ j, 2 * G i j * w j) * (7 / α))
      + ρ * ∑ i, z i * ((∑ j, (if i < j then 2 * (ρ * G i j) else if i = j then ρ * G i j else 0) * z j) - (∑ j, 2 * G i j * w j) * (7 / α))))
    = ∑ j, (w j - z j * (ρ * α / 7)) * ∑ i, G i j * (w i - z i * (ρ * α / 7)) := by
  have h1 : ∑ i, (w i * (7 / α)) * ((∑ j, 2 * G i j * w j) * (7 / α)) = 2 * (7 / α) ^ 2 * ∑ i, ∑ j, w i * G i j * w j := by
    simp only [Finset.mul_sum, Finset.sum_mul]
    refine Finset.sum_congr rfl fun i _ => Finset.sum_congr rfl fun j _ => ?_
    ring
  have h2 : ∑ i, z i * ((∑ j, (if i < j then 2 * (ρ * G i j) else if i = j then ρ * G i j else 0) * z j) - (∑ j, 2 * G i j * w j) * (7 / α))
      = ρ * ∑ i, ∑ j, z i * G i j * z j - 2 * (7 / α) * ∑ i, ∑ j, z i * G i j * w j := by
    rw [← tri G hG z ρ]
    simp only [mul_sub, Finset.sum_sub_distrib]
    congr 1
    simp only [Finset.mul_sum, Finset.sum_mul]
    refine Finset.sum_congr rfl fun i _ => Finset.sum_congr rfl fun j _ => ?_
    ring
  have h3 : ∑ j, (w j - z j * (ρ * α / 7)) * ∑ i, G i j * (w i - z i * (ρ * α / 7))
      = ∑ i, ∑ j, w i * G i j * w j - 2 * (ρ * α / 7) * ∑ i, ∑ j, z i * G i j * w j + (ρ * α / 7) ^ 2 * ∑ i, ∑ j, z i * G i j * z j := by
    have e : ∑ i, ∑ j, z i * G i j * w j = ∑ i, ∑ j, w i * G i j * z j := by
      rw [Finset.sum_comm]
      refine Finset.sum_congr rfl fun i _ => Finset.sum_congr rfl fun j _ => ?_
      rw [hG j i]; ring
    have e' : 2 * (ρ * α / 7) * ∑ i, ∑ j, z i * G i j * w j = (ρ * α / 7) * ∑ i, ∑ j, z i * G i j * w j + (ρ * α / 7) * ∑ i, ∑ j, w i * G i j * z j := by
      rw [← e]; ring
    rw [e']
    simp only [Finset.mul_sum, ← Finset.sum_add_distrib, ← Finset.sum_sub_distrib]
    refine Finset.sum_congr rfl fun i _ => Finset.sum_congr rfl fun j _ => ?_
    rw [hG j i]; ring
  rw [h1, h2, h3]
  field_simp
  ring

end Cert.KernelIdeal.Gen
-- ==== Proof.PI.Forms.lean ====
/- The kernel's tables and loss terms over real inputs. -/
module

public import proofs.«01_k».proof.Proof.PI.Real
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL.Sem
open Cert.ReferenceIdeal.Value (ratio amax scaleOf clipOf colR wfR_ix out0 out1 out2 out0_ix out1_ix out2_ix qR errR gramR xfR qR_ix errR_ix gramR_ix xfR_ix)

variable (m : (ℓ : Loc nD τ sig) → Buf (Elt Ideal) ℓ)

theorem slt_nat (i j : Fin 128) (x y : EReal) : Scalar.select (IntOp.cmpi .slt (BitVec.ofNat 32 i.val) (BitVec.ofNat 32 j.val)) x y = if i < j then x else y := by
  have hi := i.isLt
  have hj := j.isLt
  have e : (BitVec.ofNat 32 i.val).slt (BitVec.ofNat 32 j.val) = decide (i < j) := by
    rw [BitVec.slt, BitVec.toInt_ofNat', BitVec.toInt_ofNat']
    apply decide_eq_decide.mpr
    rw [Fin.lt_def]
    simp [Int.bmod]
    omega
  unfold Scalar.select IntOp.cmpi
  simp only [e]
  by_cases h : i < j <;> simp [h]

theorem eq_nat (i j : Fin 128) (x y : EReal) : Scalar.select (IntOp.cmpi .eq (BitVec.ofNat 32 i.val) (BitVec.ofNat 32 j.val)) x y = if i = j then x else y := by
  have hi := i.isLt
  have hj := j.isLt
  have e : (BitVec.ofNat 32 i.val = BitVec.ofNat 32 j.val) ↔ i = j := by
    constructor
    · intro h
      have := congrArg BitVec.toNat h
      rw [BitVec.toNat_ofNat, BitVec.toNat_ofNat] at this
      exact Fin.ext (by omega)
    · intro h; rw [h]
  have e' : (BitVec.ofNat 32 i.val == BitVec.ofNat 32 j.val) = decide (i = j) := by
    rw [Bool.eq_iff_iff, beq_iff_eq, decide_eq_true_iff, e]
  unfold Scalar.select IntOp.cmpi
  simp only [e']
  by_cases h : i = j <;> simp [h]

theorem sub_real (x : ℝ) : ((x : ℝ) : EReal) - ((x : ℝ) : EReal) = 0 := by
  rw [← EReal.coe_sub, sub_self]; rfl

theorem gram_at (v : Vec Ideal S256x128 .bf16) (X : Fin 256 → Fin 128 → ℝ) (hX : ∀ r i, v (ix2 r i) = ((X r i : ℝ) : EReal)) (i j : Fin 128) :
    k0_pay1 v (ix2 i j) = ((∑ r, X r i * X r j : ℝ) : EReal) := by
  rw [pay1_at, ← coe_sum]
  refine Finset.sum_congr rfl fun r _ => ?_
  rw [hX, hX, EReal.coe_mul]

/-- An entry of the table of the ratio ρ: twice the form above the diagonal, itself on it. -/
def upper (G : Fin 128 → Fin 128 → ℝ) (ρ : ℝ) (i j : Fin 128) : ℝ := if i < j then 2 * (ρ * G i j) else if i = j then ρ * G i j else 0

theorem pay21_real (H : FVec Ideal S128x128 .f32) (G : Fin 128 → Fin 128 → ℝ) (hG : ∀ i j, H (ix2 i j) = ((G i j : ℝ) : EReal)) (ρ : ℝ) (i j : Fin 128) :
    k0_pay21 H bodyRunTT.sl.v10 bodyRunTT.sl.v11 (ρ : EReal) (ix4 0 0 i j) = ((upper G ρ i j : ℝ) : EReal) := by
  rw [pay21_at, pay17_at, pay20_at, hG, k_two, ← EReal.coe_mul, sub_real, sub_zero, mul_zero, slt_nat, eq_nat, ← EReal.coe_mul]
  unfold upper
  split
  · rfl
  · split <;> rfl

theorem pay22_real (H : FVec Ideal S128x128 .f32) (G : Fin 128 → Fin 128 → ℝ) (hG : ∀ i j, H (ix2 i j) = ((G i j : ℝ) : EReal)) (ρ : ℝ) (i j : Fin 128) :
    k0_pay22 H bodyRunTT.sl.v10 bodyRunTT.sl.v11 (ρ : EReal) (ix4 0 0 i j) = 0 := by
  rw [pay22_at, pay19_at, hG, ← EReal.coe_mul, sub_real, mul_zero, sel0, sel0]

theorem dtab_zero (v : Vec Ideal S256x128 .bf16) (G : Fin 128 → Fin 128 → ℝ) (hG : ∀ i j, k0_pay1 v (ix2 i j) = ((G i j : ℝ) : EReal)) (ρ ρ' : ℝ) (s : Fin 16) (j : Fin 256) :
    dtabV v (ρ : EReal) (ρ' : EReal) (ix4 0 0 s j) = 0 := by
  unfold dtabV
  refine pay12_at _ _ (fun s j => pay24_at _ s j fun i => ?_) (fun i j => ?_) s j
  · rw [pay20_at, hG, ← EReal.coe_mul, sub_real, sub_zero]
  · rw [pay29_at, hG, ← EReal.coe_mul, sub_real, sub_zero]

theorem M_lo (c : Dev nD) (g : Fin 16) (k : Fin 20) (G : Fin 128 → Fin 128 → ℝ) (hG : ∀ i j, k0_pay1 (xB m c g) (ix2 i j) = ((G i j : ℝ) : EReal)) (ρ : ℝ) (hr : Rv m c k = (ρ : EReal)) (i j : Fin 128) :
    mR (T9f m c) g k (ix4 0 0 ⟨i.val, by omega⟩ ⟨j.val, by omega⟩) = ((upper G ρ i j : ℝ) : EReal) := by
  have hi := i.isLt
  have hj := j.isLt
  rw [← pay21_real (k0_pay1 (xB m c g)) G hG ρ i j, ← hr]
  unfold mR T9f G9
  exact tabV_lo _ _ _ _ (ix4 0 0 i j) rfl rfl

theorem M_hi (c : Dev nD) (g : Fin 16) (k : Fin 20) (G : Fin 128 → Fin 128 → ℝ) (hG : ∀ i j, k0_pay1 (xB m c g) (ix2 i j) = ((G i j : ℝ) : EReal)) (ρ : ℝ) (hr : Rv m c k = (ρ : EReal)) (i j : Fin 128) :
    mR (T9f m c) g k (ix4 0 0 ⟨i.val, by omega⟩ ⟨128 + j.val, by omega⟩) = 0 := by
  have hi := i.isLt
  have hj := j.isLt
  rw [← pay22_real (k0_pay1 (xB m c g)) G hG ρ i j, ← hr]
  unfold mR T9f G9
  exact tabV_hi _ _ _ _ (ix4 0 0 i j) rfl rfl

theorem D_zero (c : Dev nD) (g : Fin 16) (jj : Fin 10) (G : Fin 128 → Fin 128 → ℝ) (hG : ∀ i j, k0_pay1 (xB m c g) (ix2 i j) = ((G i j : ℝ) : EReal)) (s : Fin 16) (j : Fin 256) :
    dR (T10f m c) g jj (ix4 0 0 s j) = 0 := by
  have hj := jj.isLt
  obtain ⟨ρ, hρ⟩ := ratio_real ⟨2 * jj.val, by omega⟩
  obtain ⟨ρ', hρ'⟩ := ratio_real ⟨2 * jj.val + 1, by omega⟩
  rw [← dtab_zero (xB m c g) G hG ρ ρ' s j, ← hρ, ← hρ', ← Rv_at m c, ← Rv_at m c]
  unfold dR T10f G10
  rw [← vx4]
  rfl

theorem G11_a (v : Vec Ideal S256x128 .bf16) (y : S16x128x384.Idx) (x : S1x128x128.Idx) (h1 : (y 1).val = (x 1).val) (h2 : (y 2).val = (x 2).val) : G11 v y = k0_pay6 v x := by
  have hx : (x 2).val < 128 := (x 2).isLt
  have hx0 : (x 0).val < 1 := (x 0).isLt
  unfold G11
  rw [if_pos (by omega)]
  refine congrArg (k0_pay6 v) ?_
  funext d
  match d with
  | ⟨0, _⟩ => exact Fin.ext (by show 0 = (x 0).val; omega)
  | ⟨1, _⟩ => exact Fin.ext h1
  | ⟨2, _⟩ => exact Fin.ext (by show (y 2).val % 128 = (x 2).val; omega)

theorem G11_b (v : Vec Ideal S256x128 .bf16) (y : S16x128x384.Idx) (x : S1x128x128.Idx) (h1 : (y 1).val = (x 1).val) (h2 : (y 2).val = 128 + (x 2).val) : G11 v y = k0_pay7 v x := by
  have hx : (x 2).val < 128 := (x 2).isLt
  have hx0 : (x 0).val < 1 := (x 0).isLt
  unfold G11
  rw [if_neg (by omega), if_pos (by omega)]
  refine congrArg (k0_pay7 v) ?_
  funext d
  match d with
  | ⟨0, _⟩ => exact Fin.ext (by show 0 = (x 0).val; omega)
  | ⟨1, _⟩ => exact Fin.ext h1
  | ⟨2, _⟩ => exact Fin.ext (by show (y 2).val % 128 = (x 2).val; omega)

theorem G11_c (v : Vec Ideal S256x128 .bf16) (y : S16x128x384.Idx) (x : S1x128x128.Idx) (h1 : (y 1).val = (x 1).val) (h2 : (y 2).val = 256 + (x 2).val) : G11 v y = k0_pay8 v x := by
  have hx : (x 2).val < 128 := (x 2).isLt
  have hx0 : (x 0).val < 1 := (x 0).isLt
  unfold G11
  rw [if_neg (by omega), if_neg (by omega)]
  refine congrArg (k0_pay8 v) ?_
  funext d
  match d with
  | ⟨0, _⟩ => exact Fin.ext (by show 0 = (x 0).val; omega)
  | ⟨1, _⟩ => exact Fin.ext h1
  | ⟨2, _⟩ => exact Fin.ext (by show (y 2).val % 128 = (x 2).val; omega)

theorem ha_lo (c : Dev nD) (g : Fin 16) (G : Fin 128 → Fin 128 → ℝ) (hG : ∀ i j, k0_pay1 (xB m c g) (ix2 i j) = ((G i j : ℝ) : EReal)) (i j : Fin 128) :
    haR (T11f m c) g (ix3 0 i ⟨j.val, by omega⟩) = ((2 * G i j : ℝ) : EReal) := by
  rw [EReal.coe_mul, ← k_two, ← hG, ← pay6_at]
  unfold haR T11f
  exact G11_a _ _ _ rfl rfl

theorem ha_hi (c : Dev nD) (g : Fin 16) (G : Fin 128 → Fin 128 → ℝ) (hG : ∀ i j, k0_pay1 (xB m c g) (ix2 i j) = ((G i j : ℝ) : EReal)) (i j : Fin 128) :
    haR (T11f m c) g (ix3 0 i ⟨128 + j.val, by omega⟩) = 0 := by
  have e : k0_pay7 (xB m c g) (ix3 0 i j) = 0 := by
    rw [pay7_at, hG, k_two, ← EReal.coe_mul, sub_real]
  rw [← e]
  unfold haR T11f
  exact G11_b _ _ _ rfl rfl

theorem hb_zero (c : Dev nD) (g : Fin 16) (G : Fin 128 → Fin 128 → ℝ) (hG : ∀ i j, k0_pay1 (xB m c g) (ix2 i j) = ((G i j : ℝ) : EReal)) (i j : Fin 128) :
    hbR (T11f m c) g (ix3 0 i j) = 0 := by
  have e : k0_pay8 (xB m c g) (ix3 0 i j) = 0 := by
    rw [pay8_at, hG, k_two, ← EReal.coe_mul, sub_real, sub_zero]
  rw [← e]
  unfold hbR T11f
  exact G11_c _ _ _ rfl rfl

/-- The table's product with a column of codes. -/
theorem pay48_real (q : FVec Ideal S128x256 .bf16) (M : Vec Ideal S1x1x160x256 .bf16) (U : Fin 128 → Fin 128 → ℝ) (z : Fin 128 → ℝ) (l : Fin 256)
    (hq : ∀ i, q (ix2 i l) = ((z i : ℝ) : EReal)) (hlo : ∀ i j : Fin 128, M (ix4 0 0 ⟨i.val, by omega⟩ ⟨j.val, by omega⟩) = ((U i j : ℝ) : EReal)) (hhi : ∀ i j : Fin 128, M (ix4 0 0 ⟨i.val, by omega⟩ ⟨128 + j.val, by omega⟩) = 0) (i : Fin 128) :
    k0_pay48 q M (ix2 ⟨i.val, by omega⟩ l) = ((∑ j, U i j * z j : ℝ) : EReal) := by
  rw [pay48_at, sum256, ← coe_sum]
  refine Eq.trans (congrArg₂ (· + ·) (Finset.sum_congr rfl fun j _ => ?_) (Finset.sum_eq_zero fun j _ => ?_)) (add_zero _)
  · rw [hlo, dif_pos j.isLt, hq, EReal.coe_mul]
  · rw [hhi, zero_mul]

/-- The product of the doubled form with a column of weights, over the column's scale. -/
theorem pay37_real (w : Vec Ideal S128x256 .bf16) (ha : Vec Ideal S1x128x256 .bf16) (hb : Vec Ideal S1x128x128 .bf16) (G : Fin 128 → Fin 128 → ℝ) (W : Fin 128 → ℝ) (ι : ℝ) (l : Fin 256)
    (hw : ∀ i, w (ix2 i l) = ((W i : ℝ) : EReal)) (hι : k0_pay36 w (ix2 0 l) = ((ι : ℝ) : EReal))
    (h1 : ∀ i j : Fin 128, ha (ix3 0 i ⟨j.val, by omega⟩) = ((2 * G i j : ℝ) : EReal)) (h2 : ∀ i j : Fin 128, ha (ix3 0 i ⟨128 + j.val, by omega⟩) = 0) (h3 : ∀ i j, hb (ix3 0 i j) = 0) (i : Fin 128) :
    k0_pay37 w ha hb (ix2 i l) = (((∑ j, 2 * G i j * W j) * ι : ℝ) : EReal) := by
  rw [pay37_at, sum256, hι, EReal.coe_mul, ← coe_sum]
  refine congrArg (· * ((ι : ℝ) : EReal)) ?_
  refine Eq.trans (congrArg₂ (· + ·) (congrArg₂ (· + ·) (Finset.sum_congr rfl fun j _ => ?_) (Finset.sum_eq_zero fun j _ => ?_)) (Finset.sum_eq_zero fun j _ => ?_)) ((add_zero _).trans (add_zero _))
  · rw [h1, dif_pos j.isLt, hw]
    exact (EReal.coe_mul (2 * G i j) (W j)).symm
  · rw [h2, zero_mul]
  · rw [h3, zero_mul]

/-- The constant term. -/
theorem pay40_real (w : Vec Ideal S128x256 .bf16) (ha : Vec Ideal S1x128x256 .bf16) (hb : Vec Ideal S1x128x128 .bf16) (W h : Fin 128 → ℝ) (ι : ℝ) (l : Fin 256)
    (hw : ∀ i, w (ix2 i l) = ((W i : ℝ) : EReal)) (hι : k0_pay36 w (ix2 0 l) = ((ι : ℝ) : EReal)) (hh : ∀ i, k0_pay37 w ha hb (ix2 i l) = ((h i : ℝ) : EReal)) :
    k0_pay40 (k0_pay39 w ha hb) (ix2 0 l) = ((1 / 2 * ∑ i, (W i * ι) * h i : ℝ) : EReal) := by
  rw [pay40_at, k_half, EReal.coe_mul, ← coe_sum]
  refine congrArg (((1 / 2 : ℝ) : EReal) * ·) (Finset.sum_congr rfl fun i _ => ?_)
  rw [pay39_at, hw, hι, hh, EReal.coe_mul, EReal.coe_mul]

/-- A row of the accumulator of a ratio. -/
theorem accW_real (R : Fin 20 → EReal) (M : Fin 20 → Vec Ideal S1x1x160x256 .bf16) (D : Fin 10 → Vec Ideal S1x1x16x256 .bf16) (kk : Fin 20)
    (a : FVec Ideal S1x256 .f32) (wf hw : Vec Ideal S128x256 .f32) (U : Fin 128 → Fin 128 → ℝ) (z h : Fin 128 → ℝ) (s : Fin 8) (l : Fin 256)
    (hq : ∀ i, k0_pay42 a (R kk) wf (ix2 i l) = ((z i : ℝ) : EReal))
    (hlo : ∀ i j : Fin 128, M kk (ix4 0 0 ⟨i.val, by omega⟩ ⟨j.val, by omega⟩) = ((U i j : ℝ) : EReal)) (hhi : ∀ i j : Fin 128, M kk (ix4 0 0 ⟨i.val, by omega⟩ ⟨128 + j.val, by omega⟩) = 0)
    (hD : ∀ jj s j, D jj (ix4 0 0 s j) = 0) (hh : ∀ i, hw (ix2 i l) = ((h i : ℝ) : EReal)) :
    accW R M D kk a wf hw (ix3 0 s l) = ((∑ b : Fin 16, z ⟨b.val * 8 + s.val, by omega⟩ * ((∑ j, U ⟨b.val * 8 + s.val, by omega⟩ j * z j) - h ⟨b.val * 8 + s.val, by omega⟩) : ℝ) : EReal) := by
  have hq' : ∀ i, k0_pay41 a (R kk) wf (ix2 i l) = ((z i : ℝ) : EReal) := hq
  have h48 := pay48_real (k0_pay42 a (R kk) wf) (M kk) U z l hq hlo hhi
  have main : ∀ e : EReal, e = 0 → (∑ b : Fin 16, k0_pay41 a (R kk) wf (ix2 ⟨b.val * 8 + s.val, by omega⟩ l) * (k0_pay48 (k0_pay42 a (R kk) wf) (M kk) (ix2 ⟨b.val * 8 + s.val, by omega⟩ l) - hw (ix2 ⟨b.val * 8 + s.val, by omega⟩ l))) + e
      = ((∑ b : Fin 16, z ⟨b.val * 8 + s.val, by omega⟩ * ((∑ j, U ⟨b.val * 8 + s.val, by omega⟩ j * z j) - h ⟨b.val * 8 + s.val, by omega⟩) : ℝ) : EReal) := by
    intro e he
    rw [he, add_zero, ← coe_sum]
    refine Finset.sum_congr rfl fun b _ => ?_
    rw [hq', hh, EReal.coe_mul, EReal.coe_sub, ← h48 ⟨b.val * 8 + s.val, by omega⟩]
  unfold accW
  split
  · unfold accV0
    rw [pay50_at]
    exact main _ (pay47_at _ _ _ _ _ (hD _) _ _)
  · unfold accV1
    rw [pay54_at]
    exact main _ (pay47_at _ _ _ _ _ (hD _) _ _)

end Cert.KernelIdeal.Gen
-- ==== Proof.PI.Loss.lean ====
/- The kernel's loss is the reference's when every input is finite. -/
module

public import proofs.«01_k».proof.Proof.PI.Forms
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL.Sem
open Cert.ReferenceIdeal.Value (ratio amax scaleOf clipOf colR wfR_ix out0 out1 out2 out0_ix out1_ix out2_ix qR errR gramR xfR qR_ix errR_ix gramR_ix xfR_ix)

variable (m : (ℓ : Loc nD τ sig) → Buf (Elt Ideal) ℓ)

/-- The scale's inverse at ratio 1. -/
theorem pay36_real (w : Vec Ideal S128x256 .bf16) (W : Fin 128 → EReal) (α : ℝ) (l : Fin 256) (hw : (fun i => w (ix2 i l)) = W) (hα : amax W = (α : EReal)) :
    k0_pay36 w (ix2 0 l) = ((7 / (if α = 0 then 1 else α) : ℝ) : EReal) := by
  rw [pay36_at, pay34_at, hw, hα, sel_zero, k_7]
  have e : (if α = 0 then (1 : EReal) else (α : EReal)) = ((if α = 0 then 1 else α : ℝ) : EReal) := by split <;> simp
  rw [e, div_coe _ _ (by split <;> simp_all)]

theorem T14f_at (c : Dev nD) (ob : ℕ) (k : Fin 20) (g : Fin 16) (s : Fin 8) (l : Fin 512) :
    row14 (T14f m c ob) k (ix3 0 ⟨g.val * 8 + s.val, by omega⟩ l)
    = accW (Rv m c) (mR (T9f m c) g) (dR (T10f m c) g) k (k0_pay34 (wbk (wB m c (pt ob g)) (lb l))) (k0_pay33 (wbk (wB m c (pt ob g)) (lb l)))
        (k0_pay38 (wbk (wB m c (pt ob g)) (lb l)) (haR (T11f m c) g) (hbR (T11f m c) g)) (ix3 0 s (ll l)) := by
  have hg := g.isLt
  have hs := s.isLt
  have e1 : g8 ⟨g.val * 8 + s.val, by omega⟩ = g := Fin.ext (by unfold g8; simp only []; omega)
  have e2 : sub8 ⟨g.val * 8 + s.val, by omega⟩ = s := Fin.ext (by unfold sub8; simp only []; omega)
  have key : ∀ (r : Fin 128) (g' : Fin 16) (s' : Fin 8), g8 r = g' → sub8 r = s' → row14 (T14f m c ob) k (ix3 0 r l)
    = accW (Rv m c) (mR (T9f m c) g') (dR (T10f m c) g') k (k0_pay34 (wbk (wB m c (pt ob g')) (lb l))) (k0_pay33 (wbk (wB m c (pt ob g')) (lb l)))
        (k0_pay38 (wbk (wB m c (pt ob g')) (lb l)) (haR (T11f m c) g') (hbR (T11f m c) g')) (ix3 0 s' (ll l)) := by
    intro r g' s' h1 h2
    subst h1
    subst h2
    rw [← vx3 (0 : Fin 1) (sub8 r) (ll l)]
    rfl
  exact key _ _ _ e1 e2

theorem T13f_at (c : Dev nD) (ob : ℕ) (g : Fin 16) (l : Fin 512) :
    T13f m c ob (ix2 g l) = k0_pay40 (k0_pay39 (wbk (wB m c (pt ob g)) (lb l)) (haR (T11f m c) g) (hbR (T11f m c) g)) (ix2 0 (ll l)) := by
  unfold T13f cGy cG
  rw [vx2]
  rfl

/-- A column's loss over real inputs. -/
theorem loss_col (c : Dev nD) (k : Fin 20) (g : Fin 16) (n : Fin 5632) (G : Fin 128 → Fin 128 → ℝ) (hG : ∀ i j, k0_pay1 (xB m c g) (ix2 i j) = ((G i j : ℝ) : EReal))
    (W : Fin 128 → ℝ) (hW : ∀ i, colR (m ((c : Thread nD τ).loc main_arg1)) g n i = ((W i : ℝ) : EReal)) (α ρ : ℝ) (hα : amax (colR (m ((c : Thread nD τ).loc main_arg1)) g n) = (α : EReal))
    (hρ : ratio k = (ρ : EReal)) (z : Fin 128 → ℝ) (hz : ∀ i, clipOf (colR (m ((c : Thread nD τ).loc main_arg1)) g n i) (scaleOf (amax (colR (m ((c : Thread nD τ).loc main_arg1)) g n)) (ratio k)) = ((z i : ℝ) : EReal)) :
    lossR m c (ix3 k g n) = ((α / 7 * (α / 7 * (1 / 2 * ∑ i, (W i * (7 / (if α = 0 then 1 else α))) * ((∑ j, 2 * G i j * W j) * (7 / (if α = 0 then 1 else α)))
      + ρ * ∑ i, z i * ((∑ j, upper G ρ i j * z j) - (∑ j, 2 * G i j * W j) * (7 / (if α = 0 then 1 else α))))) : ℝ) : EReal) := by
  let l : Fin 512 := ⟨n.val % 512, Nat.mod_lt _ (by decide)⟩
  let B := wbk (wB m c (pt (n.val / 512) g)) (lb l)
  have hB : (fun i => B (ix2 i (ll l))) = colR (m ((c : Thread nD τ).loc main_arg1)) g n :=
    (funext fun i => wbk_at _ l i).trans (col_at m c g n)
  have hB' : ∀ i, B (ix2 i (ll l)) = ((W i : ℝ) : EReal) := fun i => (congrFun hB i).trans (hW i)
  have h36 := pay36_real B _ α (ll l) hB hα
  have h37 := pay37_real B (haR (T11f m c) g) (hbR (T11f m c) g) G W _ (ll l) hB' h36 (ha_lo m c g G hG) (ha_hi m c g G hG) (hb_zero m c g G hG)
  have h40 := pay40_real B (haR (T11f m c) g) (hbR (T11f m c) g) W _ _ (ll l) hB' h36 h37
  have hq : ∀ i, k0_pay42 (k0_pay34 B) (Rv m c k) (k0_pay33 B) (ix2 i (ll l)) = ((z i : ℝ) : EReal) := by
    intro i
    rw [qV_at, pay33_at, pay34_at, Rv_at, hB, ← hz i, ← hB]
  have hacc := fun s => accW_real (Rv m c) (mR (T9f m c) g) (dR (T10f m c) g) k (k0_pay34 B) (k0_pay33 B) (k0_pay38 B (haR (T11f m c) g) (hbR (T11f m c) g)) (upper G ρ) z _ s (ll l) hq
    (M_lo m c g k G hG ρ ((Rv_at m c k).trans hρ)) (M_hi m c g k G hG ρ ((Rv_at m c k).trans hρ)) (fun jj => D_zero m c g jj G hG) (fun i => (pay38_eq _ _ _ i _).trans (h37 i))
  refine Eq.trans (b := k0_pay15 (T12f m c (n.val / 512)) (row14 (T14f m c (n.val / 512)) k) (T13f m c (n.val / 512)) (Rv m c k) (ix3 0 g l)) ?_ ?_
  · rw [← vx3]; rfl
  · rw [pay15_at, T12f_at, T13f_at, Rv_at, hα, hρ, k_7, div_coe _ _ (by norm_num)]
    have hs : ∑ s : Fin 8, row14 (T14f m c (n.val / 512)) k (ix3 0 ⟨g.val * 8 + s.val, by omega⟩ l)
        = ((∑ i, z i * ((∑ j, upper G ρ i j * z j) - (∑ j, 2 * G i j * W j) * (7 / (if α = 0 then 1 else α))) : ℝ) : EReal) := by
      rw [← sum128 (fun i => z i * ((∑ j, upper G ρ i j * z j) - (∑ j, 2 * G i j * W j) * (7 / (if α = 0 then 1 else α)))), ← coe_sum]
      refine Finset.sum_congr rfl fun s _ => ?_
      rw [T14f_at]
      exact hacc s
    rw [hs]
    rw [EReal.coe_mul, EReal.coe_mul, EReal.coe_add, EReal.coe_mul ρ]
    refine congrArg (fun e : EReal => ((α / 7 : ℝ) : EReal) * (((α / 7 : ℝ) : EReal) * (e + _))) ?_
    exact h40

/-- A value that is neither infinity. -/
def IsReal (v : EReal) : Prop := v ≠ ⊤ ∧ v ≠ ⊥

/-- The losses are the reference's when every input is finite. -/
theorem lossR_eq (c : Dev nD) (hx : ∀ i, IsReal (m ((c : Thread nD τ).loc main_arg0) i))
    (hw : ∀ i, IsReal (m ((c : Thread nD τ).loc main_arg1) i)) :
    lossR m c = out0 (m ((c : Thread nD τ).loc main_arg0)) (m ((c : Thread nD τ).loc main_arg1)) := by
  have key : ∀ (k : Fin 20) (g : Fin 16) (n : Fin 5632), lossR m c (ix3 k g n) = out0 (m ((c : Thread nD τ).loc main_arg0)) (m ((c : Thread nD τ).loc main_arg1)) (ix3 k g n) := by
    intro k g n
    have hg := g.isLt
    let X : Fin 256 → Fin 128 → ℝ := fun r i => (m ((c : Thread nD τ).loc main_arg0) (ix3 0 r ⟨g.val * 128 + i.val, by omega⟩) : EReal).toReal
    have hX : ∀ r (i : Fin 128), (m ((c : Thread nD τ).loc main_arg0) (ix3 0 r ⟨g.val * 128 + i.val, by omega⟩) : EReal) = ((X r i : ℝ) : EReal) :=
      fun r i => (EReal.coe_toReal (hx _).1 (hx _).2).symm
    let G : Fin 128 → Fin 128 → ℝ := fun i j => ∑ r, X r i * X r j
    have hG := gram_at (xB m c g) X (fun r i => (xB_at m c g r i _ rfl).trans (hX r i))
    have hGs : ∀ i j, G i j = G j i := fun i j => Finset.sum_congr rfl fun r _ => mul_comm _ _
    have hgram : ∀ i j, gramR (m ((c : Thread nD τ).loc main_arg0)) (ix3 g i j) = ((G i j : ℝ) : EReal) := by
      intro i j
      rw [gramR_ix, ← coe_sum]
      refine Finset.sum_congr rfl fun r _ => ?_
      rw [xfR_ix, xfR_ix, hX, hX, EReal.coe_mul]
    let W : Fin 128 → ℝ := fun i => (colR (m ((c : Thread nD τ).loc main_arg1)) g n i).toReal
    have hW : ∀ i, colR (m ((c : Thread nD τ).loc main_arg1)) g n i = ((W i : ℝ) : EReal) := by
      intro i
      refine (EReal.coe_toReal ?_ ?_).symm
      · unfold colR; rw [wfR_ix]; exact (hw _).1
      · unfold colR; rw [wfR_ix]; exact (hw _).2
    obtain ⟨α, hα, hα0⟩ := amax_real W
    rw [← funext hW] at hα
    obtain ⟨ρ, hρ⟩ := ratio_real k
    choose z z1 z2 z3 using fun i => clip_int (colR (m ((c : Thread nD τ).loc main_arg1)) g n i) (scaleOf (amax (colR (m ((c : Thread nD τ).loc main_arg1)) g n)) (ratio k))
    have herr : ∀ i, errR (m ((c : Thread nD τ).loc main_arg1)) (ix4 g n k i) = ((W i - (z i : ℝ) * (if α = 0 then 1 else ρ * α / 7) : ℝ) : EReal) := by
      intro i
      have hzi : (BitVec.ofInt 32 (z i)).toInt = z i := by
        rw [BitVec.toInt_ofInt]
        have := z1 i
        have := z2 i
        simp [Int.bmod]
        omega
      rw [errR_ix, qR_ix, z3, fptosi_int _ (by have := z1 i; omega) (by have := z2 i; omega),
        show FloatOps.sitofp (F := Ideal) FTy.f32 (BitVec.ofInt 32 (z i)) = (((BitVec.ofInt 32 (z i)).toInt : ℝ) : EReal) from rfl, hzi, hW, hα, hρ, scale_real, EReal.coe_sub, EReal.coe_mul]
    rw [loss_col m c k g n G hG W hW α ρ hα hρ (fun i => (z i : ℝ)) z3, out0_ix]
    have hout : ∑ j, errR (m ((c : Thread nD τ).loc main_arg1)) (ix4 g n k j) * ∑ i, gramR (m ((c : Thread nD τ).loc main_arg0)) (ix3 g i j) * errR (m ((c : Thread nD τ).loc main_arg1)) (ix4 g n k i)
        = ((∑ j, (W j - (z j : ℝ) * (if α = 0 then 1 else ρ * α / 7)) * ∑ i, G i j * (W i - (z i : ℝ) * (if α = 0 then 1 else ρ * α / 7)) : ℝ) : EReal) := by
      rw [← coe_sum]
      refine Finset.sum_congr rfl fun j _ => ?_
      rw [herr j, EReal.coe_mul, ← coe_sum]
      congr 1
      refine Finset.sum_congr rfl fun i _ => ?_
      rw [herr i, hgram, EReal.coe_mul]
    rw [hout]
    refine congrArg Real.toEReal ?_
    by_cases h : α = 0
    · have hz0 : ∀ i, z i = 0 := by
        intro i
        have e := z3 i
        rw [hα, hρ, scale_real, if_pos h, hW, hα0 h i] at e
        rw [show ((0 : ℝ) : EReal) = 0 from rfl, show ((1 : ℝ) : EReal) = 1 from rfl, clip_zero] at e
        have e' : ((0 : ℝ) : EReal) = (((z i : ℤ) : ℝ) : EReal) := e
        exact_mod_cast (EReal.coe_injective e').symm
      simp [h, hz0, hα0 h]
    · simp only [if_neg h]
      exact real_loss G hGs W (fun i => (z i : ℝ)) α ρ h
  funext y
  have e : y = ix3 (n0 := 20) (n1 := 16) (n2 := 5632) (y 0) (y 1) (y 2) := by funext d; fin_cases d <;> rfl
  rw [e]
  exact key _ _ _

/-- A value whose magnitude is below the infinity is neither infinity. -/
theorem isReal_of_lt (v : EReal) (h : FloatOps.cmpf (F := Ideal) (φ := .bf16) .olt (max v (-v)) (Ideal.ofBits .bf16 0x7F80#16) = 1#1) : IsReal v := by
  have hinf : Ideal.ofBits FTy.bf16 0x7F80#16 = ⊤ := by
    simp [Ideal.ofBits, Ideal.ieee, -EReal.coe_mul]
  rw [hinf] at h
  have h' : max v (-v) < ⊤ := by
    by_contra hn
    have e : FloatOps.cmpf (F := Ideal) (φ := .bf16) .olt (max v (-v)) ⊤ = 0#1 := by
      show BitVec.ofBool (decide (max v (-v) < ⊤)) = 0#1
      rw [decide_eq_false hn]; rfl
    rw [e] at h
    exact absurd h (by decide)
  constructor
  · intro e; rw [e] at h'; simp at h'
  · intro e; rw [e] at h'; simp at h'

end Cert.KernelIdeal.Gen
-- ==== Proof.lean ====
module

public import proofs.«01_k».proof.Defs
public import proofs.«01_k».proof.Proof.P.Body
public import proofs.«01_k».proof.Proof.PI.Loss
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel ends with its arguments unchanged and its counters at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference, which declares no semaphore. -/
theorem frame_ri : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The side conditions the mask states. -/
theorem facts_on : Cert.On_codes_and_scale.Facts where
  bcast_S_S20x16x5632 := by decide
  bcast_S_S16x20x64x5632 := by decide

/-- Where the mask is true, which is at every entry of the codes and of the scales, the two programs' results agree. -/
theorem algebraic_on : Cert.algebraic_KernelIdeal_ReferenceIdeal_on_codes_and_scale (hOn_codes_and_scale := facts_on) := by
  intro m g m' g' _ hagree
  refine ⟨fun c => Cert.KernelIdeal.Gen.lossR m c, fun c => Cert.KernelIdeal.Gen.codesR m c, fun c => Cert.KernelIdeal.Gen.scaleR m c, ?_, ?_⟩
  · refine (θ_run Cert.KernelIdeal.defs _ _).mono (fun r h c => ?_) (Cert.KernelIdeal.Gen.run_arrays m g)
    obtain ⟨h0, h1, h2, h3, h4⟩ := h c
    exact ⟨fun i _ => congrFun h0 i, fun i _ => congrFun h1 i, fun i _ => congrFun h2 i, h3, h4⟩
  · refine (θ_run Cert.ReferenceIdeal.defs _ _).mono (fun r h c => ?_) (Cert.ReferenceIdeal.Value.run_out m' g')
    obtain ⟨h0, h1, h2, h3, h4⟩ := h c
    refine ⟨fun i hi => absurd (show (0#1 : BitVec 1) = 1#1 from hi) (by decide), fun i _ => ?_, fun i _ => ?_, h3, h4⟩
    · rw [h1, (hagree c).2]; exact (congrFun (Cert.KernelIdeal.Gen.codesR_eq m c) i).symm
    · rw [h2, (hagree c).2]; exact (congrFun (Cert.KernelIdeal.Gen.scaleR_eq m c) i).symm

/-- The side conditions the precondition states. -/
theorem facts_pre : Cert.Pre_finite.Facts where
  bcast_S_S1x256x2048 := by decide
  bcast_S_S2048x5632 := by decide

/-- The frames hold whatever the arguments, so also under the precondition. -/
theorem frame_pi_finite : Cert.quiescent_KernelIdeal_pre_finite (hPre_finite := facts_pre) := fun m g _ => frame_pi m g trivial
theorem frame_ri_finite : Cert.quiescent_ReferenceIdeal_pre_finite (hPre_finite := facts_pre) := fun m g _ => frame_ri m g trivial

/-- The precondition says every entry of both arguments is finite. -/
theorem isReal_of_pre (m : (ℓ : Loc Cert.KernelIdeal.nD Cert.KernelIdeal.τ Cert.KernelIdeal.sig) → Buf (Elt Ideal) ℓ) (h : Cert.Pre_KernelIdeal_finite (hPre_finite := facts_pre) m) (c : Dev Cert.KernelIdeal.nD) :
    (∀ i, Cert.KernelIdeal.Gen.IsReal (m ((c.tc : Thread Cert.KernelIdeal.nD Cert.KernelIdeal.τ).loc Cert.KernelIdeal.main_arg0) i))
    ∧ (∀ i, Cert.KernelIdeal.Gen.IsReal (m ((c.tc : Thread Cert.KernelIdeal.nD Cert.KernelIdeal.τ).loc Cert.KernelIdeal.main_arg1) i)) :=
  ⟨fun i => Cert.KernelIdeal.Gen.isReal_of_lt _ (congrFun (h c).1 i), fun i => Cert.KernelIdeal.Gen.isReal_of_lt _ (congrFun (h c).2 i)⟩

/-- On finite arguments all three of the two programs' results agree. -/
theorem algebraic_finite : Cert.algebraic_KernelIdeal_ReferenceIdeal_pre_finite (hPre_finite := facts_pre) := by
  intro m g m' g' hpre hagree
  refine ⟨fun c => Cert.KernelIdeal.Gen.lossR m c, fun c => Cert.KernelIdeal.Gen.codesR m c, fun c => Cert.KernelIdeal.Gen.scaleR m c, ?_, ?_⟩
  · exact (θ_run Cert.KernelIdeal.defs _ _).mono (fun r h c => h c) (Cert.KernelIdeal.Gen.run_arrays m g)
  · refine (θ_run Cert.ReferenceIdeal.defs _ _).mono (fun r h c => ?_) (Cert.ReferenceIdeal.Value.run_out m' g')
    obtain ⟨h0, h1, h2, h3, h4⟩ := h c
    have hr := isReal_of_pre m hpre c
    refine ⟨?_, ?_, ?_, h3, h4⟩
    · rw [h0, (hagree c).1, (hagree c).2]; exact (Cert.KernelIdeal.Gen.lossR_eq m c hr.1 hr.2).symm
    · rw [h1, (hagree c).2]; exact (Cert.KernelIdeal.Gen.codesR_eq m c).symm
    · rw [h2, (hagree c).2]; exact (Cert.KernelIdeal.Gen.scaleR_eq m c).symm

theorem claim : Cert.Claim :=
  ⟨Cert.Kernel.Gen.facts, Cert.KernelIdeal.Gen.facts, Cert.ReferenceIdeal.Gen.facts, facts_pre, facts_on, frame_p, frame_pi, frame_pi_finite, frame_ri, frame_ri_finite, trivial, algebraic_on, algebraic_finite⟩

end Cert.Proof

end
